-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)) (v5 : (c : Dev Cert.Kernel2Ideal.nD) → Buf (Elt Ideal) ((c.tc : Thread Cert.Kernel2Ideal.nD Cert.Kernel2Ideal.τ).loc Cert.Kernel2Ideal.main_v22_5)) (v6 : (c : Dev Cert.Kernel2Ideal.nD) → Buf (Elt Ideal) ((c.tc : Thread Cert.Kernel2Ideal.nD Cert.Kernel2Ideal.τ).loc Cert.Kernel2Ideal.main_v22_6)) (v7 : (c : Dev Cert.Kernel2Ideal.nD) → Buf (Elt Ideal) ((c.tc : Thread Cert.Kernel2Ideal.nD Cert.Kernel2Ideal.τ).loc Cert.Kernel2Ideal.main_v22_7)) (v8 : (c : Dev Cert.Kernel2Ideal.nD) → Buf (Elt Ideal) ((c.tc : Thread Cert.Kernel2Ideal.nD Cert.Kernel2Ideal.τ).loc Cert.Kernel2Ideal.main_v22_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_v22_5) = v5 c
          ∧ r.2.mem ((c.tc : Thread Cert.Kernel2Ideal.nD Cert.Kernel2Ideal.τ).loc Cert.Kernel2Ideal.main_v22_6) = v6 c
          ∧ r.2.mem ((c.tc : Thread Cert.Kernel2Ideal.nD Cert.Kernel2Ideal.τ).loc Cert.Kernel2Ideal.main_v22_7) = v7 c
          ∧ r.2.mem ((c.tc : Thread Cert.Kernel2Ideal.nD Cert.Kernel2Ideal.τ).loc Cert.Kernel2Ideal.main_v22_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v84) = v2 c
          ∧ r.2.mem ((c.tc : Thread Cert.Reference2Ideal.nD Cert.Reference2Ideal.τ).loc Cert.Reference2Ideal.main_v85) = v3 c
          ∧ r.2.mem ((c.tc : Thread Cert.Reference2Ideal.nD Cert.Reference2Ideal.τ).loc Cert.Reference2Ideal.main_v86) = v4 c
          ∧ r.2.mem ((c.tc : Thread Cert.Reference2Ideal.nD Cert.Reference2Ideal.τ).loc Cert.Reference2Ideal.main_v87) = v5 c
          ∧ r.2.mem ((c.tc : Thread Cert.Reference2Ideal.nD Cert.Reference2Ideal.τ).loc Cert.Reference2Ideal.main_v88) = v6 c
          ∧ r.2.mem ((c.tc : Thread Cert.Reference2Ideal.nD Cert.Reference2Ideal.τ).loc Cert.Reference2Ideal.main_v89) = v7 c
          ∧ r.2.mem ((c.tc : Thread Cert.Reference2Ideal.nD Cert.Reference2Ideal.τ).loc Cert.Reference2Ideal.main_v90) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x4096x4x2x64 : Shape := ⟨5, ![4, 4096, 4, 2, 64]⟩
abbrev S4x4096x4x128 : Shape := ⟨4, ![4, 4096, 4, 128]⟩
abbrev S64 : Shape := ⟨1, ![64]⟩
abbrev S32x4 : Shape := ⟨2, ![32, 4]⟩
abbrev S_ : Shape := ⟨0, ![]⟩

class Facts : Prop where
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x4096x4x2x64 .f32) (main_arg1 : FVec F S4x4096x4x2x64 .f32) (main_arg2 : FVec F S4x4096x4x128 .f32) (main_arg3 : FVec F S64 .f32) (main_arg4 : FVec F S64 .f32) (main_arg5 : FVec F S64 .f32) (main_arg6 : FVec F S64 .f32) (main_arg7 : FVec F S32x4 .f32) : IVec S_ 1 :=
  let main_v0 : FVec F S4x4096x4x128 .f32 := Host.absf main_arg2
  let main_cst : FVec F S_ .f32 := constant S_ .f32 0x7F800000#32
  let main_v1 : FVec F S4x4096x4x128 .f32 := broadcastInDim S4x4096x4x128 ![] bcast_S_S4x4096x4x128 main_cst
  let main_v2 : IVec S4x4096x4x128 1 := cmpf .olt main_v0 main_v1
  let main_c : IVec S_ 1 := constantI S_ 1 1#1
  let main_v3 : IVec S_ 1 := (fun x v => Host.reduce IntOp.andi x v reducesTo_S4x4096x4x128_S_d0_1_2_3 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S4x4096x4x2x64 : Shape := ⟨5, ![4, 4096, 4, 2, 64]⟩
abbrev S4x4096x4x128 : Shape := ⟨4, ![4, 4096, 4, 128]⟩
abbrev S64 : Shape := ⟨1, ![64]⟩
abbrev S32x4 : Shape := ⟨2, ![32, 4]⟩
abbrev S36 : Shape := ⟨1, ![36]⟩
abbrev S_ : Shape := ⟨0, ![]⟩
abbrev S1 : Shape := ⟨1, ![1]⟩
abbrev S1x1 : Shape := ⟨2, ![1, 1]⟩
abbrev S1x4 : Shape := ⟨2, ![1, 4]⟩
abbrev S4x1 : Shape := ⟨2, ![4, 1]⟩
abbrev S4 : Shape := ⟨1, ![4]⟩
abbrev S9 : Shape := ⟨1, ![9]⟩
abbrev S4x4096x512 : Shape := ⟨3, ![4, 4096, 512]⟩
abbrev S1024 : Shape := ⟨1, ![1024]⟩
abbrev S1024x1 : Shape := ⟨2, ![1024, 1]⟩
abbrev S1024x4 : Shape := ⟨2, ![1024, 4]⟩
abbrev S4x1024 : Shape := ⟨2, ![4, 1024]⟩
abbrev S1x1024 : Shape := ⟨2, ![1, 1024]⟩
abbrev S1x4x1x1024 : Shape := ⟨4, ![1, 4, 1, 1024]⟩
abbrev S1x4x512x1024 : Shape := ⟨4, ![1, 4, 512, 1024]⟩
abbrev S4x524288 : Shape := ⟨2, ![4, 524288]⟩
abbrev S4x523776 : Shape := ⟨2, ![4, 523776]⟩
abbrev S4x512x1023 : Shape := ⟨3, ![4, 512, 1023]⟩
abbrev S4x512x512 : Shape := ⟨3, ![4, 512, 512]⟩
abbrev S4x1x512x512 : Shape := ⟨4, ![4, 1, 512, 512]⟩
abbrev S4x2x512x512 : Shape := ⟨4, ![4, 2, 512, 512]⟩
abbrev S1x512x128 : Shape := ⟨3, ![1, 512, 128]⟩
abbrev S1x2x512x512 : Shape := ⟨4, ![1, 2, 512, 512]⟩
abbrev S1024x128 : Shape := ⟨2, ![1024, 128]⟩
abbrev S512x128 : Shape := ⟨2, ![512, 128]⟩
abbrev S256x128 : Shape := ⟨2, ![256, 128]⟩
abbrev S256x512 : Shape := ⟨2, ![256, 512]⟩
abbrev S256x1 : Shape := ⟨2, ![256, 1]⟩
abbrev S256 : Shape := ⟨1, ![256]⟩
abbrev S1x1x256x512 : Shape := ⟨4, ![1, 1, 256, 512]⟩
abbrev S512 : Shape := ⟨1, ![512]⟩
abbrev S512x1 : Shape := ⟨2, ![512, 1]⟩

abbrev nBuf : Space → Nat
  | .hbm => 243
  | .vmem => 14
  | .smem => 3
  | _ => 0

abbrev hbmTy0_0 (i : Nat) : BufTy := match i % 128 with
  | 0 => ⟨S4x4096x4x2x64, .f32⟩
  | 1 => ⟨S4x4096x4x2x64, .f32⟩
  | 2 => ⟨S4x4096x4x128, .f32⟩
  | 3 => ⟨S64, .f32⟩
  | 4 => ⟨S64, .f32⟩
  | 5 => ⟨S64, .f32⟩
  | 6 => ⟨S64, .f32⟩
  | 7 => ⟨S32x4, .f32⟩
  | 8 => ⟨S64, .f32⟩
  | 9 => ⟨S_, .f32⟩
  | 10 => ⟨S_, .f32⟩
  | 11 => ⟨S_, .f32⟩
  | 12 => ⟨S64, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .f32⟩
  | 28 => ⟨S_, .f32⟩
  | 29 => ⟨S1, .f32⟩
  | 30 => ⟨S1, .f32⟩
  | 31 => ⟨S1, .f32⟩
  | 32 => ⟨S_, .f32⟩
  | 33 => ⟨S1, .f32⟩
  | 34 => ⟨S1, .f32⟩
  | 35 => ⟨S_, .f32⟩
  | 36 => ⟨S1, .f32⟩
  | 37 => ⟨S1, .f32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i1⟩
  | 48 => ⟨S1, .i32⟩
  | 49 => ⟨S_, .i32⟩
  | 50 => ⟨S1, .i32⟩
  | 51 => ⟨S1, .i1⟩
  | 52 => ⟨S_, .i32⟩
  | 53 => ⟨S1, .i32⟩
  | 54 => ⟨S1, .i32⟩
  | 55 => ⟨S1, .i32⟩
  | 56 => ⟨S1x1, .i32⟩
  | 57 => ⟨S1x4, .f32⟩
  | 58 => ⟨S4x1, .f32⟩
  | 59 => ⟨S4, .f32⟩
  | 60 => ⟨S_, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .f32⟩
  | 69 => ⟨S_, .f32⟩
  | 70 => ⟨S1, .f32⟩
  | 71 => ⟨S1, .f32⟩
  | 72 => ⟨S1, .f32⟩
  | 73 => ⟨S_, .f32⟩
  | 74 => ⟨S1, .f32⟩
  | 75 => ⟨S1, .f32⟩
  | 76 => ⟨S_, .f32⟩
  | 77 => ⟨S1, .f32⟩
  | 78 => ⟨S1, .f32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i1⟩
  | 89 => ⟨S1, .i32⟩
  | 90 => ⟨S_, .i32⟩
  | 91 => ⟨S1, .i32⟩
  | 92 => ⟨S1, .i1⟩
  | 93 => ⟨S_, .i32⟩
  | 94 => ⟨S1, .i32⟩
  | 95 => ⟨S1, .i32⟩
  | 96 => ⟨S1, .i32⟩
  | 97 => ⟨S1x1, .i32⟩
  | 98 => ⟨S1x4, .f32⟩
  | 99 => ⟨S4x1, .f32⟩
  | 100 => ⟨S4, .f32⟩
  | 101 => ⟨S1, .f32⟩
  | 102 => ⟨S9, .f32⟩
  | 103 => ⟨S_, .f32⟩
  | 104 => ⟨S4x4096x4x2x64, .f32⟩
  | 105 => ⟨S4x4096x4x2x64, .f32⟩
  | 106 => ⟨S4x4096x4x2x64, .bf16⟩
  | 107 => ⟨S4x4096x512, .bf16⟩
  | 108 => ⟨S4x4096x4x2x64, .bf16⟩
  | 109 => ⟨S4x4096x512, .bf16⟩
  | 110 => ⟨S4x4096x4x128, .bf16⟩
  | 111 => ⟨S4x4096x512, .bf16⟩
  | 112 => ⟨S1024, .i32⟩
  | 113 => ⟨S_, .i32⟩
  | 114 => ⟨S1024, .i32⟩
  | 115 => ⟨S1024, .i1⟩
  | 116 => ⟨S_, .i32⟩
  | 117 => ⟨S1024, .i32⟩
  | 118 => ⟨S1024, .i32⟩
  | 119 => ⟨S_, .i32⟩
  | 120 => ⟨S1024, .i32⟩
  | 121 => ⟨S1024, .i32⟩
  | 122 => ⟨S1024, .i32⟩
  | 123 => ⟨S_, .i32⟩
  | 124 => ⟨S1024, .i32⟩
  | 125 => ⟨S1024, .i32⟩
  | 126 => ⟨S_, .i32⟩
  | 127 => ⟨S1024, .i32⟩
  | _ => ⟨S4x4096x4x2x64, .f32⟩

abbrev hbmTy0_1 (i : Nat) : BufTy := match i % 128 with
  | 0 => ⟨S1024, .i32⟩
  | 1 => ⟨S1024, .f32⟩
  | 2 => ⟨S_, .f32⟩
  | 3 => ⟨S1024, .f32⟩
  | 4 => ⟨S1024, .f32⟩
  | 5 => ⟨S1024, .f32⟩
  | 6 => ⟨S_, .f32⟩
  | 7 => ⟨S1024, .f32⟩
  | 8 => ⟨S1024, .f32⟩
  | 9 => ⟨S_, .f32⟩
  | 10 => ⟨S1024, .f32⟩
  | 11 => ⟨S1024, .f32⟩
  | 12 => ⟨S1024, .i32⟩
  | 13 => ⟨S_, .i32⟩
  | 14 => ⟨S1024, .i32⟩
  | 15 => ⟨S1024, .i32⟩
  | 16 => ⟨S_, .i32⟩
  | 17 => ⟨S1024, .i32⟩
  | 18 => ⟨S1024, .i32⟩
  | 19 => ⟨S_, .i32⟩
  | 20 => ⟨S1024, .i32⟩
  | 21 => ⟨S1024, .i1⟩
  | 22 => ⟨S1024, .i32⟩
  | 23 => ⟨S_, .i32⟩
  | 24 => ⟨S1024, .i32⟩
  | 25 => ⟨S1024, .i1⟩
  | 26 => ⟨S_, .i32⟩
  | 27 => ⟨S1024, .i32⟩
  | 28 => ⟨S1024, .i32⟩
  | 29 => ⟨S1024, .i32⟩
  | 30 => ⟨S1024x1, .i32⟩
  | 31 => ⟨S1024x4, .f32⟩
  | 32 => ⟨S4x1024, .f32⟩
  | 33 => ⟨S1x1024, .i32⟩
  | 34 => ⟨S_, .i32⟩
  | 35 => ⟨S1x1024, .i32⟩
  | 36 => ⟨S1x1024, .i1⟩
  | 37 => ⟨S_, .f32⟩
  | 38 => ⟨S_, .f32⟩
  | 39 => ⟨S4x1024, .i1⟩
  | 40 => ⟨S4x1024, .f32⟩
  | 41 => ⟨S4x1024, .f32⟩
  | 42 => ⟨S1x4x1x1024, .f32⟩
  | 43 => ⟨S1x4x512x1024, .f32⟩
  | 44 => ⟨S4x524288, .f32⟩
  | 45 => ⟨S4x523776, .f32⟩
  | 46 => ⟨S4x512x1023, .f32⟩
  | 47 => ⟨S4x512x512, .f32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S_, .i32⟩
  | 55 => ⟨S1024, .i32⟩
  | 56 => ⟨S1024, .i32⟩
  | 57 => ⟨S1024, .i32⟩
  | 58 => ⟨S_, .i32⟩
  | 59 => ⟨S1024, .i32⟩
  | 60 => ⟨S1024, .i32⟩
  | 61 => ⟨S_, .i32⟩
  | 62 => ⟨S1024, .i32⟩
  | 63 => ⟨S1024, .i32⟩
  | 64 => ⟨S1024, .f32⟩
  | 65 => ⟨S_, .f32⟩
  | 66 => ⟨S1024, .f32⟩
  | 67 => ⟨S1024, .f32⟩
  | 68 => ⟨S1024, .f32⟩
  | 69 => ⟨S_, .f32⟩
  | 70 => ⟨S1024, .f32⟩
  | 71 => ⟨S1024, .f32⟩
  | 72 => ⟨S_, .f32⟩
  | 73 => ⟨S1024, .f32⟩
  | 74 => ⟨S1024, .f32⟩
  | 75 => ⟨S1024, .i32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S_, .i32⟩
  | 83 => ⟨S1024, .i32⟩
  | 84 => ⟨S1024, .i1⟩
  | 85 => ⟨S1024, .i32⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S1024x1, .i32⟩
  | 94 => ⟨S1024x4, .f32⟩
  | 95 => ⟨S4x1024, .f32⟩
  | 96 => ⟨S1x1024, .i32⟩
  | 97 => ⟨S_, .i32⟩
  | 98 => ⟨S1x1024, .i32⟩
  | 99 => ⟨S1x1024, .i1⟩
  | 100 => ⟨S_, .f32⟩
  | 101 => ⟨S_, .f32⟩
  | 102 => ⟨S4x1024, .i1⟩
  | 103 => ⟨S4x1024, .f32⟩
  | 104 => ⟨S4x1024, .f32⟩
  | 105 => ⟨S1x4x1x1024, .f32⟩
  | 106 => ⟨S1x4x512x1024, .f32⟩
  | 107 => ⟨S4x524288, .f32⟩
  | 108 => ⟨S4x523776, .f32⟩
  | 109 => ⟨S4x512x1023, .f32⟩
  | 110 => ⟨S4x512x512, .f32⟩
  | 111 => ⟨S4x1x512x512, .f32⟩
  | 112 => ⟨S4x1x512x512, .f32⟩
  | 113 => ⟨S4x2x512x512, .f32⟩
  | 114 => ⟨S4x4096x512, .bf16⟩
  | _ => ⟨S4x4096x4x2x64, .f32⟩

abbrev hbmTy (i : Nat) : BufTy := match i / 128 with
  | 0 => hbmTy0_0 i
  | 1 => hbmTy0_1 i
  | _ => ⟨S4x4096x4x2x64, .f32⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x2x512x512, .f32⟩
  | .local _ .vmem, ⟨7, _⟩ => ⟨S1x2x512x512, .f32⟩
  | .local _ .vmem, ⟨8, _⟩ => ⟨S1x512x128, .bf16⟩
  | .local _ .vmem, ⟨9, _⟩ => ⟨S1x512x128, .bf16⟩
  | .local _ .vmem, ⟨10, _⟩ => ⟨S1024x128, .bf16⟩
  | .local _ .vmem, ⟨11, _⟩ => ⟨S1024x1, .f32⟩
  | .local _ .vmem, ⟨12, _⟩ => ⟨S1024x1, .f32⟩
  | .local _ .vmem, ⟨13, _⟩ => ⟨S1024x128, .f32⟩
  | .local _ .smem, ⟨0, _⟩ => ⟨S36, .i32⟩
  | .local _ .smem, ⟨1, _⟩ => ⟨S36, .i32⟩
  | .local _ .smem, ⟨2, _⟩ => ⟨S9, .f32⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_v18 : Ref sig .tc := ⟨.hbm, 34, rfl⟩
abbrev main_cst_8 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_9 : Ref sig .tc := ⟨.hbm, 39, rfl⟩
abbrev main_v22 : Ref sig .tc := ⟨.hbm, 40, rfl⟩
abbrev main_v23 : Ref sig .tc := ⟨.hbm, 41, rfl⟩
abbrev main_c_10 : Ref sig .tc := ⟨.hbm, 42, rfl⟩
abbrev main_v24 : Ref sig .tc := ⟨.hbm, 43, rfl⟩
abbrev main_v25 : Ref sig .tc := ⟨.hbm, 44, rfl⟩
abbrev main_c_11 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_12 : Ref sig .tc := ⟨.hbm, 49, rfl⟩
abbrev main_v29 : Ref sig .tc := ⟨.hbm, 50, rfl⟩
abbrev main_v30 : Ref sig .tc := ⟨.hbm, 51, rfl⟩
abbrev main_c_13 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_14 : Ref sig .tc := ⟨.hbm, 60, rfl⟩
abbrev main_v38 : Ref sig .tc := ⟨.hbm, 61, rfl⟩
abbrev main_c_15 : Ref sig .tc := ⟨.hbm, 62, rfl⟩
abbrev main_v39 : Ref sig .tc := ⟨.hbm, 63, rfl⟩
abbrev main_v40 : Ref sig .tc := ⟨.hbm, 64, rfl⟩
abbrev main_c_16 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_17 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_18 : Ref sig .tc := ⟨.hbm, 73, rfl⟩
abbrev main_v47 : Ref sig .tc := ⟨.hbm, 74, rfl⟩
abbrev main_v48 : Ref sig .tc := ⟨.hbm, 75, rfl⟩
abbrev main_cst_19 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_20 : Ref sig .tc := ⟨.hbm, 80, rfl⟩
abbrev main_v52 : Ref sig .tc := ⟨.hbm, 81, rfl⟩
abbrev main_v53 : Ref sig .tc := ⟨.hbm, 82, rfl⟩
abbrev main_c_21 : Ref sig .tc := ⟨.hbm, 83, rfl⟩
abbrev main_v54 : Ref sig .tc := ⟨.hbm, 84, rfl⟩
abbrev main_v55 : Ref sig .tc := ⟨.hbm, 85, rfl⟩
abbrev main_c_22 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_23 : Ref sig .tc := ⟨.hbm, 90, rfl⟩
abbrev main_v59 : Ref sig .tc := ⟨.hbm, 91, rfl⟩
abbrev main_v60 : Ref sig .tc := ⟨.hbm, 92, rfl⟩
abbrev main_c_24 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_25 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_26 : Ref sig .tc := ⟨.hbm, 113, rfl⟩
abbrev main_v79 : Ref sig .tc := ⟨.hbm, 114, rfl⟩
abbrev main_v80 : Ref sig .tc := ⟨.hbm, 115, rfl⟩
abbrev main_c_27 : Ref sig .tc := ⟨.hbm, 116, rfl⟩
abbrev main_v81 : Ref sig .tc := ⟨.hbm, 117, rfl⟩
abbrev main_v82 : Ref sig .tc := ⟨.hbm, 118, rfl⟩
abbrev main_c_28 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_29 : Ref sig .tc := ⟨.hbm, 123, rfl⟩
abbrev main_v86 : Ref sig .tc := ⟨.hbm, 124, rfl⟩
abbrev main_v87 : Ref sig .tc := ⟨.hbm, 125, rfl⟩
abbrev main_c_30 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_31 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_32 : Ref sig .tc := ⟨.hbm, 134, rfl⟩
abbrev main_v94 : Ref sig .tc := ⟨.hbm, 135, rfl⟩
abbrev main_v95 : Ref sig .tc := ⟨.hbm, 136, rfl⟩
abbrev main_cst_33 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_34 : Ref sig .tc := ⟨.hbm, 141, rfl⟩
abbrev main_v99 : Ref sig .tc := ⟨.hbm, 142, rfl⟩
abbrev main_v100 : Ref sig .tc := ⟨.hbm, 143, rfl⟩
abbrev main_c_35 : Ref sig .tc := ⟨.hbm, 144, rfl⟩
abbrev main_v101 : Ref sig .tc := ⟨.hbm, 145, rfl⟩
abbrev main_v102 : Ref sig .tc := ⟨.hbm, 146, rfl⟩
abbrev main_c_36 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_37 : Ref sig .tc := ⟨.hbm, 151, rfl⟩
abbrev main_v106 : Ref sig .tc := ⟨.hbm, 152, rfl⟩
abbrev main_v107 : Ref sig .tc := ⟨.hbm, 153, rfl⟩
abbrev main_c_38 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_39 : Ref sig .tc := ⟨.hbm, 162, rfl⟩
abbrev main_v115 : Ref sig .tc := ⟨.hbm, 163, rfl⟩
abbrev main_v116 : Ref sig .tc := ⟨.hbm, 164, rfl⟩
abbrev main_cst_40 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_41 : Ref sig .tc := ⟨.hbm, 176, rfl⟩
abbrev main_v124 : Ref sig .tc := ⟨.hbm, 177, rfl⟩
abbrev main_v125 : Ref sig .tc := ⟨.hbm, 178, rfl⟩
abbrev main_c_42 : Ref sig .tc := ⟨.hbm, 179, rfl⟩
abbrev main_v126 : Ref sig .tc := ⟨.hbm, 180, rfl⟩
abbrev main_v127 : Ref sig .tc := ⟨.hbm, 181, rfl⟩
abbrev main_c_43 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_c_44 : Ref sig .tc := ⟨.hbm, 186, rfl⟩
abbrev main_v131 : Ref sig .tc := ⟨.hbm, 187, rfl⟩
abbrev main_v132 : Ref sig .tc := ⟨.hbm, 188, rfl⟩
abbrev main_c_45 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_46 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_47 : Ref sig .tc := ⟨.hbm, 197, rfl⟩
abbrev main_v139 : Ref sig .tc := ⟨.hbm, 198, rfl⟩
abbrev main_v140 : Ref sig .tc := ⟨.hbm, 199, rfl⟩
abbrev main_cst_48 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_c_49 : Ref sig .tc := ⟨.hbm, 204, rfl⟩
abbrev main_v144 : Ref sig .tc := ⟨.hbm, 205, rfl⟩
abbrev main_v145 : Ref sig .tc := ⟨.hbm, 206, rfl⟩
abbrev main_c_50 : Ref sig .tc := ⟨.hbm, 207, rfl⟩
abbrev main_v146 : Ref sig .tc := ⟨.hbm, 208, rfl⟩
abbrev main_v147 : Ref sig .tc := ⟨.hbm, 209, rfl⟩
abbrev main_c_51 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_c_52 : Ref sig .tc := ⟨.hbm, 214, rfl⟩
abbrev main_v151 : Ref sig .tc := ⟨.hbm, 215, rfl⟩
abbrev main_v152 : Ref sig .tc := ⟨.hbm, 216, rfl⟩
abbrev main_c_53 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_c_54 : Ref sig .tc := ⟨.hbm, 225, rfl⟩
abbrev main_v160 : Ref sig .tc := ⟨.hbm, 226, rfl⟩
abbrev main_v161 : Ref sig .tc := ⟨.hbm, 227, rfl⟩
abbrev main_cst_55 : Ref sig .tc := ⟨.hbm, 228, rfl⟩
abbrev main_call7_v0 : Ref sig .tc := ⟨.hbm, 229, rfl⟩
abbrev main_call7_v1 : Ref sig .tc := ⟨.hbm, 230, rfl⟩
abbrev main_call7_v2 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_off2 (i : grid0.Coords) : Fin 1 → Nat :=
  let arg1 : BitVec 32 := BitVec.ofNat 32 (i 1).val
  let v17 : Index := Scalar.indexCast arg1
  ![v17.toNat]
def k0_cond4 (v1 : BitVec 32) (v3 : BitVec 32) : BitVec 1 :=
  let v7 : BitVec 32 := Scalar.subi v1 v3
  let c0_i32_3 : BitVec 32 := 0#32
  let v14 : BitVec 1 := Scalar.cmpi .eq v7 c0_i32_3
  let v15 : BitVec 32 := Scalar.extui v14
  let c0_i32_4 : BitVec 32 := 0#32
  let v16 : BitVec 1 := Scalar.cmpi .ne v15 c0_i32_4
  v16

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c0_i32 : BitVec 32 := 0#32
  ![arg0.toNat, v1.toNat, arg1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c0_i32 : BitVec 32 := 0#32
  ![arg0.toNat, v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

abbrev stage0_0 : Fin 1 → Memref sig .tc .smem S9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x4x2x64 : Shape := ⟨5, ![4, 4096, 4, 2, 64]⟩
abbrev S4x4096x4x128 : Shape := ⟨4, ![4, 4096, 4, 128]⟩
abbrev S64 : Shape := ⟨1, ![64]⟩
abbrev S32x4 : Shape := ⟨2, ![32, 4]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S4x4x2x4096x4096 : Shape := ⟨5, ![4, 4, 2, 4096, 4096]⟩
abbrev S4x1x4096x4096 : Shape := ⟨4, ![4, 1, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S4x4096x512 : Shape := ⟨3, ![4, 4096, 512]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S32x4, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .i32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S_, .i32⟩
  | .hbm, ⟨50, _⟩ => ⟨S4096x4096, .i32⟩
  | .hbm, ⟨51, _⟩ => ⟨S4096x4096, .i1⟩
  | .hbm, ⟨52, _⟩ => ⟨S4096x4096, .i32⟩
  | .hbm, ⟨53, _⟩ => ⟨S_, .i32⟩
  | .hbm, ⟨54, _⟩ => ⟨S4096x4096, .i32⟩
  | .hbm, ⟨55, _⟩ => ⟨S4096x4096, .i1⟩
  | .hbm, ⟨56, _⟩ => ⟨S_, .i32⟩
  | .hbm, ⟨57, _⟩ => ⟨S4096x4096, .i32⟩
  | .hbm, ⟨58, _⟩ => ⟨S4096x4096, .i32⟩
  | .hbm, ⟨59, _⟩ => ⟨S4096x4096, .i32⟩
  | .hbm, ⟨60, _⟩ => ⟨S4096x4096x1, .i32⟩
  | .hbm, ⟨61, _⟩ => ⟨S4096x4096x4, .f32⟩
  | .hbm, ⟨62, _⟩ => ⟨S4x4096x4096, .f32⟩
  | .hbm, ⟨63, _⟩ => ⟨S4x4x2x4096x4096, .f32⟩
  | .hbm, ⟨64, _⟩ => ⟨S_, .f32⟩
  | .hbm, ⟨65, _⟩ => ⟨S4x4x2x4096x4096, .f32⟩
  | .hbm, ⟨66, _⟩ => ⟨S4x4x2x4096x4096, .f32⟩
  | .hbm, ⟨67, _⟩ => ⟨S4x1x4096x4096, .f32⟩
  | .hbm, ⟨68, _⟩ => ⟨S1x4x1x4096x4096, .f32⟩
  | .hbm, ⟨69, _⟩ => ⟨S4x4x2x4096x4096, .f32⟩
  | .hbm, ⟨70, _⟩ => ⟨S4x4x2x4096x4096, .f32⟩
  | .hbm, ⟨71, _⟩ => ⟨S_, .i32⟩
  | .hbm, ⟨72, _⟩ => ⟨S4096x4096, .i32⟩
  | .hbm, ⟨73, _⟩ => ⟨S4096x4096, .i1⟩
  | .hbm, ⟨74, _⟩ => ⟨S_, .f32⟩
  | .hbm, ⟨75, _⟩ => ⟨S_, .f32⟩
  | .hbm, ⟨76, _⟩ => ⟨S4x4x2x4096x4096, .i1⟩
  | .hbm, ⟨77, _⟩ => ⟨S4x4x2x4096x4096, .f32⟩
  | .hbm, ⟨78, _⟩ => ⟨S4x4x2x4096x4096, .f32⟩
  | .hbm, ⟨79, _⟩ => ⟨S_, .f32⟩
  | .hbm, ⟨80, _⟩ => ⟨S4x4x2x4096, .f32⟩
  | .hbm, ⟨81, _⟩ => ⟨S_, .f32⟩
  | .hbm, ⟨82, _⟩ => ⟨S4x4x2x4096, .f32⟩
  | .hbm, ⟨83, _⟩ => ⟨S4x4x2x4096, .f32⟩
  | .hbm, ⟨84, _⟩ => ⟨S4x4x2x4096x1, .f32⟩
  | .hbm, ⟨85, _⟩ => ⟨S4x4x2x4096x4096, .f32⟩
  | .hbm, ⟨86, _⟩ => ⟨S4x4x2x4096x4096, .f32⟩
  | .hbm, ⟨87, _⟩ => ⟨S4x4x2x4096x4096, .f32⟩
  | .hbm, ⟨88, _⟩ => ⟨S_, .f32⟩
  | .hbm, ⟨89, _⟩ => ⟨S4x4x2x4096, .f32⟩
  | .hbm, ⟨90, _⟩ => ⟨S4x4x2x4096x1, .f32⟩
  | .hbm, ⟨91, _⟩ => ⟨S4x4x2x4096x4096, .f32⟩
  | .hbm, ⟨92, _⟩ => ⟨S4x4x2x4096x4096, .f32⟩
  | .hbm, ⟨93, _⟩ => ⟨S4x4x1x4096x4096, .f32⟩
  | .hbm, ⟨94, _⟩ => ⟨S4x4x4096x4096, .f32⟩
  | .hbm, ⟨95, _⟩ => ⟨S4x4x1x4096x4096, .f32⟩
  | .hbm, ⟨96, _⟩ => ⟨S4x4x4096x4096, .f32⟩
  | .hbm, ⟨97, _⟩ => ⟨S4x4x4096x4096, .f32⟩
  | .hbm, ⟨98, _⟩ => ⟨S4x4x4096x4096, .f32⟩
  | .hbm, ⟨99, _⟩ => ⟨S4x4x4096x4096, .f32⟩
  | .hbm, ⟨100, _⟩ => ⟨S4x4x128x4096, .f32⟩
  | .hbm, ⟨101, _⟩ => ⟨S4x4096x4x128, .f32⟩
  | .hbm, ⟨102, _⟩ => ⟨S4x4096x4x128, .f32⟩
  | .hbm, ⟨103, _⟩ => ⟨S_, .f32⟩
  | .hbm, ⟨104, _⟩ => ⟨S4x4096x4, .f32⟩
  | .hbm, ⟨105, _⟩ => ⟨S4x4096x4x1, .f32⟩
  | .hbm, ⟨106, _⟩ => ⟨S_, .f32⟩
  | .hbm, ⟨107, _⟩ => ⟨S4x4096x4x1, .f32⟩
  | .hbm, ⟨108, _⟩ => ⟨S4x4096x4x1, .f32⟩
  | .hbm, ⟨109, _⟩ => ⟨S_, .f32⟩
  | .hbm, ⟨110, _⟩ => ⟨S4x4096x4x1, .f32⟩
  | .hbm, ⟨111, _⟩ => ⟨S4x4096x4x1, .f32⟩
  | .hbm, ⟨112, _⟩ => ⟨S4x4096x4x1, .f32⟩
  | .hbm, ⟨113, _⟩ => ⟨S4x4096x4x128, .f32⟩
  | .hbm, ⟨114, _⟩ => ⟨S4x4096x4x128, .f32⟩
  | .hbm, ⟨115, _⟩ => ⟨S4x4096x512, .f32⟩
  | .hbm, ⟨116, _⟩ => ⟨S_, .f32⟩
  | .hbm, ⟨117, _⟩ => ⟨S4x4096x512, .f32⟩
  | .hbm, ⟨118, _⟩ => ⟨S4x4096x512, .f32⟩
  | .hbm, ⟨119, _⟩ => ⟨S4x4096x512, .bf16⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_cst_15 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_cst_18 : Ref sig .tc := ⟨.hbm, 106, rfl⟩
abbrev main_v75 : Ref sig .tc := ⟨.hbm, 107, rfl⟩
abbrev main_v76 : Ref sig .tc := ⟨.hbm, 108, rfl⟩
abbrev main_cst_19 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_20 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x3584 : Shape := ⟨2, ![1024, 3584]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S16384x1024 : Shape := ⟨2, ![16384, 1024]⟩
abbrev S1x1024 : Shape := ⟨2, ![1, 1024]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 37
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3584, .f32⟩
  | .hbm, ⟨3, _⟩ => ⟨S4096, .i32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S4096, .f32⟩
  | .hbm, ⟨15, _⟩ => ⟨S4096x1, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x128, .f32⟩
  | .hbm, ⟨23, _⟩ => ⟨S4096x64, .f32⟩
  | .hbm, ⟨24, _⟩ => ⟨S4096x128, .f32⟩
  | .hbm, ⟨25, _⟩ => ⟨S16384x1024, .f32⟩
  | .hbm, ⟨26, _⟩ => ⟨S1x1024, .f32⟩
  | .hbm, ⟨27, _⟩ => ⟨S1024x3584, .bf16⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .bf16⟩
  | .hbm, ⟨33, _⟩ => ⟨S16384x512, .f32⟩
  | .hbm, ⟨34, _⟩ => ⟨S16384x512, .f32⟩
  | .hbm, ⟨35, _⟩ => ⟨S16384x512, .bf16⟩
  | .hbm, ⟨36, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev main_v22_2 : Ref sig .tc := ⟨.hbm, 30, rfl⟩
abbrev main_v22_3 : Ref sig .tc := ⟨.hbm, 31, rfl⟩
abbrev main_v22_4 : Ref sig .tc := ⟨.hbm, 32, rfl⟩
abbrev main_v22_5 : Ref sig .tc := ⟨.hbm, 33, rfl⟩
abbrev main_v22_6 : Ref sig .tc := ⟨.hbm, 34, rfl⟩
abbrev main_v22_7 : Ref sig .tc := ⟨.hbm, 35, rfl⟩
abbrev main_v22_8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4x4096x1024 : Shape := ⟨3, ![4, 4096, 1024]⟩
abbrev S1024 : Shape := ⟨1, ![1024]⟩
abbrev S1024x3584 : Shape := ⟨2, ![1024, 3584]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3584 : Shape := ⟨3, ![4, 4096, 3584]⟩
abbrev S4x4096x512 : Shape := ⟨3, ![4, 4096, 512]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4x4096x4x128 : Shape := ⟨4, ![4, 4096, 4, 128]⟩
abbrev S4x4096x4x64 : Shape := ⟨4, ![4, 4096, 4, 64]⟩
abbrev S1x4096x1x64 : Shape := ⟨4, ![1, 4096, 1, 64]⟩
abbrev S16384x512 : Shape := ⟨2, ![16384, 512]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3584, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3584, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S4096, .i32⟩
  | .hbm, ⟨38, _⟩ => ⟨S4096, .f32⟩
  | .hbm, ⟨39, _⟩ => ⟨S4096x1, .f32⟩
  | .hbm, ⟨40, _⟩ => ⟨S1x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S4096x1x64, .f32⟩
  | .hbm, ⟨46, _⟩ => ⟨S4096x64, .f32⟩
  | .hbm, ⟨47, _⟩ => ⟨S4096x1x64, .f32⟩
  | .hbm, ⟨48, _⟩ => ⟨S4x4096x4x128, .f32⟩
  | .hbm, ⟨49, _⟩ => ⟨S4x4096x4x64, .f32⟩
  | .hbm, ⟨50, _⟩ => ⟨S4x4096x4x64, .f32⟩
  | .hbm, ⟨51, _⟩ => ⟨S1x4096x1x64, .f32⟩
  | .hbm, ⟨52, _⟩ => ⟨S4x4096x4x64, .f32⟩
  | .hbm, ⟨53, _⟩ => ⟨S4x4096x4x64, .f32⟩
  | .hbm, ⟨54, _⟩ => ⟨S1x4096x1x64, .f32⟩
  | .hbm, ⟨55, _⟩ => ⟨S4x4096x4x64, .f32⟩
  | .hbm, ⟨56, _⟩ => ⟨S4x4096x4x64, .f32⟩
  | .hbm, ⟨57, _⟩ => ⟨S4x4096x4x64, .f32⟩
  | .hbm, ⟨58, _⟩ => ⟨S1x4096x1x64, .f32⟩
  | .hbm, ⟨59, _⟩ => ⟨S4x4096x4x64, .f32⟩
  | .hbm, ⟨60, _⟩ => ⟨S4x4096x4x64, .f32⟩
  | .hbm, ⟨61, _⟩ => ⟨S1x4096x1x64, .f32⟩
  | .hbm, ⟨62, _⟩ => ⟨S4x4096x4x64, .f32⟩
  | .hbm, ⟨63, _⟩ => ⟨S4x4096x4x64, .f32⟩
  | .hbm, ⟨64, _⟩ => ⟨S4x4096x4x64, .f32⟩
  | .hbm, ⟨65, _⟩ => ⟨S4x4096x4x128, .f32⟩
  | .hbm, ⟨66, _⟩ => ⟨S_, .f32⟩
  | .hbm, ⟨67, _⟩ => ⟨S4x4096x4x128, .f32⟩
  | .hbm, ⟨68, _⟩ => ⟨S4x4096x4x128, .f32⟩
  | .hbm, ⟨69, _⟩ => ⟨S4x4096x4x128, .f32⟩
  | .hbm, ⟨70, _⟩ => ⟨S4x4096x4x64, .f32⟩
  | .hbm, ⟨71, _⟩ => ⟨S4x4096x4x64, .f32⟩
  | .hbm, ⟨72, _⟩ => ⟨S1x4096x1x64, .f32⟩
  | .hbm, ⟨73, _⟩ => ⟨S4x4096x4x64, .f32⟩
  | .hbm, ⟨74, _⟩ => ⟨S4x4096x4x64, .f32⟩
  | .hbm, ⟨75, _⟩ => ⟨S1x4096x1x64, .f32⟩
  | .hbm, ⟨76, _⟩ => ⟨S4x4096x4x64, .f32⟩
  | .hbm, ⟨77, _⟩ => ⟨S4x4096x4x64, .f32⟩
  | .hbm, ⟨78, _⟩ => ⟨S4x4096x4x64, .f32⟩
  | .hbm, ⟨79, _⟩ => ⟨S1x4096x1x64, .f32⟩
  | .hbm, ⟨80, _⟩ => ⟨S4x4096x4x64, .f32⟩
  | .hbm, ⟨81, _⟩ => ⟨S4x4096x4x64, .f32⟩
  | .hbm, ⟨82, _⟩ => ⟨S1x4096x1x64, .f32⟩
  | .hbm, ⟨83, _⟩ => ⟨S4x4096x4x64, .f32⟩
  | .hbm, ⟨84, _⟩ => ⟨S4x4096x4x64, .f32⟩
  | .hbm, ⟨85, _⟩ => ⟨S4x4096x4x64, .f32⟩
  | .hbm, ⟨86, _⟩ => ⟨S4x4096x4x128, .f32⟩
  | .hbm, ⟨87, _⟩ => ⟨S_, .f32⟩
  | .hbm, ⟨88, _⟩ => ⟨S4x4096x512, .f32⟩
  | .hbm, ⟨89, _⟩ => ⟨S4x4096x512, .f32⟩
  | .hbm, ⟨90, _⟩ => ⟨S4x4096x512, .bf16⟩
  | .hbm, ⟨91, _⟩ => ⟨S4x4096x512, .bf16⟩
  | .hbm, ⟨92, _⟩ => ⟨S4x4096x512, .bf16⟩
  | .hbm, ⟨93, _⟩ => ⟨S16384x512, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .bf16⟩
  | .hbm, ⟨98, _⟩ => ⟨S16384x512, .f32⟩
  | .hbm, ⟨99, _⟩ => ⟨S16384x512, .f32⟩
  | .hbm, ⟨100, _⟩ => ⟨S16384x512, .bf16⟩
  | .hbm, ⟨101, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_6 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩

abbrev nD : Nat := 1
abbrev τ : Topo := Topo.v7x

variable {F : FTy → Type} [FloatOps F]
-- ==== Kernel3.lean ====
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S1024x1024, .f32⟩
  | .hbm, ⟨22, _⟩ => ⟨S4x256x1024, .f32⟩
  | .hbm, ⟨23, _⟩ => ⟨S1024x1024, .f32⟩
  | .hbm, ⟨24, _⟩ => ⟨S1024x1024, .bf16⟩
  | .hbm, ⟨25, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x512 : Shape := ⟨3, ![4, 4096, 512]⟩
abbrev S4x256x4x256 : Shape := ⟨4, ![4, 256, 4, 256]⟩
abbrev S1024x1024 : Shape := ⟨2, ![1024, 1024]⟩
abbrev S1024 : Shape := ⟨1, ![1024]⟩
abbrev S16384x1024 : Shape := ⟨2, ![16384, 1024]⟩
abbrev S16384x512 : Shape := ⟨2, ![16384, 512]⟩
abbrev S4x256x1024 : Shape := ⟨3, ![4, 256, 1024]⟩
abbrev S1x1024 : Shape := ⟨2, ![1, 1024]⟩
abbrev S1024x16384 : Shape := ⟨2, ![1024, 16384]⟩
abbrev S512x1024 : Shape := ⟨2, ![512, 1024]⟩
abbrev S512x512 : Shape := ⟨2, ![512, 512]⟩
abbrev S1x256x1024 : Shape := ⟨3, ![1, 256, 1024]⟩
abbrev S1024x512 : Shape := ⟨2, ![1024, 512]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 26
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x256x4x256, .f32⟩
  | .hbm, ⟨4, _⟩ => ⟨S4x256x4x256, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S4x4096x512, .bf16⟩
  | .hbm, ⟨12, _⟩ => ⟨S16384x512, .bf16⟩
  | .hbm, ⟨13, _⟩ => ⟨S4x4096x512, .bf16⟩
  | .hbm, ⟨14, _⟩ => ⟨S16384x512, .bf16⟩
  | .hbm, ⟨15, _⟩ => ⟨S4x256x4x256, .bf16⟩
  | .hbm, ⟨16, _⟩ => ⟨S4x256x1024, .bf16⟩
  | .hbm, ⟨17, _⟩ => ⟨S4x256x4x256, .bf16⟩
  | .hbm, ⟨18, _⟩ => ⟨S4x256x1024, .bf16⟩
  | .hbm, ⟨19, _⟩ => ⟨S1024x1024, .bf16⟩
  | .hbm, ⟨20, _⟩ => ⟨S1x1024, .f32⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S16384x1024, .f32⟩
  | .hbm, ⟨25, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1024x512, .bf16⟩
  | .local _ .vmem, ⟨18, _⟩ => ⟨S1024x512, .bf16⟩
  | .local _ .vmem, ⟨19, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S4x4096x1024 : Shape := ⟨3, ![4, 4096, 1024]⟩
abbrev S4x4096x512 : Shape := ⟨3, ![4, 4096, 512]⟩
abbrev S4x256x4x256 : Shape := ⟨4, ![4, 256, 4, 256]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S16384x1024 : Shape := ⟨2, ![16384, 1024]⟩
abbrev S1024x16384 : Shape := ⟨2, ![1024, 16384]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x256x4x256, .f32⟩
  | .hbm, ⟨4, _⟩ => ⟨S4x256x4x256, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x4x256, .f32⟩
  | .hbm, ⟨31, _⟩ => ⟨S4x4x4096x256, .f32⟩
  | .hbm, ⟨32, _⟩ => ⟨S_, .f32⟩
  | .hbm, ⟨33, _⟩ => ⟨S4x4x4096x256, .f32⟩
  | .hbm, ⟨34, _⟩ => ⟨S4x4x4096x256, .f32⟩
  | .hbm, ⟨35, _⟩ => ⟨S_, .f32⟩
  | .hbm, ⟨36, _⟩ => ⟨S4x4x4096, .f32⟩
  | .hbm, ⟨37, _⟩ => ⟨S_, .f32⟩
  | .hbm, ⟨38, _⟩ => ⟨S4x4x4096, .f32⟩
  | .hbm, ⟨39, _⟩ => ⟨S4x4x4096, .f32⟩
  | .hbm, ⟨40, _⟩ => ⟨S4x4x4096x1, .f32⟩
  | .hbm, ⟨41, _⟩ => ⟨S4x4x4096x256, .f32⟩
  | .hbm, ⟨42, _⟩ => ⟨S4x4x4096x256, .f32⟩
  | .hbm, ⟨43, _⟩ => ⟨S4x4x4096x256, .f32⟩
  | .hbm, ⟨44, _⟩ => ⟨S_, .f32⟩
  | .hbm, ⟨45, _⟩ => ⟨S4x4x4096, .f32⟩
  | .hbm, ⟨46, _⟩ => ⟨S4x4x4096x1, .f32⟩
  | .hbm, ⟨47, _⟩ => ⟨S4x4x4096x256, .f32⟩
  | .hbm, ⟨48, _⟩ => ⟨S4x4x4096x256, .f32⟩
  | .hbm, ⟨49, _⟩ => ⟨S4x4x256x4096, .f32⟩
  | .hbm, ⟨50, _⟩ => ⟨S4x4096x4x256, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S16384x1024, .f32⟩
  | .hbm, ⟨71, _⟩ => ⟨S16384x1024, .f32⟩
  | .hbm, ⟨72, _⟩ => ⟨S1024x16384, .f32⟩
  | .hbm, ⟨73, _⟩ => ⟨S1024x16384, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Proj.Math.lean ====
module

public import Idealize.ShloMosaic.PureOps
public import Idealize.ShloMosaic.Lib.Pointwise

/-! A row normalised by its mean square, and its product with a column. -/

@[expose] public section

noncomputable section

namespace Cert.Proj

open Idealize.ShloMosaic

/-- The row `x` divided by the root of its mean square (plus a small number) and scaled by the gains `g`. -/
def xn (x g : Fin 1024 → EReal) (k : Fin 1024) : EReal :=
  x k * Ideal.rsqrt (Ideal.div (∑ j, x j * x j) (Ideal.ofBits .f32 0x44800000#32) + Ideal.ofBits .f32 0x358637BD#32) * g k

/-- The normalised row times the column `w`. -/
def lin (x g w : Fin 1024 → EReal) : EReal := ∑ k, xn x g k * w k

end Cert.Proj

end
-- ==== Proof.Proj.In.lean ====
module

public import proofs.«01_k».proof.Proof.Gen.Kernel2Ideal.Value
public import proofs.«01_k».proof.Proof.Proj.Math
public import Idealize.ShloMosaic.Lib.Pointwise
public import Idealize.ShloMosaic.Lib.Tactic.CleanTypes
public import Idealize.ShloMosaic.Lib.Pipeline.ValueKit
public import Idealize.ShloMosaic.Lib.StableHlo.RunRead

/-! The in-projection of the prompt: what one block computes, and what the blocks hold. -/

@[expose] public section

set_option maxRecDepth 16384

noncomputable section

namespace Cert.Kernel2Ideal.In

open Cert.Kernel2Ideal Cert.Kernel2Ideal.Gen Cert.Proj
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-! ## One block -/

theorem pay4_apply (v0 : Vec Ideal S512x1024 .f32) (v2 : Vec Ideal S1x1024 .f32) (r : Fin 512) (k : Fin 1024) :
    k0_pay4 v0 v2 (ix2 r k) = xn (fun k => v0 (ix2 r k)) (fun k => v2 (ix2 0 k)) k := by
  unfold k0_pay4 xn
  pointwise

theorem pay2_apply (v : Vec Ideal S512x1024 .bf16) (w : Vec Ideal S1024x512 .bf16) (r : Fin 512) (e : Fin 512) :
    k0_pay2 v w (ix2 r e) = ∑ k, v (ix2 r k) * w (ix2 k e) := by
  unfold k0_pay2
  pointwise

/-! ## The rotary rotation of a row -/

/-- A row of four heads of 128 columns, rotated: each column times its cosine, and the column half a head away times
    its signed sine. -/
def rotAt (p : Fin 512 → EReal) (cs sn : Fin 128 → EReal) (e : Fin 512) : EReal :=
  p e * cs ⟨e.val % 128, Nat.mod_lt _ (by norm_num)⟩
    + p ⟨e.val / 128 * 128 + (e.val % 128 + 64) % 128, by omega⟩ * sn ⟨e.val % 128, Nat.mod_lt _ (by norm_num)⟩

/-- At a column of the head that starts at `o`. -/
theorem rotAt_head (p : Fin 512 → EReal) (cs sn : Fin 128 → EReal) (o : ℕ) (ho : o + 128 ≤ 512) (hm : o % 128 = 0) (e : Fin 128) :
    rotAt p cs sn ⟨o + e.val, by omega⟩ = p ⟨o + e.val, by omega⟩ * cs e + p ⟨o + (e.val + 64) % 128, by omega⟩ * sn e := by
  have h1 : (o + e.val) % 128 = e.val := by omega
  have h2 : (o + e.val) / 128 * 128 = o := by omega
  unfold rotAt
  simp only [h1, h2]

theorem pay8_apply (v0 : Vec Ideal S512x1024 .f32) (v2 : Vec Ideal S1x1024 .f32) (v17 v19 : Vec Ideal S512x128 .f32) (v21 : Vec Ideal S1024x512 .bf16) (r : Fin 512) (e : Fin 128) :
    k0_pay8 v0 v2 v17 v19 v21 (ix2 r e) = (k0_pay7 v0 v2 v21 (ix2 r ⟨0 + e.val, by omega⟩) * k0_pay5 v17 (ix2 r e) + k0_pay7 v0 v2 v21 (ix2 r ⟨0 + (e.val + 64) % 128, by omega⟩) * k0_pay6 v19 (ix2 r e)) * Ideal.ofBits .f32 0x3DB504F3#32 := by
  have h : e.val + 128 - 64 = e.val + 64 := by omega
  unfold k0_pay8
  pointwise
  simp only [h, Nat.zero_add]

theorem pay11_apply (v0 : Vec Ideal S512x1024 .f32) (v2 : Vec Ideal S1x1024 .f32) (v17 v19 : Vec Ideal S512x128 .f32) (v21 : Vec Ideal S1024x512 .bf16) (r : Fin 512) (e : Fin 128) :
    k0_pay11 (k0_pay9 v0 v2 v17 v19 v21) (k0_pay10 (F := Ideal)) (ix2 r e) = (k0_pay7 v0 v2 v21 (ix2 r ⟨128 + e.val, by omega⟩) * k0_pay5 v17 (ix2 r e) + k0_pay7 v0 v2 v21 (ix2 r ⟨128 + (e.val + 64) % 128, by omega⟩) * k0_pay6 v19 (ix2 r e)) * Ideal.ofBits .f32 0x3DB504F3#32 := by
  have h : e.val + 128 - 64 = e.val + 64 := by omega
  unfold k0_pay11 k0_pay10 k0_pay9
  pointwise
  simp only [h]

theorem pay12_apply (cs sn : FVec Ideal S512x128 .f32) (p : FVec Ideal S512x512 .f32) (r : Fin 512) (e : Fin 128) :
    k0_pay12 cs sn p (ix2 r e) = (p (ix2 r ⟨256 + e.val, by omega⟩) * cs (ix2 r e) + p (ix2 r ⟨256 + (e.val + 64) % 128, by omega⟩) * sn (ix2 r e)) * Ideal.ofBits .f32 0x3DB504F3#32 := by
  have h : e.val + 128 - 64 = e.val + 64 := by omega
  unfold k0_pay12
  pointwise
  simp only [h]

theorem pay13_apply (cs sn : FVec Ideal S512x128 .f32) (p : FVec Ideal S512x512 .f32) (r : Fin 512) (e : Fin 128) :
    k0_pay13 cs sn p (ix2 r e) = (p (ix2 r ⟨384 + e.val, by omega⟩) * cs (ix2 r e) + p (ix2 r ⟨384 + (e.val + 64) % 128, by omega⟩) * sn (ix2 r e)) * Ideal.ofBits .f32 0x3DB504F3#32 := by
  have h : e.val + 128 - 64 = e.val + 64 := by omega
  unfold k0_pay13
  pointwise
  simp only [h]

theorem pay15_apply (v : FVec Ideal S512x1024 .bf16) (cs sn : FVec Ideal S512x128 .f32) (w : Vec Ideal S1024x512 .bf16) (r : Fin 512) (e : Fin 128) :
    k0_pay15 v cs sn w (ix2 r e) = k0_pay14 v w (ix2 r ⟨0 + e.val, by omega⟩) * cs (ix2 r e) + k0_pay14 v w (ix2 r ⟨0 + (e.val + 64) % 128, by omega⟩) * sn (ix2 r e) := by
  have h : e.val + 128 - 64 = e.val + 64 := by omega
  unfold k0_pay15
  pointwise
  simp only [h, Nat.zero_add]

theorem pay16_apply (v : FVec Ideal S512x1024 .bf16) (cs sn : FVec Ideal S512x128 .f32) (w : Vec Ideal S1024x512 .bf16) (r : Fin 512) (e : Fin 128) :
    k0_pay16 v cs sn w (ix2 r e) = k0_pay14 v w (ix2 r ⟨128 + e.val, by omega⟩) * cs (ix2 r e) + k0_pay14 v w (ix2 r ⟨128 + (e.val + 64) % 128, by omega⟩) * sn (ix2 r e) := by
  have h : e.val + 128 - 64 = e.val + 64 := by omega
  unfold k0_pay16
  pointwise
  simp only [h]

theorem pay19_apply (v : FVec Ideal S512x1024 .bf16) (cs sn : FVec Ideal S512x128 .f32) (w : Vec Ideal S1024x512 .bf16) (r : Fin 512) (e : Fin 128) :
    k0_pay19 sn (k0_pay17 v w) (k0_pay18 v cs w) 64#32 (ix2 r e) = k0_pay14 v w (ix2 r ⟨256 + e.val, by omega⟩) * cs (ix2 r e) + k0_pay14 v w (ix2 r ⟨256 + (e.val + 64) % 128, by omega⟩) * sn (ix2 r e) := by
  have h : e.val + 128 - 64 = e.val + 64 := by omega
  unfold k0_pay19 k0_pay18 k0_pay17
  pointwise
  simp only [h]

theorem pay20_apply (cs sn : FVec Ideal S512x128 .f32) (p : FVec Ideal S512x512 .f32) (r : Fin 512) (e : Fin 128) :
    k0_pay20 cs sn p (ix2 r e) = p (ix2 r ⟨384 + e.val, by omega⟩) * cs (ix2 r e) + p (ix2 r ⟨384 + (e.val + 64) % 128, by omega⟩) * sn (ix2 r e) := by
  have h : e.val + 128 - 64 = e.val + 64 := by omega
  unfold k0_pay20
  pointwise
  simp only [h]

theorem pay5_eq (v : Vec Ideal S512x128 .f32) : k0_pay5 v = v := by
  funext y
  unfold k0_pay5
  pointwise
theorem pay6_eq (v : Vec Ideal S512x128 .f32) : k0_pay6 v = v := pay5_eq v

theorem pay14_apply (v : FVec Ideal S512x1024 .bf16) (w : Vec Ideal S1024x512 .bf16) (r : Fin 512) (e : Fin 512) :
    k0_pay14 v w (ix2 r e) = ∑ k, v (ix2 r k) * w (ix2 k e) := pay2_apply v w r e

/-! ## The stores -/

theorem zero2 (a : Fin 2) : (![0, 0] : Fin 2 → ℕ) a = 0 := by
  match a with
  | ⟨0, _⟩ => rfl
  | ⟨1, _⟩ => rfl

/-- A row of the block's product with the columns that start at `o`. -/
def prj (x0 : Vec Ideal S512x1024 .f32) (x1 : Vec Ideal S1x1024 .f32) (x2 : Vec Ideal S1024x3584 .bf16) (o : ℕ) (ho : o + 512 ≤ 3584) (r e : Fin 512) : EReal :=
  lin (fun k => x0 (ix2 r k)) (fun k => x1 (ix2 0 k)) (fun k => x2 (ix2 k ⟨o + e.val, by omega⟩))

/-- The columns that start at `o`, loaded. -/
theorem ld_cols (x2 : Vec Ideal S1024x3584 .bf16) (o : ℕ) (ho : o + 512 ≤ 3584) (inb) (k : Fin 1024) (e : Fin 512) :
    View.ld x2 (Rect.unit (s := S1024x3584) ![0, o] S1024x512.size inb) (ix2 k e) = x2 (ix2 k ⟨o + e.val, by omega⟩) := by
  refine View.ld_unit_apply_of x2 ![0, o] S1024x512.size inb (ix2 k e) _ fun a => ?_
  match a with
  | ⟨0, _⟩ => exact (Nat.zero_add _).symm
  | ⟨1, _⟩ => rfl

variable (x0 : Vec Ideal S512x1024 .f32) (x1 : Vec Ideal S1x1024 .f32) (x2 : Vec Ideal S1024x3584 .bf16) (x3 x4 : Vec Ideal S512x128 .f32)

theorem pay25_apply (r : Fin 512) (k : Fin 1024) : k0_pay25 x0 x1 x2 x3 x4 (ix2 r k) = xn (fun k => x0 (ix2 r k)) (fun k => x1 (ix2 0 k)) k := by
  unfold k0_pay25
  rw [View.ld_unit_lit (h := zero2), View.ld_unit_lit (h := zero2)]
  exact pay4_apply x0 x1 r k
theorem pay26_eq : k0_pay26 x0 x1 x2 x3 x4 = x3 := by
  unfold k0_pay26
  rw [View.ld_unit_lit (h := zero2)]
  exact pay5_eq x3
theorem pay27_eq : k0_pay27 x0 x1 x2 x3 x4 = x4 := by
  unfold k0_pay27
  rw [View.ld_unit_lit (h := zero2)]
  exact pay6_eq x4

/-- The product of the normalised block and the columns that start at `o`. -/
theorem prod_apply (o : ℕ) (ho : o + 512 ≤ 3584) (inb) (r e : Fin 512) :
    k0_pay2 (k0_pay25 x0 x1 x2 x3 x4) (View.ld x2 (Rect.unit (s := S1024x3584) ![0, o] S1024x512.size inb)) (ix2 r e) = prj x0 x1 x2 o ho r e := by
  refine (pay2_apply _ _ r e).trans ?_
  unfold prj lin
  refine Finset.sum_congr rfl fun k _ => ?_
  rw [pay25_apply, ld_cols x2 o ho]

theorem pay28_apply (r e : Fin 512) : k0_pay28 x0 x1 x2 x3 x4 (ix2 r e) = prj x0 x1 x2 0 (by norm_num) r e :=
  prod_apply x0 x1 x2 x3 x4 0 (by norm_num) _ r e

theorem out7_apply (r e : Fin 512) : out0_7 x0 x1 x2 x3 x4 (ix2 r e) = prj x0 x1 x2 1024 (by norm_num) r e := by
  unfold out0_7
  rw [View.canon_cons_unit_lit (h := zero2)]
  exact prod_apply x0 x1 x2 x3 x4 1024 (by norm_num) _ r e
theorem out8_apply (r e : Fin 512) : out0_8 x0 x1 x2 x3 x4 (ix2 r e) = prj x0 x1 x2 1536 (by norm_num) r e := by
  unfold out0_8
  rw [View.canon_cons_unit_lit (h := zero2)]
  exact prod_apply x0 x1 x2 x3 x4 1536 (by norm_num) _ r e
theorem out10_apply (r e : Fin 512) : out0_10 x0 x1 x2 x3 x4 (ix2 r e) = prj x0 x1 x2 2560 (by norm_num) r e := by
  unfold out0_10
  rw [View.canon_cons_unit_lit (h := zero2)]
  exact prod_apply x0 x1 x2 x3 x4 2560 (by norm_num) _ r e
theorem out11_apply (r e : Fin 512) : out0_11 x0 x1 x2 x3 x4 (ix2 r e) = prj x0 x1 x2 3072 (by norm_num) r e := by
  unfold out0_11
  rw [View.canon_cons_unit_lit (h := zero2)]
  exact prod_apply x0 x1 x2 x3 x4 3072 (by norm_num) _ r e
theorem out12_apply (r e : Fin 512) : out0_12 x0 x1 x2 x3 x4 (ix2 r e) = prj x0 x1 x2 2560 (by norm_num) r e := by
  unfold out0_12
  rw [View.canon_cons_unit_lit (h := zero2)]
  exact prod_apply x0 x1 x2 x3 x4 2560 (by norm_num) _ r e
theorem out13_apply (r e : Fin 512) : out0_13 x0 x1 x2 x3 x4 (ix2 r e) = prj x0 x1 x2 3072 (by norm_num) r e := by
  unfold out0_13
  rw [View.canon_cons_unit_lit (h := zero2)]
  exact prod_apply x0 x1 x2 x3 x4 3072 (by norm_num) _ r e
theorem pay23_apply (v : FVec Ideal S512x1024 .bf16) (w : Vec Ideal S1024x512 .bf16) (r e : Fin 512) :
    k0_pay23 v w (ix2 r e) = k0_pay2 v w (ix2 r e) * Ideal.ofBits .f32 0x3E000000#32 := by
  unfold k0_pay23 k0_pay2
  pointwise
theorem out9_apply (r e : Fin 512) : out0_9 x0 x1 x2 x3 x4 (ix2 r e) = prj x0 x1 x2 2048 (by norm_num) r e * Ideal.ofBits .f32 0x3E000000#32 := by
  unfold out0_9
  rw [View.canon_cons_unit_lit (h := zero2), pay23_apply]
  exact congrArg (· * _) (prod_apply x0 x1 x2 x3 x4 2048 (by norm_num) _ r e)

/-- A store of one head's columns is `G` there when its payload is. -/
theorem piece_apply (o : ℕ) (ho : o + 128 ≤ 512) (inb) (G : S512x512.Idx → EReal) (pay : FVec Ideal S512x128 .f32)
    (h : ∀ (r : Fin 512) (e : Fin 128), pay (ix2 r e) = G (ix2 r ⟨o + e.val, by omega⟩)) (x : S512x128.Idx) :
    pay x = G ((Rect.unit (s := S512x512) ![0, o] S512x128.size inb).emb x) := by
  have hx : x = ix2 (x 0) (x 1) := by
    funext a
    match a with
    | ⟨0, _⟩ => rfl
    | ⟨1, _⟩ => rfl
  refine (congrArg pay hx).trans ((h (x 0) (x 1)).trans (congrArg G ?_))
  funext a
  refine Fin.ext (Eq.trans ?_ (Rect.idx_unit_val (s := S512x512) ![0, o] S512x128.size inb x a).symm)
  match a with
  | ⟨0, _⟩ => exact (Nat.zero_add _).symm
  | ⟨1, _⟩ => rfl

/-- The rotated rows of the block. -/
def rotBlk (o : ℕ) (ho : o + 512 ≤ 3584) (y : S512x512.Idx) : EReal :=
  rotAt (fun e => prj x0 x1 x2 o ho (y 0) e) (fun e => x3 (ix2 (y 0) e)) (fun e => x4 (ix2 (y 0) e)) (y 1)

theorem out5_apply (y : S512x512.Idx) :
    out0_5 x0 x1 x2 x3 x4 y = rotBlk x0 x1 x2 x3 x4 0 (by norm_num) y * Ideal.ofBits .f32 0x3DB504F3#32 := by
  unfold out0_5
  refine View.canon_apply_of_pieces (Val := Elt Ideal) (fun y => rotBlk x0 x1 x2 x3 x4 0 (by norm_num) y * Ideal.ofBits .f32 0x3DB504F3#32) _ (fun p hp x => ?_) y (cover0_5 _ _ _ _ y)
  rcases List.mem_cons.1 hp with rfl | hp
  · refine piece_apply 384 (by norm_num) inb_S512x512_S512x128_0_384 (fun y => rotBlk x0 x1 x2 x3 x4 0 (by norm_num) y * Ideal.ofBits .f32 0x3DB504F3#32) (k0_pay13 (k0_pay26 x0 x1 x2 x3 x4) (k0_pay27 x0 x1 x2 x3 x4) (k0_pay28 x0 x1 x2 x3 x4)) (fun r e => ?_) x
    refine (pay13_apply _ _ _ r e).trans (congrArg (· * _) ?_)
    refine Eq.trans ?_ (rotAt_head _ _ _ 384 (by norm_num) (by norm_num) e).symm
    rw [pay26_eq, pay27_eq, pay28_apply, pay28_apply]
    rfl
  rcases List.mem_cons.1 hp with rfl | hp
  · refine piece_apply 256 (by norm_num) inb_S512x512_S512x128_0_256 (fun y => rotBlk x0 x1 x2 x3 x4 0 (by norm_num) y * Ideal.ofBits .f32 0x3DB504F3#32) (k0_pay12 (k0_pay26 x0 x1 x2 x3 x4) (k0_pay27 x0 x1 x2 x3 x4) (k0_pay28 x0 x1 x2 x3 x4)) (fun r e => ?_) x
    refine (pay12_apply _ _ _ r e).trans (congrArg (· * _) ?_)
    refine Eq.trans ?_ (rotAt_head _ _ _ 256 (by norm_num) (by norm_num) e).symm
    rw [pay26_eq, pay27_eq, pay28_apply, pay28_apply]
    rfl
  rcases List.mem_cons.1 hp with rfl | hp
  · refine piece_apply 128 (by norm_num) inb_S512x512_S512x128_0_128 (fun y => rotBlk x0 x1 x2 x3 x4 0 (by norm_num) y * Ideal.ofBits .f32 0x3DB504F3#32) (k0_pay11 (k0_pay9 (View.ld x0 r0_0) (View.ld x1 r0_1) (View.ld x3 r0_2) (View.ld x4 r0_2) (View.ld x2 r0_3)) (k0_pay10 (F := Ideal))) (fun r e => ?_) x
    refine (pay11_apply _ _ _ _ _ r e).trans (congrArg (· * _) ?_)
    refine Eq.trans ?_ (rotAt_head _ _ _ 128 (by norm_num) (by norm_num) e).symm
    exact congrArg₂ (· + ·) (congrArg₂ (· * ·) (pay28_apply x0 x1 x2 x3 x4 r _) (congrFun (pay26_eq x0 x1 x2 x3 x4) _))
      (congrArg₂ (· * ·) (pay28_apply x0 x1 x2 x3 x4 r _) (congrFun (pay27_eq x0 x1 x2 x3 x4) _))
  rcases List.mem_cons.1 hp with rfl | hp
  · refine piece_apply 0 (by norm_num) inb_S512x512_S512x128_0_0 (fun y => rotBlk x0 x1 x2 x3 x4 0 (by norm_num) y * Ideal.ofBits .f32 0x3DB504F3#32) (k0_pay8 (View.ld x0 r0_0) (View.ld x1 r0_1) (View.ld x3 r0_2) (View.ld x4 r0_2) (View.ld x2 r0_3)) (fun r e => ?_) x
    refine (pay8_apply _ _ _ _ _ r e).trans (congrArg (· * _) ?_)
    refine Eq.trans ?_ (rotAt_head _ _ _ 0 (by norm_num) (by norm_num) e).symm
    exact congrArg₂ (· + ·) (congrArg₂ (· * ·) (pay28_apply x0 x1 x2 x3 x4 r _) (congrFun (pay26_eq x0 x1 x2 x3 x4) _))
      (congrArg₂ (· * ·) (pay28_apply x0 x1 x2 x3 x4 r _) (congrFun (pay27_eq x0 x1 x2 x3 x4) _))
  · exact absurd hp (List.not_mem_nil)

theorem prod14_apply (r e : Fin 512) : k0_pay14 (k0_pay25 x0 x1 x2 x3 x4) (View.ld x2 r0_8) (ix2 r e) = prj x0 x1 x2 512 (by norm_num) r e :=
  prod_apply x0 x1 x2 x3 x4 512 (by norm_num) _ r e

theorem out6_apply (y : S512x512.Idx) : out0_6 x0 x1 x2 x3 x4 y = rotBlk x0 x1 x2 x3 x4 512 (by norm_num) y := by
  unfold out0_6
  refine View.canon_apply_of_pieces (Val := Elt Ideal) (fun y => rotBlk x0 x1 x2 x3 x4 512 (by norm_num) y) _ (fun p hp x => ?_) y (cover0_6 _ _ _ _ y)
  rcases List.mem_cons.1 hp with rfl | hp
  · refine piece_apply 384 (by norm_num) inb_S512x512_S512x128_0_384 (fun y => rotBlk x0 x1 x2 x3 x4 512 (by norm_num) y) (k0_pay20 (k0_pay26 x0 x1 x2 x3 x4) (k0_pay27 x0 x1 x2 x3 x4) (k0_pay14 (k0_pay25 x0 x1 x2 x3 x4) (View.ld x2 r0_8))) (fun r e => ?_) x
    refine (pay20_apply _ _ _ r e).trans ?_
    refine Eq.trans ?_ (rotAt_head _ _ _ 384 (by norm_num) (by norm_num) e).symm
    rw [pay26_eq, pay27_eq, prod14_apply, prod14_apply]
    rfl
  rcases List.mem_cons.1 hp with rfl | hp
  · refine piece_apply 256 (by norm_num) inb_S512x512_S512x128_0_256 (fun y => rotBlk x0 x1 x2 x3 x4 512 (by norm_num) y) (k0_pay19 (k0_pay27 x0 x1 x2 x3 x4) (k0_pay17 (k0_pay25 x0 x1 x2 x3 x4) (View.ld x2 r0_8)) (k0_pay18 (k0_pay25 x0 x1 x2 x3 x4) (k0_pay26 x0 x1 x2 x3 x4) (View.ld x2 r0_8)) 64#32) (fun r e => ?_) x
    refine (pay19_apply _ _ _ _ r e).trans ?_
    refine Eq.trans ?_ (rotAt_head _ _ _ 256 (by norm_num) (by norm_num) e).symm
    rw [pay26_eq, pay27_eq, prod14_apply, prod14_apply]
    rfl
  rcases List.mem_cons.1 hp with rfl | hp
  · refine piece_apply 128 (by norm_num) inb_S512x512_S512x128_0_128 (fun y => rotBlk x0 x1 x2 x3 x4 512 (by norm_num) y) (k0_pay16 (k0_pay25 x0 x1 x2 x3 x4) (k0_pay26 x0 x1 x2 x3 x4) (k0_pay27 x0 x1 x2 x3 x4) (View.ld x2 r0_8)) (fun r e => ?_) x
    refine (pay16_apply _ _ _ _ r e).trans ?_
    refine Eq.trans ?_ (rotAt_head _ _ _ 128 (by norm_num) (by norm_num) e).symm
    rw [pay26_eq, pay27_eq, prod14_apply, prod14_apply]
    rfl
  rcases List.mem_cons.1 hp with rfl | hp
  · refine piece_apply 0 (by norm_num) inb_S512x512_S512x128_0_0 (fun y => rotBlk x0 x1 x2 x3 x4 512 (by norm_num) y) (k0_pay15 (k0_pay25 x0 x1 x2 x3 x4) (k0_pay26 x0 x1 x2 x3 x4) (k0_pay27 x0 x1 x2 x3 x4) (View.ld x2 r0_8)) (fun r e => ?_) x
    refine (pay15_apply _ _ _ _ r e).trans ?_
    refine Eq.trans ?_ (rotAt_head _ _ _ 0 (by norm_num) (by norm_num) e).symm
    rw [pay26_eq, pay27_eq, prod14_apply, prod14_apply]
    rfl
  · exact absurd hp (List.not_mem_nil)

end Cert.Kernel2Ideal.In

end
-- ==== Proof.Proj.InArr.lean ====
module

public import proofs.«01_k».proof.Proof.Proj.In

/-! The in-projection of the prompt: the arrays the blocks come from, and the nine arrays the call leaves. -/

@[expose] public section

set_option maxRecDepth 16384

noncomputable section

namespace Cert.Kernel2Ideal.In

open Cert.Kernel2Ideal Cert.Kernel2Ideal.Gen Cert.Proj
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-- The arguments at their coordinates. -/
def xA (b : Fin 4) (i : Fin 4096) (k : Fin 1024) : EReal := (m (c, main_arg0) : FVec Ideal S4x4096x1024 .f32) (ix3 b i k)
def gA (k : Fin 1024) : EReal := (m (c, main_arg1) : FVec Ideal S1024 .f32) (ix1 k)
def wA (k : Fin 1024) (e : Fin 3584) : EReal := (m (c, main_arg2) : FVec Ideal S1024x3584 .f32) (ix2 k e)

/-! ## The arrays -/

theorem resh_x (A : FVec Ideal S4x4096x1024 .f32) (b : Fin 4) (i : Fin 4096) (k : Fin 1024) :
    (shapeCast S16384x1024 A shapeCasts_S4x4096x1024_S16384x1024 : FVec Ideal S16384x1024 .f32) (ix2 ⟨b.val * 4096 + i.val, by omega⟩ k) = A (ix3 b i k) := by
  pointwise
theorem resh_g (A : FVec Ideal S1024 .f32) (k : Fin 1024) :
    (shapeCast S1x1024 A shapeCasts_S1024_S1x1024 : FVec Ideal S1x1024 .f32) (ix2 0 k) = A (ix1 k) := by
  pointwise

def arrX : FVec Ideal S16384x1024 .f32 := V m c main_v19
def arrG : FVec Ideal S1x1024 .f32 := V m c main_v20
def arrW : FVec Ideal S1024x3584 .bf16 := V m c main_v21
def arrC : FVec Ideal S4096x128 .f32 := V m c main_v16
def arrS : FVec Ideal S4096x128 .f32 := V m c main_v18

theorem arrX_apply (b : Fin 4) (i : Fin 4096) (k : Fin 1024) : arrX m c (ix2 ⟨b.val * 4096 + i.val, by omega⟩ k) = xA m c b i k := by
  refine Eq.trans (congrFun ?_ _) (resh_x _ b i k)
  unfold arrX
  after_reads_simp
  rfl
theorem arrG_apply (k : Fin 1024) : arrG m c (ix2 0 k) = gA m c k := by
  refine Eq.trans (congrFun ?_ _) (resh_g _ k)
  unfold arrG
  after_reads_simp
  rfl
theorem arrW_apply (k : Fin 1024) (e : Fin 3584) : arrW m c (ix2 k e) = wA m c k e := by
  unfold arrW wA
  refine congrFun ?_ (ix2 k e)
  after_reads_simp
  rfl

/-- The angle of a position and a frequency: the position over the base's power. -/
def ang : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (iotaInDim S64 32 0)) (broadcastInDim S64 ![] bcast_S_S64 (constant S_ .f32 0x42800000#32)))))))

/-- Its cosine and its sine, at their coordinates. -/
def cosT (i : Fin 4096) (d : Fin 64) : EReal := (Host.cos ang : FVec Ideal S4096x64 .f32) (ix2 i d)
def sinT (i : Fin 4096) (d : Fin 64) : EReal := (Host.sin ang : FVec Ideal S4096x64 .f32) (ix2 i d)

/-- The cosines of a head's columns, and the signed sines: each frequency serves a column of either half. -/
def csT (i : Fin 4096) (e : Fin 128) : EReal := if h : e.val < 64 then cosT i ⟨e.val, h⟩ else cosT i ⟨e.val - 64, by omega⟩
def snT (i : Fin 4096) (e : Fin 128) : EReal := if h : e.val < 64 then -sinT i ⟨e.val, h⟩ else sinT i ⟨e.val - 64, by omega⟩

theorem cat_apply (A B : FVec Ideal S4096x64 .f32) (i : Fin 4096) (e : Fin 128) :
    (concatenate S4096x128 1 [⟨S4096x64, A⟩, ⟨S4096x64, B⟩] concatenates_S4096x64_S4096x64_S4096x128_d1 : FVec Ideal S4096x128 .f32) (ix2 i e)
      = if h : e.val < 64 then A (ix2 i ⟨e.val, h⟩) else B (ix2 i ⟨e.val - 64, by omega⟩) := by
  pointwise

theorem arrC_apply (i : Fin 4096) (e : Fin 128) : arrC m c (ix2 i e) = csT i e := by
  refine Eq.trans (congrFun ?_ _) (cat_apply (Host.cos ang) (Host.cos ang) i e)
  unfold arrC ang
  after_reads_simp
  rfl
theorem arrS_apply (i : Fin 4096) (e : Fin 128) : arrS m c (ix2 i e) = snT i e := by
  refine Eq.trans (congrFun ?_ _) (cat_apply (Host.negf (Host.sin ang)) (Host.sin ang) i e)
  unfold arrS ang
  after_reads_simp
  rfl

/-! ## The blocks -/

theorem grid_in : ∀ t : Fin grid0.N, win0_0.index t = ![t.val, 0] ∧ win0_1.index t = ![0, 0] ∧ win0_2.index t = ![0, 0] ∧ win0_3.index t = ![t.val % 8, 0]
    ∧ win0_4.index t = ![t.val % 8, 0] := by
  decide +kernel
theorem grid_out : ∀ t : Fin grid0.N, win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] ∧ win0_13.index t = ![t.val, 0] := by
  decide +kernel

variable (t : Fin cfg0.N)

theorem t_lt : t.val < 32 := t.isLt

/-- The point's row of the batch, and the position of its block's row. -/
def tb : Fin 4 := ⟨t.val / 8, Nat.div_lt_of_lt_mul (t_lt t)⟩
def ti (r : Fin 512) : Fin 4096 := ⟨t.val % 8 * 512 + r.val, by omega⟩

theorem blkX (r : Fin 512) (k : Fin 1024) : iblk m c 0 t (ix2 r k) = xA m c (tb t) (ti t r) k := by
  rw [← arrX_apply]
  have e1 := (grid_in t).1
  unfold tb ti arrX
  blk_ext [iblk, e1]
theorem blkG (k : Fin 1024) : iblk m c 1 t (ix2 0 k) = gA m c k := by
  rw [← arrG_apply]
  have e1 := (grid_in t).2.1
  unfold arrG
  blk_ext [iblk, e1]
theorem blkW (k : Fin 1024) (e : Fin 3584) : iblk m c 2 t (ix2 k e) = wA m c k e := by
  rw [← arrW_apply]
  have e1 := (grid_in t).2.2.1
  unfold arrW
  blk_ext [iblk, e1]
theorem blkC (r : Fin 512) (e : Fin 128) : iblk m c 3 t (ix2 r e) = csT (ti t r) e := by
  rw [← arrC_apply m c]
  have e1 := (grid_in t).2.2.2.1
  unfold ti arrC
  blk_ext [iblk, e1]
theorem blkS (r : Fin 512) (e : Fin 128) : iblk m c 4 t (ix2 r e) = snT (ti t r) e := by
  rw [← arrS_apply m c]
  have e1 := (grid_in t).2.2.2.2
  unfold ti arrS
  blk_ext [iblk, e1]

/-! ## The outputs -/

/-- The batch row and the position of a flat row. -/
def fb (y : Fin 16384) : Fin 4 := ⟨y.val / 4096, Nat.div_lt_of_lt_mul y.isLt⟩
def fi (y : Fin 16384) : Fin 4096 := ⟨y.val % 4096, Nat.mod_lt _ (by norm_num)⟩

/-- The projection at a position: the normalised row times the column `e` of those that start at `o`. -/
def proj (o : ℕ) (ho : o + 512 ≤ 3584) (b : Fin 4) (i : Fin 4096) (e : Fin 512) : EReal :=
  lin (xA m c b i) (gA m c) (fun k => wA m c k ⟨o + e.val, by omega⟩)

/-- A projection's array, and a rotated projection's. -/
def projArr (o : ℕ) (ho : o + 512 ≤ 3584) (y : S16384x512.Idx) : EReal := proj m c o ho (fb (y 0)) (fi (y 0)) (y 1)
def rotArr (o : ℕ) (ho : o + 512 ≤ 3584) (y : S16384x512.Idx) : EReal :=
  rotAt (proj m c o ho (fb (y 0)) (fi (y 0))) (csT (fi (y 0))) (snT (fi (y 0))) (y 1)

theorem prj_blk (o : ℕ) (ho : o + 512 ≤ 3584) (r e : Fin 512) :
    prj (iblk m c 0 t) (iblk m c 1 t) (iblk m c 2 t) o ho r e = proj m c o ho (tb t) (ti t r) e := by
  unfold prj proj
  simp only [blkX, blkG, blkW]

theorem row_at (r : Fin 512) (y : Fin 16384) (h0 : y.val = t.val * 512 + r.val) : tb t = fb y ∧ ti t r = fi y := by
  constructor
  · exact Fin.ext (by show t.val / 8 = y.val / 4096; omega)
  · exact Fin.ext (by show t.val % 8 * 512 + r.val = y.val % 4096; omega)

theorem proj_at (o : ℕ) (ho : o + 512 ≤ 3584) (r e : Fin 512) (y : S16384x512.Idx) (h0 : (y 0).val = t.val * 512 + r.val) (h1 : (y 1).val = e.val) :
    prj (iblk m c 0 t) (iblk m c 1 t) (iblk m c 2 t) o ho r e = projArr m c o ho y := by
  obtain ⟨hb, hi⟩ := row_at t r (y 0) h0
  rw [prj_blk, hb, hi, show e = y 1 from Fin.ext h1.symm]
  rfl
theorem rot_row (o : ℕ) (ho : o + 512 ≤ 3584) (r e : Fin 512) :
    rotAt (fun e => prj (iblk m c 0 t) (iblk m c 1 t) (iblk m c 2 t) o ho r e) (fun e => iblk m c 3 t (ix2 r e)) (fun e => iblk m c 4 t (ix2 r e)) e
      = rotAt (proj m c o ho (tb t) (ti t r)) (csT (ti t r)) (snT (ti t r)) e := by
  simp only [prj_blk, blkC, blkS]
theorem rot_at (o : ℕ) (ho : o + 512 ≤ 3584) (z : S512x512.Idx) (y : S16384x512.Idx) (h0 : (y 0).val = t.val * 512 + (z 0).val) (h1 : (y 1).val = (z 1).val) :
    rotBlk (iblk m c 0 t) (iblk m c 1 t) (iblk m c 2 t) (iblk m c 3 t) (iblk m c 4 t) o ho z = rotArr m c o ho y := by
  obtain ⟨hb, hi⟩ := row_at t (z 0) (y 0) h0
  refine (rot_row m c t o ho (z 0) (z 1)).trans ?_
  rw [hb, hi, show z 1 = y 1 from Fin.ext h1.symm]
  rfl

theorem idx_eq (y : S512x512.Idx) : y = ix2 (y 0) (y 1) := by
  funext a
  match a with
  | ⟨0, _⟩ => rfl
  | ⟨1, _⟩ => rfl

theorem covers5 : (cfg0.win 5).Covers := by decide +kernel
theorem covers6 : (cfg0.win 6).Covers := by decide +kernel
theorem covers7 : (cfg0.win 7).Covers := by decide +kernel
theorem covers8 : (cfg0.win 8).Covers := by decide +kernel
theorem covers9 : (cfg0.win 9).Covers := by decide +kernel
theorem covers10 : (cfg0.win 10).Covers := by decide +kernel
theorem covers11 : (cfg0.win 11).Covers := by decide +kernel
theorem covers12 : (cfg0.win 12).Covers := by decide +kernel
theorem covers13 : (cfg0.win 13).Covers := by decide +kernel

theorem arr5 : (dats m 0 c).arrAt 5 cfg0.N = fun y : S16384x512.Idx => rotArr m c 0 (by norm_num) y * Ideal.ofBits .f32 0x3DB504F3#32 := by
  refine (dats m 0 c).arrAt_eq_of_covers 5 _ covers5 fun t hf y => ?_
  have e1 := (grid_out t).1
  blk_simp
  rw [after0_5]
  refine (out5_apply _ _ _ _ _ y).trans (congrArg (· * _) (rot_at m c t 0 (by norm_num) y _ ?_ ?_))
  · blk_simp [e1]
  · blk_simp [e1]

theorem arr6 : (dats m 0 c).arrAt 6 cfg0.N = fun y : S16384x512.Idx => rotArr m c 512 (by norm_num) y := by
  refine (dats m 0 c).arrAt_eq_of_covers 6 _ covers6 fun t hf y => ?_
  have e1 := (grid_out t).2.1
  blk_simp
  rw [after0_6]
  refine (out6_apply _ _ _ _ _ y).trans (rot_at m c t 512 (by norm_num) y _ ?_ ?_)
  · blk_simp [e1]
  · blk_simp [e1]

theorem arr7 : (dats m 0 c).arrAt 7 cfg0.N = fun y : S16384x512.Idx => projArr m c 1024 (by norm_num) y := by
  refine (dats m 0 c).arrAt_eq_of_covers 7 _ covers7 fun t hf y => ?_
  have e1 := (grid_out t).2.2.1
  blk_simp
  rw [after0_7]
  refine (congrArg _ (idx_eq y)).trans ((out7_apply _ _ _ _ _ (y 0) (y 1)).trans (proj_at m c t 1024 (by norm_num) (y 0) (y 1) _ ?_ ?_))
  · blk_simp [e1]
  · blk_simp [e1]

theorem arr8 : (dats m 0 c).arrAt 8 cfg0.N = fun y : S16384x512.Idx => projArr m c 1536 (by norm_num) y := by
  refine (dats m 0 c).arrAt_eq_of_covers 8 _ covers8 fun t hf y => ?_
  have e1 := (grid_out t).2.2.2.1
  blk_simp
  rw [after0_8]
  refine (congrArg _ (idx_eq y)).trans ((out8_apply _ _ _ _ _ (y 0) (y 1)).trans (proj_at m c t 1536 (by norm_num) (y 0) (y 1) _ ?_ ?_))
  · blk_simp [e1]
  · blk_simp [e1]

theorem arr9 : (dats m 0 c).arrAt 9 cfg0.N = fun y : S16384x512.Idx => projArr m c 2048 (by norm_num) y * Ideal.ofBits .f32 0x3E000000#32 := by
  refine (dats m 0 c).arrAt_eq_of_covers 9 _ covers9 fun t hf y => ?_
  have e1 := (grid_out t).2.2.2.2.1
  blk_simp
  rw [after0_9]
  refine (congrArg _ (idx_eq y)).trans ((out9_apply _ _ _ _ _ (y 0) (y 1)).trans (congrArg (· * _) (proj_at m c t 2048 (by norm_num) (y 0) (y 1) _ ?_ ?_)))
  · blk_simp [e1]
  · blk_simp [e1]

theorem arr10 : (dats m 0 c).arrAt 10 cfg0.N = fun y : S16384x512.Idx => projArr m c 2560 (by norm_num) y := by
  refine (dats m 0 c).arrAt_eq_of_covers 10 _ covers10 fun t hf y => ?_
  have e1 := (grid_out t).2.2.2.2.2.1
  blk_simp
  rw [after0_10]
  refine (congrArg _ (idx_eq y)).trans ((out10_apply _ _ _ _ _ (y 0) (y 1)).trans (proj_at m c t 2560 (by norm_num) (y 0) (y 1) _ ?_ ?_))
  · blk_simp [e1]
  · blk_simp [e1]

theorem arr11 : (dats m 0 c).arrAt 11 cfg0.N = fun y : S16384x512.Idx => projArr m c 3072 (by norm_num) y := by
  refine (dats m 0 c).arrAt_eq_of_covers 11 _ covers11 fun t hf y => ?_
  have e1 := (grid_out t).2.2.2.2.2.2.1
  blk_simp
  rw [after0_11]
  refine (congrArg _ (idx_eq y)).trans ((out11_apply _ _ _ _ _ (y 0) (y 1)).trans (proj_at m c t 3072 (by norm_num) (y 0) (y 1) _ ?_ ?_))
  · blk_simp [e1]
  · blk_simp [e1]

theorem arr12 : (dats m 0 c).arrAt 12 cfg0.N = fun y : S16384x512.Idx => projArr m c 2560 (by norm_num) y := by
  refine (dats m 0 c).arrAt_eq_of_covers 12 _ covers12 fun t hf y => ?_
  have e1 := (grid_out t).2.2.2.2.2.2.2.1
  blk_simp
  rw [after0_12]
  refine (congrArg _ (idx_eq y)).trans ((out12_apply _ _ _ _ _ (y 0) (y 1)).trans (proj_at m c t 2560 (by norm_num) (y 0) (y 1) _ ?_ ?_))
  · blk_simp [e1]
  · blk_simp [e1]

theorem arr13 : (dats m 0 c).arrAt 13 cfg0.N = fun y : S16384x512.Idx => projArr m c 3072 (by norm_num) y := by
  refine (dats m 0 c).arrAt_eq_of_covers 13 _ covers13 fun t hf y => ?_
  have e1 := (grid_out t).2.2.2.2.2.2.2.2
  blk_simp
  rw [after0_13]
  refine (congrArg _ (idx_eq y)).trans ((out13_apply _ _ _ _ _ (y 0) (y 1)).trans (proj_at m c t 3072 (by norm_num) (y 0) (y 1) _ ?_ ?_))
  · blk_simp [e1]
  · blk_simp [e1]

/-- The run, with the values of the nine arrays. -/
theorem run_value (ρ : Dev nD → PrngReg) : θ_run defs (onTc (τ := τ) (main (F := Ideal))) ⟨m, fun _ => 0, ρ⟩ fun r => ∀ c : Dev nD,
      r.2.mem ((c : Thread nD τ).loc main_v22_0) = (fun y : S16384x512.Idx => rotArr m c 0 (by norm_num) y * Ideal.ofBits .f32 0x3DB504F3#32)
      ∧ r.2.mem ((c : Thread nD τ).loc main_v22_1) = (fun y : S16384x512.Idx => rotArr m c 512 (by norm_num) y)
      ∧ r.2.mem ((c : Thread nD τ).loc main_v22_2) = (fun y : S16384x512.Idx => projArr m c 1024 (by norm_num) y)
      ∧ r.2.mem ((c : Thread nD τ).loc main_v22_3) = (fun y : S16384x512.Idx => projArr m c 1536 (by norm_num) y)
      ∧ r.2.mem ((c : Thread nD τ).loc main_v22_4) = (fun y : S16384x512.Idx => projArr m c 2048 (by norm_num) y * Ideal.ofBits .f32 0x3E000000#32)
      ∧ r.2.mem ((c : Thread nD τ).loc main_v22_5) = (fun y : S16384x512.Idx => projArr m c 2560 (by norm_num) y)
      ∧ r.2.mem ((c : Thread nD τ).loc main_v22_6) = (fun y : S16384x512.Idx => projArr m c 3072 (by norm_num) y)
      ∧ r.2.mem ((c : Thread nD τ).loc main_v22_7) = (fun y : S16384x512.Idx => projArr m c 2560 (by norm_num) y)
      ∧ r.2.mem ((c : Thread nD τ).loc main_v22_8) = (fun y : S16384x512.Idx => projArr m c 3072 (by norm_num) y)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr5 m c),
    (h c).2.1.trans (arr6 m c),
    (h c).2.2.1.trans (arr7 m c),
    (h c).2.2.2.1.trans (arr8 m c),
    (h c).2.2.2.2.1.trans (arr9 m c),
    (h c).2.2.2.2.2.1.trans (arr10 m c),
    (h c).2.2.2.2.2.2.1.trans (arr11 m c),
    (h c).2.2.2.2.2.2.2.1.trans (arr12 m c),
    (h c).2.2.2.2.2.2.2.2.1.trans (arr13 m c), (h c).2.2.2.2.2.2.2.2.2⟩) (Value.run_blocks m ρ)

end Cert.Kernel2Ideal.In

end
-- ==== Proof.Proj.InRef.lean ====
module

public import proofs.«01_k».proof.Proof.Proj.InArr
public import proofs.«01_k».proof.Proof.Gen.Reference2Ideal.Run

/-! The in-projection's reference at an index: the same nine arrays. -/

@[expose] public section

set_option maxRecDepth 16384

noncomputable section

namespace Cert.Reference2Ideal.In

open Cert.Reference2Ideal Cert.Reference2Ideal.Gen Cert.Proj
open Idealize.ShloMosaic
open Cert.Kernel2Ideal.In (proj projArr rotArr rotAt cosT sinT csT snT fb fi xA gA wA)

/-- The reference's product of the normalised rows and all the columns. -/
def prod (X : FVec Ideal S4x4096x1024 .f32) (G : FVec Ideal S1024 .f32) (W : FVec Ideal S1024x3584 .f32) : FVec Ideal S4x4096x3584 .f32 :=
  Host.dotGeneral dot_S4x4096x1024_S1024x3584_S4x4096x3584_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 G))) W

theorem prod_apply (X : FVec Ideal S4x4096x1024 .f32) (G : FVec Ideal S1024 .f32) (W : FVec Ideal S1024x3584 .f32) (b : Fin 4) (i : Fin 4096) (e : Fin 3584) :
    prod X G W (ix3 b i e) = lin (fun k => X (ix3 b i k)) (fun k => G (ix1 k)) (fun k => W (ix2 k e)) := by
  unfold prod lin xn
  pointwise

/-- The reference's rotation: each half of a head's columns with the other half, from the tables `C` and `S`. -/
def rotated (C S : FVec Ideal S4096x64 .f32) (P : FVec Ideal S4x4096x4x128 .f32) : FVec Ideal S4x4096x4x128 .f32 :=
  concatenate S4x4096x4x128 3 [⟨S4x4096x4x64, (subf (mulf (extractStridedSlice S4x4096x4x64 ![0, 0, 0, 0] P slices_S4x4096x4x128_S4x4096x4x64_0_0_0_0) (broadcastInDim S4x4096x4x64 ![0, 1, 2, 3] bcast_S1x4096x1x64_S4x4096x4x64_0_1_2_3 (broadcastInDim S1x4096x1x64 ![1, 2, 3] bcast_S4096x1x64_S1x4096x1x64_1_2_3 (broadcastInDim S4096x1x64 ![0, 2] bcast_S4096x64_S4096x1x64_0_2 C))))
      (mulf (extractStridedSlice S4x4096x4x64 ![0, 0, 0, 64] P slices_S4x4096x4x128_S4x4096x4x64_0_0_0_64) (broadcastInDim S4x4096x4x64 ![0, 1, 2, 3] bcast_S1x4096x1x64_S4x4096x4x64_0_1_2_3 (broadcastInDim S1x4096x1x64 ![1, 2, 3] bcast_S4096x1x64_S1x4096x1x64_1_2_3 (broadcastInDim S4096x1x64 ![0, 2] bcast_S4096x64_S4096x1x64_0_2 S)))))⟩,
    ⟨S4x4096x4x64, (addf (mulf (extractStridedSlice S4x4096x4x64 ![0, 0, 0, 0] P slices_S4x4096x4x128_S4x4096x4x64_0_0_0_0) (broadcastInDim S4x4096x4x64 ![0, 1, 2, 3] bcast_S1x4096x1x64_S4x4096x4x64_0_1_2_3 (broadcastInDim S1x4096x1x64 ![1, 2, 3] bcast_S4096x1x64_S1x4096x1x64_1_2_3 (broadcastInDim S4096x1x64 ![0, 2] bcast_S4096x64_S4096x1x64_0_2 S))))
      (mulf (extractStridedSlice S4x4096x4x64 ![0, 0, 0, 64] P slices_S4x4096x4x128_S4x4096x4x64_0_0_0_64) (broadcastInDim S4x4096x4x64 ![0, 1, 2, 3] bcast_S1x4096x1x64_S4x4096x4x64_0_1_2_3 (broadcastInDim S1x4096x1x64 ![1, 2, 3] bcast_S4096x1x64_S1x4096x1x64_1_2_3 (broadcastInDim S4096x1x64 ![0, 2] bcast_S4096x64_S4096x1x64_0_2 C)))))⟩] concatenates_S4x4096x4x64_S4x4096x4x64_S4x4096x4x128_d3

theorem rotated_apply (C S : FVec Ideal S4096x64 .f32) (P : FVec Ideal S4x4096x4x128 .f32) (b : Fin 4) (i : Fin 4096) (h : Fin 4) (d : Fin 128) :
    rotated C S P (ix4 b i h d) = if hd : d.val < 64
      then P (ix4 b i h ⟨0 + d.val, by omega⟩) * C (ix2 i ⟨d.val, hd⟩) - P (ix4 b i h ⟨64 + d.val, by omega⟩) * S (ix2 i ⟨d.val, hd⟩)
      else P (ix4 b i h ⟨0 + (d.val - 64), by omega⟩) * S (ix2 i ⟨d.val - 64, by omega⟩) + P (ix4 b i h ⟨64 + (d.val - 64), by omega⟩) * C (ix2 i ⟨d.val - 64, by omega⟩) := by
  unfold rotated
  pointwise

/-! ## The flat arrays -/

theorem flat_apply (A : FVec Ideal S4x4096x512 .f32) (b : Fin 4) (i : Fin 4096) (e : Fin 512) :
    (shapeCast S16384x512 A shapeCasts_S4x4096x512_S16384x512 : FVec Ideal S16384x512 .f32) (ix2 ⟨b.val * 4096 + i.val, by omega⟩ e) = A (ix3 b i e) := by
  pointwise
theorem flat4_apply (A : FVec Ideal S4x4096x4x128 .f32) (b : Fin 4) (i : Fin 4096) (h : Fin 4) (d : Fin 128) :
    (shapeCast S16384x512 A shapeCasts_S4x4096x4x128_S16384x512 : FVec Ideal S16384x512 .f32) (ix2 ⟨b.val * 4096 + i.val, by omega⟩ ⟨h.val * 128 + d.val, by omega⟩) = A (ix4 b i h d) := by
  pointwise
theorem split_apply (A : FVec Ideal S4x4096x512 .f32) (b : Fin 4) (i : Fin 4096) (h : Fin 4) (d : Fin 128) :
    (shapeCast S4x4096x4x128 A shapeCasts_S4x4096x512_S4x4096x4x128 : FVec Ideal S4x4096x4x128 .f32) (ix4 b i h d) = A (ix3 b i ⟨h.val * 128 + d.val, by omega⟩) := by
  pointwise

theorem idx_flat (y : S16384x512.Idx) : y = ix2 ⟨(fb (y 0)).val * 4096 + (fi (y 0)).val, by omega⟩ (y 1) := by
  funext a
  match a with
  | ⟨0, _⟩ => exact Fin.ext (by show (y 0).val = (y 0).val / 4096 * 4096 + (y 0).val % 4096; omega)
  | ⟨1, _⟩ => rfl

/-- The head of a column, and its place in the head. -/
def fh (e : Fin 512) : Fin 4 := ⟨e.val / 128, Nat.div_lt_of_lt_mul e.isLt⟩
def fd (e : Fin 512) : Fin 128 := ⟨e.val % 128, Nat.mod_lt _ (by norm_num)⟩

theorem idx_flat4 (y : S16384x512.Idx) :
    y = ix2 ⟨(fb (y 0)).val * 4096 + (fi (y 0)).val, by omega⟩ ⟨(fh (y 1)).val * 128 + (fd (y 1)).val, by omega⟩ := by
  funext a
  match a with
  | ⟨0, _⟩ => exact Fin.ext (by show (y 0).val = (y 0).val / 4096 * 4096 + (y 0).val % 4096; omega)
  | ⟨1, _⟩ => exact Fin.ext (by show (y 1).val = (y 1).val / 128 * 128 + (y 1).val % 128; omega)

/-- The kernel's rotation of a row is the reference's: a signed sine added is the sine subtracted. -/
theorem rotAt_eq (p : Fin 512 → EReal) (i : Fin 4096) (h : Fin 4) (d : Fin 128) (e : Fin 512) (he : e.val = h.val * 128 + d.val) :
    rotAt p (csT i) (snT i) e = if hd : d.val < 64
      then p ⟨h.val * 128 + (0 + d.val), by omega⟩ * cosT i ⟨d.val, hd⟩ - p ⟨h.val * 128 + (64 + d.val), by omega⟩ * sinT i ⟨d.val, hd⟩
      else p ⟨h.val * 128 + (0 + (d.val - 64)), by omega⟩ * sinT i ⟨d.val - 64, by omega⟩ + p ⟨h.val * 128 + (64 + (d.val - 64)), by omega⟩ * cosT i ⟨d.val - 64, by omega⟩ := by
  have h1 : e.val % 128 = d.val := by omega
  have h2 : e.val / 128 * 128 = h.val * 128 := by omega
  unfold rotAt csT snT
  by_cases hd : d.val < 64
  · have h3 : (d.val + 64) % 128 = 64 + d.val := by omega
    have h4 : e = ⟨h.val * 128 + (0 + d.val), by omega⟩ := Fin.ext (he.trans (by omega : h.val * 128 + d.val = h.val * 128 + (0 + d.val)))
    simp only [h1, h2, h3, hd, dif_pos]
    rw [mul_neg, ← sub_eq_add_neg]
    exact congrArg (fun x => p x * cosT i ⟨d.val, hd⟩ - _) h4
  · have h3 : (d.val + 64) % 128 = 0 + (d.val - 64) := by omega
    have h4 : e = ⟨h.val * 128 + (64 + (d.val - 64)), by omega⟩ := Fin.ext (he.trans (by omega : h.val * 128 + d.val = h.val * 128 + (64 + (d.val - 64))))
    simp only [h1, h2, h3, hd, dif_neg, not_false_eq_true]
    rw [add_comm]
    exact congrArg (fun x => _ + p x * cosT i ⟨d.val - 64, by omega⟩) h4

/-- The table the kernel builds and the reference's are one. -/
def ang : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (iotaInDim S64 32 0)) (broadcastInDim S64 ![] bcast_S_S64 (constant S_ .f32 0x42800000#32)))))))

theorem cos_apply (i : Fin 4096) (d : Fin 64) : (Host.cos ang : FVec Ideal S4096x64 .f32) (ix2 i d) = cosT i d := rfl
theorem sin_apply (i : Fin 4096) (d : Fin 64) : (Host.sin ang : FVec Ideal S4096x64 .f32) (ix2 i d) = sinT i d := rfl

section args

variable (m : (ℓ : Loc Cert.Kernel2Ideal.nD Cert.Kernel2Ideal.τ Cert.Kernel2Ideal.sig) → Buf (Elt Ideal) ℓ) (c : Dev Cert.Kernel2Ideal.nD)
variable (X : FVec Ideal S4x4096x1024 .f32) (G : FVec Ideal S1024 .f32) (W : FVec Ideal S1024x3584 .f32)
variable (hX : ∀ b i k, X (ix3 b i k) = xA m c b i k) (hG : ∀ k, G (ix1 k) = gA m c k) (hW : ∀ k e, W (ix2 k e) = wA m c k e)
include hX hG hW

theorem prod_eq (o : ℕ) (ho : o + 512 ≤ 3584) (b : Fin 4) (i : Fin 4096) (e : Fin 512) :
    prod X G W (ix3 b i ⟨o + e.val, by omega⟩) = proj m c o ho b i e := by
  rw [prod_apply]
  simp only [hX, hG, hW]
  rfl

theorem res1024_eq : (shapeCast S16384x512 (extractStridedSlice S4x4096x512 ![0, 0, 1024] (prod X G W) slices_S4x4096x3584_S4x4096x512_0_0_1024) shapeCasts_S4x4096x512_S16384x512 : FVec Ideal S16384x512 .f32)
      = fun y : S16384x512.Idx => projArr m c 1024 (by norm_num) y := by
  funext y
  refine (congrArg _ (idx_flat y)).trans ((flat_apply _ _ _ _).trans (Eq.trans ?_ (prod_eq m c X G W hX hG hW 1024 (by norm_num) (fb (y 0)) (fi (y 0)) (y 1))))
  pointwise

theorem res1536_eq : (shapeCast S16384x512 (extractStridedSlice S4x4096x512 ![0, 0, 1536] (prod X G W) slices_S4x4096x3584_S4x4096x512_0_0_1536) shapeCasts_S4x4096x512_S16384x512 : FVec Ideal S16384x512 .f32)
      = fun y : S16384x512.Idx => projArr m c 1536 (by norm_num) y := by
  funext y
  refine (congrArg _ (idx_flat y)).trans ((flat_apply _ _ _ _).trans (Eq.trans ?_ (prod_eq m c X G W hX hG hW 1536 (by norm_num) (fb (y 0)) (fi (y 0)) (y 1))))
  pointwise

theorem res2048_eq : (shapeCast S16384x512 (extractStridedSlice S4x4096x512 ![0, 0, 2048] (prod X G W) slices_S4x4096x3584_S4x4096x512_0_0_2048) shapeCasts_S4x4096x512_S16384x512 : FVec Ideal S16384x512 .f32)
      = fun y : S16384x512.Idx => projArr m c 2048 (by norm_num) y := by
  funext y
  refine (congrArg _ (idx_flat y)).trans ((flat_apply _ _ _ _).trans (Eq.trans ?_ (prod_eq m c X G W hX hG hW 2048 (by norm_num) (fb (y 0)) (fi (y 0)) (y 1))))
  pointwise

theorem res2560_eq : (shapeCast S16384x512 (extractStridedSlice S4x4096x512 ![0, 0, 2560] (prod X G W) slices_S4x4096x3584_S4x4096x512_0_0_2560) shapeCasts_S4x4096x512_S16384x512 : FVec Ideal S16384x512 .f32)
      = fun y : S16384x512.Idx => projArr m c 2560 (by norm_num) y := by
  funext y
  refine (congrArg _ (idx_flat y)).trans ((flat_apply _ _ _ _).trans (Eq.trans ?_ (prod_eq m c X G W hX hG hW 2560 (by norm_num) (fb (y 0)) (fi (y 0)) (y 1))))
  pointwise

theorem res3072_eq : (shapeCast S16384x512 (extractStridedSlice S4x4096x512 ![0, 0, 3072] (prod X G W) slices_S4x4096x3584_S4x4096x512_0_0_3072) shapeCasts_S4x4096x512_S16384x512 : FVec Ideal S16384x512 .f32)
      = fun y : S16384x512.Idx => projArr m c 3072 (by norm_num) y := by
  funext y
  refine (congrArg _ (idx_flat y)).trans ((flat_apply _ _ _ _).trans (Eq.trans ?_ (prod_eq m c X G W hX hG hW 3072 (by norm_num) (fb (y 0)) (fi (y 0)) (y 1))))
  pointwise

theorem res86_eq : (shapeCast S16384x512 (truncf .bf16 (mulf (extractStridedSlice S4x4096x512 ![0, 0, 2048] (prod X G W) slices_S4x4096x3584_S4x4096x512_0_0_2048) (broadcastInDim S4x4096x512 ![] bcast_S_S4x4096x512 (constant S_ .f32 0x3E000000#32))) bitsLt_bf16_f32) shapeCasts_S4x4096x512_S16384x512 : FVec Ideal S16384x512 .bf16)
      = fun y : S16384x512.Idx => projArr m c 2048 (by norm_num) y * Ideal.ofBits .f32 0x3E000000#32 := by
  funext y
  refine Eq.trans ?_ (congrArg (· * _) (congrFun (res2048_eq m c X G W hX hG hW) y))
  rfl

theorem rot0_eq (b : Fin 4) (i : Fin 4096) (e : Fin 512) :
    rotated (Host.cos ang) (Host.sin ang) (shapeCast S4x4096x4x128 (extractStridedSlice S4x4096x512 ![0, 0, 0] (prod X G W) slices_S4x4096x3584_S4x4096x512_0_0_0) shapeCasts_S4x4096x512_S4x4096x4x128) (ix4 b i (fh e) (fd e))
      = rotAt (proj m c 0 (by norm_num) b i) (csT i) (snT i) e := by
  have hp : ∀ d : Fin 128, (shapeCast S4x4096x4x128 (extractStridedSlice S4x4096x512 ![0, 0, 0] (prod X G W) slices_S4x4096x3584_S4x4096x512_0_0_0) shapeCasts_S4x4096x512_S4x4096x4x128 : FVec Ideal S4x4096x4x128 .f32) (ix4 b i (fh e) d)
      = proj m c 0 (by norm_num) b i ⟨(fh e).val * 128 + d.val, by omega⟩ := fun d => by
    refine (split_apply _ _ _ _ _).trans (Eq.trans ?_ (prod_eq m c X G W hX hG hW 0 (by norm_num) b i ⟨(fh e).val * 128 + d.val, by omega⟩))
    pointwise
  rw [rotated_apply, rotAt_eq _ i (fh e) (fd e) e (by show e.val = e.val / 128 * 128 + e.val % 128; omega)]
  simp only [hp, cos_apply, sin_apply]

theorem rot512_eq (b : Fin 4) (i : Fin 4096) (e : Fin 512) :
    rotated (Host.cos ang) (Host.sin ang) (shapeCast S4x4096x4x128 (extractStridedSlice S4x4096x512 ![0, 0, 512] (prod X G W) slices_S4x4096x3584_S4x4096x512_0_0_512) shapeCasts_S4x4096x512_S4x4096x4x128) (ix4 b i (fh e) (fd e))
      = rotAt (proj m c 512 (by norm_num) b i) (csT i) (snT i) e := by
  have hp : ∀ d : Fin 128, (shapeCast S4x4096x4x128 (extractStridedSlice S4x4096x512 ![0, 0, 512] (prod X G W) slices_S4x4096x3584_S4x4096x512_0_0_512) shapeCasts_S4x4096x512_S4x4096x4x128 : FVec Ideal S4x4096x4x128 .f32) (ix4 b i (fh e) d)
      = proj m c 512 (by norm_num) b i ⟨(fh e).val * 128 + d.val, by omega⟩ := fun d => by
    refine (split_apply _ _ _ _ _).trans (Eq.trans ?_ (prod_eq m c X G W hX hG hW 512 (by norm_num) b i ⟨(fh e).val * 128 + d.val, by omega⟩))
    pointwise
  rw [rotated_apply, rotAt_eq _ i (fh e) (fd e) e (by show e.val = e.val / 128 * 128 + e.val % 128; omega)]
  simp only [hp, cos_apply, sin_apply]

theorem res83_eq : (shapeCast S16384x512 (rotated (Host.cos ang) (Host.sin ang) (shapeCast S4x4096x4x128 (extractStridedSlice S4x4096x512 ![0, 0, 512] (prod X G W) slices_S4x4096x3584_S4x4096x512_0_0_512) shapeCasts_S4x4096x512_S4x4096x4x128)) shapeCasts_S4x4096x4x128_S16384x512 : FVec Ideal S16384x512 .f32)
      = fun y : S16384x512.Idx => rotArr m c 512 (by norm_num) y := by
  funext y
  exact (congrArg _ (idx_flat4 y)).trans ((flat4_apply _ _ _ _ _).trans (rot512_eq m c X G W hX hG hW (fb (y 0)) (fi (y 0)) (y 1)))

theorem res82_eq : (shapeCast S16384x512 (mulf (rotated (Host.cos ang) (Host.sin ang) (shapeCast S4x4096x4x128 (extractStridedSlice S4x4096x512 ![0, 0, 0] (prod X G W) slices_S4x4096x3584_S4x4096x512_0_0_0) shapeCasts_S4x4096x512_S4x4096x4x128)) (broadcastInDim S4x4096x4x128 ![] bcast_S_S4x4096x4x128 (constant S_ .f32 0x3DB504F3#32))) shapeCasts_S4x4096x4x128_S16384x512 : FVec Ideal S16384x512 .f32)
      = fun y : S16384x512.Idx => rotArr m c 0 (by norm_num) y * Ideal.ofBits .f32 0x3DB504F3#32 := by
  funext y
  refine (congrArg _ (idx_flat4 y)).trans ((flat4_apply _ _ _ _ _).trans (Eq.trans ?_ (congrArg (· * _) (rot0_eq m c X G W hX hG hW (fb (y 0)) (fi (y 0)) (y 1)))))
  rfl

end args

end Cert.Reference2Ideal.In

end
-- ==== Proof.Proj.Mem.lean ====
module

public import proofs.«01_k».proof.Proof.Gen.Kernel3Ideal.Value
public import proofs.«01_k».proof.Proof.Gen.Reference3Ideal.Run
public import proofs.«01_k».proof.Proof.Proj.Math
public import Idealize.ShloMosaic.Lib.Pointwise
public import Idealize.ShloMosaic.Lib.Tactic.CleanTypes
public import Idealize.ShloMosaic.Lib.Pipeline.ValueKit
public import Idealize.ShloMosaic.Lib.StableHlo.RunRead

/-! The memory's keys and values: what the call and the reference compute. -/

@[expose] public section

set_option maxRecDepth 16384

noncomputable section

namespace Cert.Kernel3Ideal.Mem

open Cert.Kernel3Ideal Cert.Kernel3Ideal.Gen Cert.Proj
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-- The arguments at their coordinates. -/
def xA (b : Fin 4) (i : Fin 256) (k : Fin 1024) : EReal := (m (c, main_arg0) : FVec Ideal S4x256x1024 .f32) (ix3 b i k)
def gA (k : Fin 1024) : EReal := (m (c, main_arg1) : FVec Ideal S1024 .f32) (ix1 k)
def kA (k e : Fin 1024) : EReal := (m (c, main_arg2) : FVec Ideal S1024x1024 .f32) (ix2 k e)
def vA (k e : Fin 1024) : EReal := (m (c, main_arg3) : FVec Ideal S1024x1024 .f32) (ix2 k e)

/-! ## One block -/

theorem pay1_apply (v0 : Vec Ideal S256x1024 .f32) (v2 : Vec Ideal S1x1024 .f32) (r : Fin 256) (k : Fin 1024) :
    k0_pay1 v0 v2 (ix2 r k) = xn (fun k => v0 (ix2 r k)) (fun k => v2 (ix2 0 k)) k := by
  unfold k0_pay1 xn
  pointwise

theorem pay2_apply (v0 : Vec Ideal S256x1024 .f32) (v2 : Vec Ideal S1x1024 .f32) (w : Vec Ideal S1024x1024 .bf16) (r : Fin 256) (e : Fin 1024) :
    k0_pay2 v0 v2 w (ix2 r e) = lin (fun k => v0 (ix2 r k)) (fun k => v2 (ix2 0 k)) (fun k => w (ix2 k e)) := by
  unfold k0_pay2 lin
  pointwise
  simp only [pay1_apply]

theorem pay3_apply (v0 : Vec Ideal S256x1024 .f32) (v2 : Vec Ideal S1x1024 .f32) (w : Vec Ideal S1024x1024 .bf16) (r : Fin 256) (e : Fin 1024) :
    k0_pay3 v0 v2 w (ix2 r e) = lin (fun k => v0 (ix2 r k)) (fun k => v2 (ix2 0 k)) (fun k => w (ix2 k e)) :=
  pay2_apply v0 v2 w r e

/-! ## The blocks of the arrays -/

theorem resh_x (A : FVec Ideal S4x256x1024 .f32) (b : Fin 4) (i : Fin 256) (k : Fin 1024) :
    (shapeCast S1024x1024 A shapeCasts_S4x256x1024_S1024x1024 : FVec Ideal S1024x1024 .f32) (ix2 ⟨b.val * 256 + i.val, by omega⟩ k) = A (ix3 b i k) := by
  pointwise
theorem resh_g (A : FVec Ideal S1024 .f32) (k : Fin 1024) :
    (shapeCast S1x1024 A shapeCasts_S1024_S1x1024 : FVec Ideal S1x1024 .f32) (ix2 0 k) = A (ix1 k) := by
  pointwise

def arrX : FVec Ideal S1024x1024 .f32 := V m c main_v0
def arrG : FVec Ideal S1x1024 .f32 := V m c main_v1
def arrK : FVec Ideal S1024x1024 .bf16 := V m c main_v2
def arrV : FVec Ideal S1024x1024 .bf16 := V m c main_v3

theorem arrX_apply (b : Fin 4) (i : Fin 256) (k : Fin 1024) : arrX m c (ix2 ⟨b.val * 256 + i.val, by omega⟩ k) = xA m c b i k := by
  refine Eq.trans (congrFun ?_ _) (resh_x _ b i k)
  unfold arrX
  after_reads_simp
  rfl
theorem arrG_apply (k : Fin 1024) : arrG m c (ix2 0 k) = gA m c k := by
  refine Eq.trans (congrFun ?_ _) (resh_g _ k)
  unfold arrG
  after_reads_simp
  rfl
theorem arrK_apply (k e : Fin 1024) : arrK m c (ix2 k e) = kA m c k e := by
  unfold arrK kA
  refine congrFun ?_ (ix2 k e)
  after_reads_simp
  rfl
theorem arrV_apply (k e : Fin 1024) : arrV m c (ix2 k e) = vA m c k e := by
  unfold arrV vA
  refine congrFun ?_ (ix2 k e)
  after_reads_simp
  rfl

theorem grid_at : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] := by
  decide +kernel

variable (t : Fin cfg0.N)

/-- The point's row of the batch. -/
def tb : Fin 4 := ⟨t.val, t.isLt⟩

theorem blkX (r : Fin 256) (k : Fin 1024) : iblk m c 0 t (ix2 r k) = xA m c (tb t) r k := by
  rw [← arrX_apply]
  have e1 := (grid_at t).1
  unfold tb arrX
  blk_ext [iblk, e1]
theorem blkG (k : Fin 1024) : iblk m c 1 t (ix2 0 k) = gA m c k := by
  rw [← arrG_apply]
  have e1 := (grid_at t).2.1
  unfold arrG
  blk_ext [iblk, e1]
theorem blkK (k e : Fin 1024) : iblk m c 2 t (ix2 k e) = kA m c k e := by
  rw [← arrK_apply]
  have e1 := (grid_at t).2.2.1
  unfold arrK
  blk_ext [iblk, e1]
theorem blkV (k e : Fin 1024) : iblk m c 3 t (ix2 k e) = vA m c k e := by
  rw [← arrV_apply]
  have e1 := (grid_at t).2.2.2.1
  unfold arrV
  blk_ext [iblk, e1]

/-! ## The outputs -/

/-- The keys and the values at a flat row of the batch. -/
def keyAt (y : S1024x1024.Idx) : EReal :=
  lin (xA m c ⟨(y 0).val / 256, Nat.div_lt_of_lt_mul (y 0).isLt⟩ ⟨(y 0).val % 256, Nat.mod_lt _ (by norm_num)⟩) (gA m c) (fun k => kA m c k (y 1))
def valAt (y : S1024x1024.Idx) : EReal :=
  lin (xA m c ⟨(y 0).val / 256, Nat.div_lt_of_lt_mul (y 0).isLt⟩ ⟨(y 0).val % 256, Nat.mod_lt _ (by norm_num)⟩) (gA m c) (fun k => vA m c k (y 1))

theorem zero2 (a : Fin 2) : (![0, 0] : Fin 2 → ℕ) a = 0 := by
  match a with
  | ⟨0, _⟩ => rfl
  | ⟨1, _⟩ => rfl

theorem out4_apply (x0 : Vec Ideal S256x1024 .f32) (x1 : Vec Ideal S1x1024 .f32) (x2 x3 : Vec Ideal S1024x1024 .bf16) (r : Fin 256) (e : Fin 1024) :
    out0_4 x0 x1 x2 x3 (ix2 r e) = lin (fun k => x0 (ix2 r k)) (fun k => x1 (ix2 0 k)) (fun k => x2 (ix2 k e)) := by
  unfold out0_4
  rw [View.canon_cons_unit_lit (h := zero2), View.ld_unit_lit (h := zero2), View.ld_unit_lit (h := zero2), View.ld_unit_lit (h := zero2)]
  exact pay2_apply x0 x1 x2 r e
theorem out5_apply (x0 : Vec Ideal S256x1024 .f32) (x1 : Vec Ideal S1x1024 .f32) (x2 x3 : Vec Ideal S1024x1024 .bf16) (r : Fin 256) (e : Fin 1024) :
    out0_5 x0 x1 x2 x3 (ix2 r e) = lin (fun k => x0 (ix2 r k)) (fun k => x1 (ix2 0 k)) (fun k => x3 (ix2 k e)) := by
  unfold out0_5
  rw [View.canon_cons_unit_lit (h := zero2), View.ld_unit_lit (h := zero2), View.ld_unit_lit (h := zero2), View.ld_unit_lit (h := zero2)]
  exact pay3_apply x0 x1 x3 r e
theorem out6_apply (x0 : Vec Ideal S256x1024 .f32) (x1 : Vec Ideal S1x1024 .f32) (x2 x3 : Vec Ideal S1024x1024 .bf16) (r : Fin 256) (e : Fin 1024) :
    out0_6 x0 x1 x2 x3 (ix2 r e) = lin (fun k => x0 (ix2 r k)) (fun k => x1 (ix2 0 k)) (fun k => x2 (ix2 k e)) := by
  unfold out0_6
  rw [View.canon_cons_unit_lit (h := zero2), View.ld_unit_lit (h := zero2), View.ld_unit_lit (h := zero2), View.ld_unit_lit (h := zero2)]
  exact pay2_apply x0 x1 x2 r e
theorem out7_apply (x0 : Vec Ideal S256x1024 .f32) (x1 : Vec Ideal S1x1024 .f32) (x2 x3 : Vec Ideal S1024x1024 .bf16) (r : Fin 256) (e : Fin 1024) :
    out0_7 x0 x1 x2 x3 (ix2 r e) = lin (fun k => x0 (ix2 r k)) (fun k => x1 (ix2 0 k)) (fun k => x3 (ix2 k e)) := by
  unfold out0_7
  rw [View.canon_cons_unit_lit (h := zero2), View.ld_unit_lit (h := zero2), View.ld_unit_lit (h := zero2), View.ld_unit_lit (h := zero2)]
  exact pay3_apply x0 x1 x3 r e

/-- What the blocks' product is, at the point's rows. -/
theorem key_block (r : Fin 256) (e : Fin 1024) (y : S1024x1024.Idx) (h0 : (y 0).val = t.val * 256 + r.val) (h1 : (y 1).val = e.val) :
    lin (fun k => iblk m c 0 t (ix2 r k)) (fun k => iblk m c 1 t (ix2 0 k)) (fun k => iblk m c 2 t (ix2 k e)) = keyAt m c y := by
  unfold keyAt
  simp only [blkX, blkG, blkK]
  have hb : tb t = ⟨(y 0).val / 256, Nat.div_lt_of_lt_mul (y 0).isLt⟩ := Fin.ext (by show t.val = (y 0).val / 256; omega)
  have hr : r = ⟨(y 0).val % 256, Nat.mod_lt _ (by norm_num)⟩ := Fin.ext (by show r.val = (y 0).val % 256; omega)
  rw [← hb, ← hr, show y 1 = e from Fin.ext h1]
theorem val_block (r : Fin 256) (e : Fin 1024) (y : S1024x1024.Idx) (h0 : (y 0).val = t.val * 256 + r.val) (h1 : (y 1).val = e.val) :
    lin (fun k => iblk m c 0 t (ix2 r k)) (fun k => iblk m c 1 t (ix2 0 k)) (fun k => iblk m c 3 t (ix2 k e)) = valAt m c y := by
  unfold valAt
  simp only [blkX, blkG, blkV]
  have hb : tb t = ⟨(y 0).val / 256, Nat.div_lt_of_lt_mul (y 0).isLt⟩ := Fin.ext (by show t.val = (y 0).val / 256; omega)
  have hr : r = ⟨(y 0).val % 256, Nat.mod_lt _ (by norm_num)⟩ := Fin.ext (by show r.val = (y 0).val % 256; omega)
  rw [← hb, ← hr, show y 1 = e from Fin.ext h1]

theorem covers4 : (cfg0.win 4).Covers := by decide +kernel
theorem covers5 : (cfg0.win 5).Covers := by decide +kernel
theorem covers6 : (cfg0.win 6).Covers := by decide +kernel
theorem covers7 : (cfg0.win 7).Covers := by decide +kernel

theorem idx_eq (y : S256x1024.Idx) : y = ix2 (y 0) (y 1) := by
  funext a
  match a with
  | ⟨0, _⟩ => rfl
  | ⟨1, _⟩ => rfl

theorem arr4 : (dats m 0 c).arrAt 4 cfg0.N = fun y : S1024x1024.Idx => keyAt m c y := by
  refine (dats m 0 c).arrAt_eq_of_covers 4 _ covers4 fun t hf y => ?_
  have e1 := (grid_at t).2.2.2.2.1
  blk_simp
  rw [after0_4]
  refine (congrArg _ (idx_eq y)).trans ((out4_apply _ _ _ _ (y 0) (y 1)).trans (key_block m c t (y 0) (y 1) _ ?_ ?_))
  · blk_simp [e1]
  · blk_simp [e1]

theorem arr5 : (dats m 0 c).arrAt 5 cfg0.N = fun y : S1024x1024.Idx => valAt m c y := by
  refine (dats m 0 c).arrAt_eq_of_covers 5 _ covers5 fun t hf y => ?_
  have e1 := (grid_at t).2.2.2.2.2.1
  blk_simp
  rw [after0_5]
  refine (congrArg _ (idx_eq y)).trans ((out5_apply _ _ _ _ (y 0) (y 1)).trans (val_block m c t (y 0) (y 1) _ ?_ ?_))
  · blk_simp [e1]
  · blk_simp [e1]

theorem arr6 : (dats m 0 c).arrAt 6 cfg0.N = fun y : S1024x1024.Idx => keyAt m c y := by
  refine (dats m 0 c).arrAt_eq_of_covers 6 _ covers6 fun t hf y => ?_
  have e1 := (grid_at t).2.2.2.2.2.2.1
  blk_simp
  rw [after0_6]
  refine (congrArg _ (idx_eq y)).trans ((out6_apply _ _ _ _ (y 0) (y 1)).trans (key_block m c t (y 0) (y 1) _ ?_ ?_))
  · blk_simp [e1]
  · blk_simp [e1]

theorem arr7 : (dats m 0 c).arrAt 7 cfg0.N = fun y : S1024x1024.Idx => valAt m c y := by
  refine (dats m 0 c).arrAt_eq_of_covers 7 _ covers7 fun t hf y => ?_
  have e1 := (grid_at t).2.2.2.2.2.2.2
  blk_simp
  rw [after0_7]
  refine (congrArg _ (idx_eq y)).trans ((out7_apply _ _ _ _ (y 0) (y 1)).trans (val_block m c t (y 0) (y 1) _ ?_ ?_))
  · blk_simp [e1]
  · blk_simp [e1]

/-- The run, with the values of the four arrays. -/
theorem run_value (ρ : Dev nD → PrngReg) : θ_run defs (onTc (τ := τ) (main (F := Ideal))) ⟨m, fun _ => 0, ρ⟩ fun r => ∀ c : Dev nD,
      r.2.mem ((c : Thread nD τ).loc main_v4_0) = (fun y : S1024x1024.Idx => keyAt m c y)
      ∧ r.2.mem ((c : Thread nD τ).loc main_v4_1) = (fun y : S1024x1024.Idx => valAt m c y)
      ∧ r.2.mem ((c : Thread nD τ).loc main_v4_2) = (fun y : S1024x1024.Idx => keyAt m c y)
      ∧ r.2.mem ((c : Thread nD τ).loc main_v4_3) = (fun y : S1024x1024.Idx => valAt m c y)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2.1.trans (arr6 m c),
    (h c).2.2.2.1.trans (arr7 m c), (h c).2.2.2.2⟩) (Value.run_blocks m ρ)

end Cert.Kernel3Ideal.Mem

namespace Cert.Reference3Ideal.Mem

open Cert.Reference3Ideal Cert.Reference3Ideal.Gen Cert.Proj
open Idealize.ShloMosaic

/-- The reference's product at a flat row. -/
theorem prod_apply (X : FVec Ideal S4x256x1024 .f32) (G : FVec Ideal S1024 .f32) (W : FVec Ideal S1024x1024 .f32) (b : Fin 4) (i : Fin 256) (e : Fin 1024) :
    (shapeCast S1024x1024 (Host.dotGeneral dot_S4x256x1024_S1024x1024_S4x256x1024_2_0_01_1_n_n none (mulf (mulf X (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf X X) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 G))) W) shapeCasts_S4x256x1024_S1024x1024 : FVec Ideal S1024x1024 .f32)
        (ix2 ⟨b.val * 256 + i.val, by omega⟩ e)
      = lin (fun k => X (ix3 b i k)) (fun k => G (ix1 k)) (fun k => W (ix2 k e)) := by
  unfold lin xn
  pointwise

end Cert.Reference3Ideal.Mem

end
-- ==== Proof.Mix.Math.lean ====
module

public import proofs.«01_k».proof.Proof.Proj.Math

/-! A row's output projection, and its cross attention to a memory of 256 tokens in four heads of 256 columns. -/

@[expose] public section

noncomputable section

namespace Cert.Mix

open Idealize.ShloMosaic

/-- The row `x` plus the rows `r` and `d`, side by side, times `W`. -/
def mixRow (x : Fin 1024 → EReal) (r d : Fin 512 → EReal) (W : Fin 1024 → Fin 1024 → EReal) (e : Fin 1024) : EReal :=
  x e + ∑ k : Fin 512, r k * W ⟨0 + k.val, by omega⟩ e + ∑ k : Fin 512, d k * W ⟨512 + k.val, by omega⟩ e

/-- The score of a query against a key of one head. -/
def scoreOf (q k : Fin 256 → EReal) : EReal := (∑ d, q d * k d) * Ideal.ofBits .f32 0x3D800000#32

/-- The largest of a row of scores, and the row's softmax. -/
def top (s : Fin 256 → EReal) : EReal := Finset.univ.fold max (Ideal.ofBits .f32 0xFF800000#32) s
def soft (s : Fin 256 → EReal) (j : Fin 256) : EReal := Ideal.div (Ideal.exp (s j - top s)) (∑ l, Ideal.exp (s l - top s))

/-- The attention of a query over the keys `K` and the values `V` of one head. -/
def attend (q : Fin 256 → EReal) (K V : Fin 256 → Fin 256 → EReal) (d : Fin 256) : EReal :=
  ∑ j, soft (fun j => scoreOf q (K j)) j * V j d

/-- A column's head, and its place in the head. -/
def fh (e : Fin 1024) : Fin 4 := ⟨e.val / 256, Nat.div_lt_of_lt_mul e.isLt⟩
def fd (e : Fin 1024) : Fin 256 := ⟨e.val % 256, Nat.mod_lt _ (by norm_num)⟩

/-- The attention of the head that starts at column `o`. -/
def headAt (q : Fin 1024 → EReal) (K V : Fin 256 → Fin 1024 → EReal) (o : ℕ) (ho : o + 256 ≤ 1024) (d : Fin 256) : EReal :=
  attend (fun d => q ⟨o + d.val, by omega⟩) (fun j d => K j ⟨o + d.val, by omega⟩) (fun j d => V j ⟨o + d.val, by omega⟩) d

/-- A row's attention in all four heads. -/
def cross (q : Fin 1024 → EReal) (K V : Fin 256 → Fin 1024 → EReal) (e : Fin 1024) : EReal :=
  headAt q K V ((fh e).val * 256) (by omega) (fd e)

theorem cross_head (q : Fin 1024 → EReal) (K V : Fin 256 → Fin 1024 → EReal) (o : ℕ) (ho : o + 256 ≤ 1024) (hm : o % 256 = 0) (d : Fin 256) :
    cross q K V ⟨o + d.val, by omega⟩ = headAt q K V o ho d := by
  have h1 : (fh ⟨o + d.val, by omega⟩).val * 256 = o := by show (o + d.val) / 256 * 256 = o; omega
  have h2 : fd ⟨o + d.val, by omega⟩ = d := Fin.ext (by show (o + d.val) % 256 = d.val; omega)
  unfold cross
  simp only [h1, h2]

/-- A row plus the row `o` times `W`. -/
def addMul (x o : Fin 1024 → EReal) (W : Fin 1024 → Fin 1024 → EReal) (e : Fin 1024) : EReal := x e + ∑ k, o k * W k e

/-- The row after the cross attention, from the row `h` before it. -/
def after (h gc : Fin 1024 → EReal) (Wq Wm : Fin 1024 → Fin 1024 → EReal) (K V : Fin 256 → Fin 1024 → EReal) : Fin 1024 → EReal :=
  addMul h (cross (fun e => Cert.Proj.lin h gc (fun k => Wq k e)) K V) Wm

end Cert.Mix

end
-- ==== Proof.Mix.Block.lean ====
module

public import proofs.«01_k».proof.Proof.Gen.Kernel4Ideal.Value
public import proofs.«01_k».proof.Proof.Mix.Math
public import Idealize.ShloMosaic.Lib.Pointwise
public import Idealize.ShloMosaic.Lib.Tactic.CleanTypes
public import Idealize.ShloMosaic.Lib.Pipeline.ValueKit

/-! The output projection and the cross attention: the values one block computes. -/

@[expose] public section

set_option maxRecDepth 16384

noncomputable section

namespace Cert.Kernel4Ideal.Mix

open Cert.Kernel4Ideal Cert.Kernel4Ideal.Gen Cert.Proj Cert.Mix
open Idealize.ShloMosaic

/-! ## The values, payload by payload -/

theorem pay1_apply (v0 : Vec Ideal S512x1024 .f32) (v2 v4 : Vec Ideal S512x512 .bf16) (v6 v10 : Vec Ideal S512x1024 .bf16) (r : Fin 512) (e : Fin 1024) :
    k0_pay1 v0 v2 v4 v6 v10 (ix2 r e) = v0 (ix2 r e) + ∑ k, v2 (ix2 r k) * v6 (ix2 k e) + ∑ k, v4 (ix2 r k) * v10 (ix2 k e) := by
  unfold k0_pay1
  pointwise

theorem pay2_apply (v0 : Vec Ideal S512x1024 .f32) (v2 v4 : Vec Ideal S512x512 .bf16) (v6 v10 : Vec Ideal S512x1024 .bf16) (v14 : Vec Ideal S1x1024 .f32)
    (v29 : Vec Ideal S1024x1024 .bf16) (r : Fin 512) (e : Fin 1024) :
    k0_pay2 v0 v2 v4 v6 v10 v14 v29 (ix2 r e)
      = lin (fun k => k0_pay1 v0 v2 v4 v6 v10 (ix2 r k)) (fun k => v14 (ix2 0 k)) (fun k => v29 (ix2 k e)) := by
  unfold k0_pay2 lin xn
  pointwise

theorem pay3_apply (v0 : Vec Ideal S512x1024 .f32) (v2 v4 : Vec Ideal S512x512 .bf16) (v6 v10 : Vec Ideal S512x1024 .bf16) (v14 : Vec Ideal S1x1024 .f32)
    (v29 : Vec Ideal S1024x1024 .bf16) (r : Fin 512) (d : Fin 256) :
    k0_pay3 v0 v2 v4 v6 v10 v14 v29 (ix2 r d) = k0_pay2 v0 v2 v4 v6 v10 v14 v29 (ix2 r ⟨0 + d.val, by omega⟩) := by
  unfold k0_pay3
  pointwise

theorem pay4_apply (v34 : Vec Ideal S1x256x256 .bf16) (j d : Fin 256) : k0_pay4 v34 (ix2 j d) = v34 (ix3 0 j d) := by
  unfold k0_pay4
  pointwise

theorem pay5_apply (v33 : FVec Ideal S512x256 .bf16) (v35 : FVec Ideal S256x256 .bf16) (v49 : Vec Ideal S1x256x256 .bf16) (r : Fin 512) (d : Fin 256) :
    k0_pay5 v33 v35 v49 (ix2 r d) = attend (fun d => v33 (ix2 r d)) (fun j d => v35 (ix2 j d)) (fun j d => v49 (ix3 0 j d)) d := by
  unfold k0_pay5 attend soft top scoreOf
  pointwise

theorem pay8_apply (v32 : FVec Ideal S512x1024 .bf16) (v57 v72 : Vec Ideal S1x256x256 .bf16) (r : Fin 512) (d : Fin 256) :
    k0_pay8 (k0_pay6 v32 v57) (k0_pay7 v72) (constant S512x256 .f32 0x00000000#32) (ix2 r d)
      = attend (fun d => v32 (ix2 r ⟨256 + d.val, by omega⟩)) (fun j d => v57 (ix3 0 j d)) (fun j d => v72 (ix3 0 j d)) d := by
  unfold k0_pay8 k0_pay6 k0_pay7 attend soft top scoreOf
  pointwise

theorem pay9_apply (v32 : FVec Ideal S512x1024 .bf16) (v80 v95 : Vec Ideal S1x256x256 .bf16) (r : Fin 512) (d : Fin 256) :
    k0_pay9 v32 v80 v95 (ix2 r d)
      = attend (fun d => v32 (ix2 r ⟨512 + d.val, by omega⟩)) (fun j d => v80 (ix3 0 j d)) (fun j d => v95 (ix3 0 j d)) d := by
  unfold k0_pay9 attend soft top scoreOf
  pointwise

theorem pay12_apply (v32 : FVec Ideal S512x1024 .bf16) (v103 v118 : Vec Ideal S1x256x256 .bf16) (r : Fin 512) (d : Fin 256) :
    k0_pay12 (k0_pay10 v32 v103) (k0_pay11 v32 v103) v118 (ix2 r d)
      = attend (fun d => v32 (ix2 r ⟨768 + d.val, by omega⟩)) (fun j d => v103 (ix3 0 j d)) (fun j d => v118 (ix3 0 j d)) d := by
  unfold k0_pay12 k0_pay11 k0_pay10 attend soft top scoreOf
  pointwise

theorem pay13_apply (v13 : FVec Ideal S512x1024 .f32) (v125 : Vec Ideal S512x1024 .bf16) (v126 : Vec Ideal S1024x1024 .bf16) (r : Fin 512) (e : Fin 1024) :
    k0_pay13 v13 v125 v126 (ix2 r e) = addMul (fun e => v13 (ix2 r e)) (fun k => v125 (ix2 r k)) (fun k e => v126 (ix2 k e)) e := by
  unfold k0_pay13 addMul
  pointwise

theorem pay14_apply (v13 : FVec Ideal S512x1024 .f32) (v125 : Vec Ideal S512x1024 .bf16) (v126 : Vec Ideal S1024x1024 .bf16) (v131 : Vec Ideal S1x1024 .f32)
    (r : Fin 512) (e : Fin 1024) :
    k0_pay14 v13 v125 v126 v131 (ix2 e r) = xn (fun e => k0_pay13 v13 v125 v126 (ix2 r e)) (fun k => v131 (ix2 0 k)) e := by
  unfold k0_pay14 xn
  pointwise

/-! ## The block's contents -/

theorem zero2 (a : Fin 2) : (![0, 0] : Fin 2 → ℕ) a = 0 := by
  match a with
  | ⟨0, _⟩ => rfl
  | ⟨1, _⟩ => rfl

section block

variable (x0 : Vec Ideal S512x1024 .f32) (x1 x2 : Vec Ideal S512x512 .bf16) (x3 x4 : Vec Ideal S1x256x1024 .bf16) (x5 : Vec Ideal S1024x1024 .bf16)
  (x6 : Vec Ideal S1x1024 .f32) (x7 x8 : Vec Ideal S1024x1024 .bf16) (x9 : Vec Ideal S1x1024 .f32)

/-- The block's rows after the output projection, and their queries. -/
def hB : FVec Ideal S512x1024 .f32 :=
  k0_pay1 x0 x1 x2 (View.ld x5 (Rect.unit (s := S1024x1024) ![0, 0] S512x1024.size inb_S1024x1024_S512x1024_0_0))
    (View.ld x5 (Rect.unit (s := S1024x1024) ![512, 0] S512x1024.size inb_S1024x1024_S512x1024_512_0))
def qB : FVec Ideal S512x1024 .bf16 :=
  k0_pay2 x0 x1 x2 (View.ld x5 (Rect.unit (s := S1024x1024) ![0, 0] S512x1024.size inb_S1024x1024_S512x1024_0_0))
    (View.ld x5 (Rect.unit (s := S1024x1024) ![512, 0] S512x1024.size inb_S1024x1024_S512x1024_512_0)) x6 x7

/-- The columns of one head of the keys or the values. -/
def colB (x : Vec Ideal S1x256x1024 .bf16) (o : ℕ) (inb : ∀ a, (![0, 0, o] : Fin 3 → ℕ) a + S1x256x256.size a ≤ S1x256x1024.size a) : Vec Ideal S1x256x256 .bf16 :=
  View.ld x (Rect.unit (s := S1x256x1024) ![0, 0, o] S1x256x256.size inb)

/-- The four heads' results, stored side by side (the last first). -/
def scr : List (View.Piece (Elt Ideal) S512x1024 .bf16) :=
  [⟨Rect.unit (s := S512x1024) ![0, 768] S512x256.size inb_S512x1024_S512x256_0_768,
      k0_pay12 (k0_pay10 (qB x0 x1 x2 x5 x6 x7) (colB x3 768 inb_S1x256x1024_S1x256x256_0_0_768)) (k0_pay11 (qB x0 x1 x2 x5 x6 x7) (colB x3 768 inb_S1x256x1024_S1x256x256_0_0_768)) (colB x4 768 inb_S1x256x1024_S1x256x256_0_0_768)⟩,
    ⟨Rect.unit (s := S512x1024) ![0, 512] S512x256.size inb_S512x1024_S512x256_0_512,
      k0_pay9 (qB x0 x1 x2 x5 x6 x7) (colB x3 512 inb_S1x256x1024_S1x256x256_0_0_512) (colB x4 512 inb_S1x256x1024_S1x256x256_0_0_512)⟩,
    ⟨Rect.unit (s := S512x1024) ![0, 256] S512x256.size inb_S512x1024_S512x256_0_256,
      k0_pay8 (k0_pay6 (qB x0 x1 x2 x5 x6 x7) (colB x3 256 inb_S1x256x1024_S1x256x256_0_0_256)) (k0_pay7 (colB x4 256 inb_S1x256x1024_S1x256x256_0_0_256)) (constant S512x256 .f32 0x00000000#32)⟩,
    ⟨Rect.unit (s := S512x1024) ![0, 0] S512x256.size inb_S512x1024_S512x256_0_0,
      k0_pay5 (k0_pay3 x0 x1 x2 (View.ld x5 (Rect.unit (s := S1024x1024) ![0, 0] S512x1024.size inb_S1024x1024_S512x1024_0_0))
        (View.ld x5 (Rect.unit (s := S1024x1024) ![512, 0] S512x1024.size inb_S1024x1024_S512x1024_512_0)) x6 x7)
        (k0_pay4 (colB x3 0 inb_S1x256x1024_S1x256x256_0_0_0)) (colB x4 0 inb_S1x256x1024_S1x256x256_0_0_0)⟩]

/-- The scratch read back, whole. -/
def crossB : Vec Ideal S512x1024 .bf16 :=
  View.ld (View.canon (scr x0 x1 x2 x3 x4 x5 x6 x7)) (Rect.unit (s := S512x1024) ![0, 0] S512x1024.size inb_S512x1024_S512x1024_0_0)

/-- A load of a buffer that holds `x` reads `x` at the load's indices. -/
theorem rd {s : Shape} {e : EltTy} (a : Memref sig .tc .vmem s e) (h : a.IsWhole) (x : Vec Ideal s e) (r : Rect s) :
    View.readAt (Elt Ideal) a.view r.toLoadRect (h.unread x) = View.ld x r := by
  rw [View.readAt_eq_ld, h.read_unread]

theorem word_h (c : Dev nD) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg6 : Memref sig .tc .vmem S1024x1024 .bf16) (harg6 : arg6.IsWhole) :
    kernelRun0_A.sl.r c arg1 harg1 arg2 harg2 arg3 harg3 arg6 harg6 x0 x1 x2 x5 = hB x0 x1 x2 x5 := by
  unfold kernelRun0_A.sl.r hB
  rw [rd, rd, rd, rd, rd, View.ld_unit_lit (h := zero2), View.ld_unit_lit (h := zero2), View.ld_unit_lit (h := zero2)]
theorem word_q (c : Dev nD) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) :
    kernelRun0_A.sl.r_1 c arg1 harg1 arg2 harg2 arg3 harg3 arg6 harg6 arg7 harg7 arg8 harg8 x0 x1 x2 x5 x6 x7 = qB x0 x1 x2 x5 x6 x7 := by
  unfold kernelRun0_A.sl.r_1 qB
  rw [rd, rd, rd, rd, rd, rd, rd, View.ld_unit_lit (h := zero2), View.ld_unit_lit (h := zero2), View.ld_unit_lit (h := zero2), View.ld_unit_lit (h := zero2), View.ld_unit_lit (h := zero2)]
theorem word_q0 (c : Dev nD) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) :
    kernelRun0_A.sl.r_2 c arg1 harg1 arg2 harg2 arg3 harg3 arg6 harg6 arg7 harg7 arg8 harg8 x0 x1 x2 x5 x6 x7
      = k0_pay3 x0 x1 x2 (View.ld x5 (Rect.unit (s := S1024x1024) ![0, 0] S512x1024.size inb_S1024x1024_S512x1024_0_0))
        (View.ld x5 (Rect.unit (s := S1024x1024) ![512, 0] S512x1024.size inb_S1024x1024_S512x1024_512_0)) x6 x7 := by
  unfold kernelRun0_A.sl.r_2
  rw [rd, rd, rd, rd, rd, rd, rd, View.ld_unit_lit (h := zero2), View.ld_unit_lit (h := zero2), View.ld_unit_lit (h := zero2), View.ld_unit_lit (h := zero2), View.ld_unit_lit (h := zero2)]

theorem word_scr (c : Dev nD) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) :
    kernelRun0_A.sl.HS0_4 c arg1 harg1 arg2 harg2 arg3 harg3 arg4 harg4 arg5 harg5 arg6 harg6 arg7 harg7 arg8 harg8 x0 x1 x2 x3 x4 x5 x6 x7 = scr x0 x1 x2 x3 x4 x5 x6 x7 := by
  unfold kernelRun0_A.sl.HS0_4 kernelRun0_A.sl.r_3 kernelRun0_A.sl.r_4 kernelRun0_A.sl.r_5 kernelRun0_A.sl.r_6 kernelRun0_A.sl.r_7 kernelRun0_A.sl.cst_39 scr colB
  simp only [rd, word_q, word_q0]
theorem word_cross (c : Dev nD) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg13 : Memref sig .tc .vmem S512x1024 .bf16) :
    kernelRun0_A.sl.v125 c arg1 harg1 arg2 harg2 arg3 harg3 arg4 harg4 arg5 harg5 arg6 harg6 arg7 harg7 arg8 harg8 arg13 x0 x1 x2 x3 x4 x5 x6 x7 = crossB x0 x1 x2 x3 x4 x5 x6 x7 := by
  unfold kernelRun0_A.sl.v125 crossB
  rw [word_scr]
  exact View.readCov_eq_canon' _ _ _

theorem out10_eq (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .bf16) (harg12 : arg12.IsWhole) (arg13 : Memref sig .tc .vmem S512x1024 .bf16) (harg13 : arg13.IsWhole) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = k0_pay13 (hB x0 x1 x2 x5) (crossB x0 x1 x2 x3 x4 x5 x6 x7) x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  refine (View.canon_cons_unit_lit (S := S512x1024) inb_S512x1024_S512x1024_0_0 _ [] zero2).trans ?_
  rw [word_h, word_cross, rd, View.ld_unit_lit (h := zero2)]

theorem out11_eq (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .bf16) (harg12 : arg12.IsWhole) (arg13 : Memref sig .tc .vmem S512x1024 .bf16) (harg13 : arg13.IsWhole) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = k0_pay14 (hB x0 x1 x2 x5) (crossB x0 x1 x2 x3 x4 x5 x6 x7) x8 x9 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  refine (View.canon_cons_unit_lit (S := S1024x512) inb_S1024x512_S1024x512_0_0 _ [] zero2).trans ?_
  unfold kernelRun0_A.sl.r_8
  rw [word_h, word_cross, rd, rd, View.ld_unit_lit (h := zero2), View.ld_unit_lit (h := zero2)]

/-! ## At an index -/

theorem ld_rows (o : ℕ) (ho : o + 512 ≤ 1024) (inb) (k : Fin 512) (e : Fin 1024) :
    View.ld x5 (Rect.unit (s := S1024x1024) ![o, 0] S512x1024.size inb) (ix2 k e) = x5 (ix2 ⟨o + k.val, by omega⟩ e) := by
  refine View.ld_unit_apply_of x5 ![o, 0] S512x1024.size inb (ix2 k e) _ fun a => ?_
  match a with
  | ⟨0, _⟩ => rfl
  | ⟨1, _⟩ => exact (Nat.zero_add _).symm

theorem colB_apply (x : Vec Ideal S1x256x1024 .bf16) (o : ℕ) (ho : o + 256 ≤ 1024) (inb) (j d : Fin 256) :
    colB x o inb (ix3 0 j d) = x (ix3 0 j ⟨o + d.val, by omega⟩) := by
  refine View.ld_unit_apply_of x ![0, 0, o] S1x256x256.size inb (ix3 0 j d) _ fun a => ?_
  match a with
  | ⟨0, _⟩ => rfl
  | ⟨1, _⟩ => exact (Nat.zero_add _).symm
  | ⟨2, _⟩ => rfl

/-- The row `r` of the block after the output projection, its query, and its attention. -/
def hRow (r : Fin 512) : Fin 1024 → EReal :=
  mixRow (fun e => x0 (ix2 r e)) (fun k => x1 (ix2 r k)) (fun k => x2 (ix2 r k)) (fun k e => x5 (ix2 k e))
def qRow (r : Fin 512) (e : Fin 1024) : EReal := lin (hRow x0 x1 x2 x5 r) (fun k => x6 (ix2 0 k)) (fun k => x7 (ix2 k e))
def cRow (r : Fin 512) : Fin 1024 → EReal :=
  cross (qRow x0 x1 x2 x5 x6 x7 r) (fun j e => x3 (ix3 0 j e)) (fun j e => x4 (ix3 0 j e))

theorem hB_apply (r : Fin 512) (e : Fin 1024) : hB x0 x1 x2 x5 (ix2 r e) = hRow x0 x1 x2 x5 r e := by
  unfold hB hRow mixRow
  rw [pay1_apply]
  simp only [ld_rows x5 0 (by norm_num), ld_rows x5 512 (by norm_num)]
theorem qB_apply (r : Fin 512) (e : Fin 1024) : qB x0 x1 x2 x5 x6 x7 (ix2 r e) = qRow x0 x1 x2 x5 x6 x7 r e := by
  unfold qB qRow
  rw [pay2_apply]
  exact congrArg (fun h => lin h _ _) (funext fun k => hB_apply x0 x1 x2 x5 r k)

/-- A store of one head's columns is `G` there when its payload is. -/
theorem piece_apply (o : ℕ) (ho : o + 256 ≤ 1024) (inb) (G : S512x1024.Idx → EReal) (pay : FVec Ideal S512x256 .bf16)
    (h : ∀ (r : Fin 512) (d : Fin 256), pay (ix2 r d) = G (ix2 r ⟨o + d.val, by omega⟩)) (x : S512x256.Idx) :
    pay x = G ((Rect.unit (s := S512x1024) ![0, o] S512x256.size inb).emb x) := by
  have hx : x = ix2 (x 0) (x 1) := by
    funext a
    match a with
    | ⟨0, _⟩ => rfl
    | ⟨1, _⟩ => rfl
  refine (congrArg pay hx).trans ((h (x 0) (x 1)).trans (congrArg G ?_))
  funext a
  refine Fin.ext (Eq.trans ?_ (Rect.idx_unit_val (s := S512x1024) ![0, o] S512x256.size inb x a).symm)
  match a with
  | ⟨0, _⟩ => exact (Nat.zero_add _).symm
  | ⟨1, _⟩ => rfl

/-- The attention's rows, as the scratch's contents. -/
def G (y : S512x1024.Idx) : EReal := cRow x0 x1 x2 x3 x4 x5 x6 x7 (y 0) (y 1)

theorem head_eq (o : ℕ) (ho : o + 256 ≤ 1024) (hm : o % 256 = 0) (inb) (r : Fin 512) (d : Fin 256) :
    attend (fun d => qB x0 x1 x2 x5 x6 x7 (ix2 r ⟨o + d.val, by omega⟩)) (fun j d => colB x3 o inb (ix3 0 j d)) (fun j d => colB x4 o inb (ix3 0 j d)) d
      = G x0 x1 x2 x3 x4 x5 x6 x7 (ix2 r ⟨o + d.val, by omega⟩) := by
  have e : G x0 x1 x2 x3 x4 x5 x6 x7 (ix2 r ⟨o + d.val, by omega⟩)
      = headAt (qRow x0 x1 x2 x5 x6 x7 r) (fun j e => x3 (ix3 0 j e)) (fun j e => x4 (ix3 0 j e)) o ho d :=
    cross_head (qRow x0 x1 x2 x5 x6 x7 r) (fun j e => x3 (ix3 0 j e)) (fun j e => x4 (ix3 0 j e)) o ho hm d
  rw [e]
  unfold headAt
  simp only [qB_apply, colB_apply _ o ho]

theorem scr_cover (y : S512x1024.Idx) : ∃ p ∈ scr x0 x1 x2 x3 x4 x5 x6 x7, y ∈ p.1.set :=
  View.cover_of_tiledL (scr x0 x1 x2 x3 x4 x5 x6 x7) S512x256.size (by sl_kernel_rfl) y

theorem scr_apply (y : S512x1024.Idx) : View.canon (scr x0 x1 x2 x3 x4 x5 x6 x7) y = G x0 x1 x2 x3 x4 x5 x6 x7 y := by
  refine View.canon_apply_of_pieces (Val := Elt Ideal) (G x0 x1 x2 x3 x4 x5 x6 x7) _ (fun p hp x => ?_) y (scr_cover x0 x1 x2 x3 x4 x5 x6 x7 y)
  rcases List.mem_cons.1 hp with rfl | hp
  · refine piece_apply 768 (by norm_num) inb_S512x1024_S512x256_0_768 (G x0 x1 x2 x3 x4 x5 x6 x7)
      (k0_pay12 (k0_pay10 (qB x0 x1 x2 x5 x6 x7) (colB x3 768 inb_S1x256x1024_S1x256x256_0_0_768)) (k0_pay11 (qB x0 x1 x2 x5 x6 x7) (colB x3 768 inb_S1x256x1024_S1x256x256_0_0_768)) (colB x4 768 inb_S1x256x1024_S1x256x256_0_0_768)) (fun r d => ?_) x
    exact (pay12_apply _ _ _ r d).trans (head_eq x0 x1 x2 x3 x4 x5 x6 x7 768 (by norm_num) (by norm_num) _ r d)
  rcases List.mem_cons.1 hp with rfl | hp
  · refine piece_apply 512 (by norm_num) inb_S512x1024_S512x256_0_512 (G x0 x1 x2 x3 x4 x5 x6 x7)
      (k0_pay9 (qB x0 x1 x2 x5 x6 x7) (colB x3 512 inb_S1x256x1024_S1x256x256_0_0_512) (colB x4 512 inb_S1x256x1024_S1x256x256_0_0_512)) (fun r d => ?_) x
    exact (pay9_apply _ _ _ r d).trans (head_eq x0 x1 x2 x3 x4 x5 x6 x7 512 (by norm_num) (by norm_num) _ r d)
  rcases List.mem_cons.1 hp with rfl | hp
  · refine piece_apply 256 (by norm_num) inb_S512x1024_S512x256_0_256 (G x0 x1 x2 x3 x4 x5 x6 x7)
      (k0_pay8 (k0_pay6 (qB x0 x1 x2 x5 x6 x7) (colB x3 256 inb_S1x256x1024_S1x256x256_0_0_256)) (k0_pay7 (colB x4 256 inb_S1x256x1024_S1x256x256_0_0_256)) (constant S512x256 .f32 0x00000000#32)) (fun r d => ?_) x
    exact (pay8_apply _ _ _ r d).trans (head_eq x0 x1 x2 x3 x4 x5 x6 x7 256 (by norm_num) (by norm_num) _ r d)
  rcases List.mem_cons.1 hp with rfl | hp
  · refine piece_apply 0 (by norm_num) inb_S512x1024_S512x256_0_0 (G x0 x1 x2 x3 x4 x5 x6 x7)
      (k0_pay5 (k0_pay3 x0 x1 x2 (View.ld x5 (Rect.unit (s := S1024x1024) ![0, 0] S512x1024.size inb_S1024x1024_S512x1024_0_0))
        (View.ld x5 (Rect.unit (s := S1024x1024) ![512, 0] S512x1024.size inb_S1024x1024_S512x1024_512_0)) x6 x7)
        (k0_pay4 (colB x3 0 inb_S1x256x1024_S1x256x256_0_0_0)) (colB x4 0 inb_S1x256x1024_S1x256x256_0_0_0)) (fun r d => ?_) x
    refine (pay5_apply _ _ _ r d).trans (Eq.trans ?_ (head_eq x0 x1 x2 x3 x4 x5 x6 x7 0 (by norm_num) (by norm_num) inb_S1x256x1024_S1x256x256_0_0_0 r d))
    simp only [pay3_apply, pay4_apply]
    rfl
  exact absurd hp List.not_mem_nil

theorem crossB_apply (r : Fin 512) (e : Fin 1024) : crossB x0 x1 x2 x3 x4 x5 x6 x7 (ix2 r e) = cRow x0 x1 x2 x3 x4 x5 x6 x7 r e := by
  unfold crossB
  rw [View.ld_unit_lit (h := zero2)]
  exact scr_apply x0 x1 x2 x3 x4 x5 x6 x7 (ix2 r e)

/-- The block's result, and its normalised transpose. -/
def oRow (r : Fin 512) : Fin 1024 → EReal :=
  after (hRow x0 x1 x2 x5 r) (fun k => x6 (ix2 0 k)) (fun k e => x7 (ix2 k e)) (fun k e => x8 (ix2 k e)) (fun j e => x3 (ix3 0 j e)) (fun j e => x4 (ix3 0 j e))

theorem res10_apply (r : Fin 512) (e : Fin 1024) :
    k0_pay13 (hB x0 x1 x2 x5) (crossB x0 x1 x2 x3 x4 x5 x6 x7) x8 (ix2 r e) = oRow x0 x1 x2 x3 x4 x5 x6 x7 x8 r e := by
  rw [pay13_apply]
  simp only [hB_apply, crossB_apply]
  rfl
theorem res11_apply (r : Fin 512) (e : Fin 1024) :
    k0_pay14 (hB x0 x1 x2 x5) (crossB x0 x1 x2 x3 x4 x5 x6 x7) x8 x9 (ix2 e r)
      = xn (oRow x0 x1 x2 x3 x4 x5 x6 x7 x8 r) (fun k => x9 (ix2 0 k)) e := by
  rw [pay14_apply]
  simp only [res10_apply]

end block

end Cert.Kernel4Ideal.Mix

end
-- ==== Proof.Mix.Arr.lean ====
module

public import proofs.«01_k».proof.Proof.Mix.Block
public import Idealize.ShloMosaic.Lib.StableHlo.RunRead

/-! The output projection and the cross attention: the arrays the blocks come from, and the two arrays the call leaves. -/

@[expose] public section

set_option maxRecDepth 16384

noncomputable section

namespace Cert.Kernel4Ideal.Mix

open Cert.Kernel4Ideal Cert.Kernel4Ideal.Gen Cert.Proj Cert.Mix
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-- The arguments at their coordinates; the memory's keys and values with their heads' columns side by side. -/
def xA (b : Fin 4) (i : Fin 4096) (k : Fin 1024) : EReal := (m (c, main_arg0) : FVec Ideal S4x4096x1024 .f32) (ix3 b i k)
def rA (b : Fin 4) (i : Fin 4096) (k : Fin 512) : EReal := (m (c, main_arg1) : FVec Ideal S4x4096x512 .f32) (ix3 b i k)
def dA (b : Fin 4) (i : Fin 4096) (k : Fin 512) : EReal := (m (c, main_arg2) : FVec Ideal S4x4096x512 .f32) (ix3 b i k)
def kA (b : Fin 4) (j : Fin 256) (e : Fin 1024) : EReal := (m (c, main_arg3) : FVec Ideal S4x256x4x256 .f32) (ix4 b j (fh e) (fd e))
def vA (b : Fin 4) (j : Fin 256) (e : Fin 1024) : EReal := (m (c, main_arg4) : FVec Ideal S4x256x4x256 .f32) (ix4 b j (fh e) (fd e))
def wA (k e : Fin 1024) : EReal := (m (c, main_arg5) : FVec Ideal S1024x1024 .f32) (ix2 k e)
def gcA (k : Fin 1024) : EReal := (m (c, main_arg6) : FVec Ideal S1024 .f32) (ix1 k)
def wqA (k e : Fin 1024) : EReal := (m (c, main_arg7) : FVec Ideal S1024x1024 .f32) (ix2 k e)
def wmA (k e : Fin 1024) : EReal := (m (c, main_arg8) : FVec Ideal S1024x1024 .f32) (ix2 k e)
def gfA (k : Fin 1024) : EReal := (m (c, main_arg9) : FVec Ideal S1024 .f32) (ix1 k)

/-! ## The arrays -/

theorem resh_x (A : FVec Ideal S4x4096x1024 .f32) (b : Fin 4) (i : Fin 4096) (k : Fin 1024) :
    (shapeCast S16384x1024 A shapeCasts_S4x4096x1024_S16384x1024 : FVec Ideal S16384x1024 .f32) (ix2 ⟨b.val * 4096 + i.val, by omega⟩ k) = A (ix3 b i k) := by
  pointwise
theorem resh_r (A : FVec Ideal S4x4096x512 .bf16) (b : Fin 4) (i : Fin 4096) (k : Fin 512) :
    (shapeCast S16384x512 A shapeCasts_S4x4096x512_S16384x512 : FVec Ideal S16384x512 .bf16) (ix2 ⟨b.val * 4096 + i.val, by omega⟩ k) = A (ix3 b i k) := by
  pointwise
theorem resh_k4 (A : FVec Ideal S4x256x4x256 .bf16) (b : Fin 4) (j : Fin 256) (h : Fin 4) (d : Fin 256) :
    (shapeCast S4x256x1024 A shapeCasts_S4x256x4x256_S4x256x1024 : FVec Ideal S4x256x1024 .bf16) (ix3 b j ⟨h.val * 256 + d.val, by omega⟩) = A (ix4 b j h d) := by
  pointwise
theorem resh_g (A : FVec Ideal S1024 .f32) (k : Fin 1024) :
    (shapeCast S1x1024 A shapeCasts_S1024_S1x1024 : FVec Ideal S1x1024 .f32) (ix2 0 k) = A (ix1 k) := by
  pointwise

/-- A column is its head's start plus its place in the head. -/
theorem col_eq (e : Fin 1024) : e = ⟨(fh e).val * 256 + (fd e).val, by omega⟩ :=
  Fin.ext (by show e.val = e.val / 256 * 256 + e.val % 256; omega)

theorem resh_k (A : FVec Ideal S4x256x4x256 .bf16) (b : Fin 4) (j : Fin 256) (e : Fin 1024) :
    (shapeCast S4x256x1024 A shapeCasts_S4x256x4x256_S4x256x1024 : FVec Ideal S4x256x1024 .bf16) (ix3 b j e) = A (ix4 b j (fh e) (fd e)) :=
  (congrArg (fun e => (shapeCast S4x256x1024 A shapeCasts_S4x256x4x256_S4x256x1024 : FVec Ideal S4x256x1024 .bf16) (ix3 b j e)) (col_eq e)).trans (resh_k4 A b j (fh e) (fd e))

def arrX : FVec Ideal S16384x1024 .f32 := V m c main_v0
def arrR : FVec Ideal S16384x512 .bf16 := V m c main_v2
def arrD : FVec Ideal S16384x512 .bf16 := V m c main_v4
def arrK : FVec Ideal S4x256x1024 .bf16 := V m c main_v6
def arrV : FVec Ideal S4x256x1024 .bf16 := V m c main_v8
def arrW : FVec Ideal S1024x1024 .bf16 := V m c main_v9
def arrGc : FVec Ideal S1x1024 .f32 := V m c main_v10
def arrWq : FVec Ideal S1024x1024 .bf16 := V m c main_v11
def arrWm : FVec Ideal S1024x1024 .bf16 := V m c main_v12
def arrGf : FVec Ideal S1x1024 .f32 := V m c main_v13

theorem arrX_apply (b : Fin 4) (i : Fin 4096) (k : Fin 1024) : arrX m c (ix2 ⟨b.val * 4096 + i.val, by omega⟩ k) = xA m c b i k := by
  refine Eq.trans (congrFun ?_ _) (resh_x (m (c, main_arg0) : FVec Ideal S4x4096x1024 .f32) b i k)
  unfold arrX
  after_reads_simp
  rfl
theorem arrR_apply (b : Fin 4) (i : Fin 4096) (k : Fin 512) : arrR m c (ix2 ⟨b.val * 4096 + i.val, by omega⟩ k) = rA m c b i k := by
  refine Eq.trans (congrFun ?_ _) (resh_r (truncf .bf16 (m (c, main_arg1) : FVec Ideal S4x4096x512 .f32) bitsLt_bf16_f32) b i k)
  unfold arrR
  after_reads_simp
  rfl
theorem arrD_apply (b : Fin 4) (i : Fin 4096) (k : Fin 512) : arrD m c (ix2 ⟨b.val * 4096 + i.val, by omega⟩ k) = dA m c b i k := by
  refine Eq.trans (congrFun ?_ _) (resh_r (truncf .bf16 (m (c, main_arg2) : FVec Ideal S4x4096x512 .f32) bitsLt_bf16_f32) b i k)
  unfold arrD
  after_reads_simp
  rfl
theorem arrK_apply (b : Fin 4) (j : Fin 256) (e : Fin 1024) : arrK m c (ix3 b j e) = kA m c b j e := by
  refine Eq.trans (congrFun ?_ _) (resh_k (truncf .bf16 (m (c, main_arg3) : FVec Ideal S4x256x4x256 .f32) bitsLt_bf16_f32) b j e)
  unfold arrK
  after_reads_simp
  rfl
theorem arrV_apply (b : Fin 4) (j : Fin 256) (e : Fin 1024) : arrV m c (ix3 b j e) = vA m c b j e := by
  refine Eq.trans (congrFun ?_ _) (resh_k (truncf .bf16 (m (c, main_arg4) : FVec Ideal S4x256x4x256 .f32) bitsLt_bf16_f32) b j e)
  unfold arrV
  after_reads_simp
  rfl
theorem arrGc_apply (k : Fin 1024) : arrGc m c (ix2 0 k) = gcA m c k := by
  refine Eq.trans (congrFun ?_ _) (resh_g (m (c, main_arg6) : FVec Ideal S1024 .f32) k)
  unfold arrGc
  after_reads_simp
  rfl
theorem arrGf_apply (k : Fin 1024) : arrGf m c (ix2 0 k) = gfA m c k := by
  refine Eq.trans (congrFun ?_ _) (resh_g (m (c, main_arg9) : FVec Ideal S1024 .f32) k)
  unfold arrGf
  after_reads_simp
  rfl
theorem arrW_apply (k e : Fin 1024) : arrW m c (ix2 k e) = wA m c k e := by
  unfold arrW wA
  refine congrFun ?_ (ix2 k e)
  after_reads_simp
  rfl
theorem arrWq_apply (k e : Fin 1024) : arrWq m c (ix2 k e) = wqA m c k e := by
  unfold arrWq wqA
  refine congrFun ?_ (ix2 k e)
  after_reads_simp
  rfl
theorem arrWm_apply (k e : Fin 1024) : arrWm m c (ix2 k e) = wmA m c k e := by
  unfold arrWm wmA
  refine congrFun ?_ (ix2 k e)
  after_reads_simp
  rfl

/-! ## The blocks -/

theorem grid_in : ∀ t : Fin grid0.N, win0_0.index t = ![t.val, 0] ∧ win0_1.index t = ![t.val, 0] ∧ win0_2.index t = ![t.val, 0]
    ∧ win0_3.index t = ![t.val / 8, 0, 0] ∧ win0_4.index t = ![t.val / 8, 0, 0] := by
  decide +kernel
theorem grid_w : ∀ t : Fin grid0.N, win0_5.index t = ![0, 0] ∧ win0_6.index t = ![0, 0] ∧ win0_7.index t = ![0, 0] ∧ win0_8.index t = ![0, 0] ∧ win0_9.index t = ![0, 0] := by
  decide +kernel
theorem grid_out : ∀ t : Fin grid0.N, win0_10.index t = ![t.val, 0] ∧ win0_11.index t = ![0, t.val] := by
  decide +kernel

variable (t : Fin cfg0.N)

theorem t_lt : t.val < 32 := t.isLt

/-- The point's row of the batch, and the position of its block's row. -/
def tb : Fin 4 := ⟨t.val / 8, Nat.div_lt_of_lt_mul (t_lt t)⟩
def ti (r : Fin 512) : Fin 4096 := ⟨t.val % 8 * 512 + r.val, by omega⟩

theorem blkX (r : Fin 512) (k : Fin 1024) : iblk m c 0 t (ix2 r k) = xA m c (tb t) (ti t r) k := by
  rw [← arrX_apply]
  have e1 := (grid_in t).1
  unfold tb ti arrX
  blk_ext [iblk, e1]
theorem blkR (r : Fin 512) (k : Fin 512) : iblk m c 1 t (ix2 r k) = rA m c (tb t) (ti t r) k := by
  rw [← arrR_apply]
  have e1 := (grid_in t).2.1
  unfold tb ti arrR
  blk_ext [iblk, e1]
theorem blkD (r : Fin 512) (k : Fin 512) : iblk m c 2 t (ix2 r k) = dA m c (tb t) (ti t r) k := by
  rw [← arrD_apply]
  have e1 := (grid_in t).2.2.1
  unfold tb ti arrD
  blk_ext [iblk, e1]
theorem blkK (j : Fin 256) (e : Fin 1024) : iblk m c 3 t (ix3 0 j e) = kA m c (tb t) j e := by
  rw [← arrK_apply]
  have e1 := (grid_in t).2.2.2.1
  unfold tb arrK
  blk_ext [iblk, e1]
theorem blkV (j : Fin 256) (e : Fin 1024) : iblk m c 4 t (ix3 0 j e) = vA m c (tb t) j e := by
  rw [← arrV_apply]
  have e1 := (grid_in t).2.2.2.2
  unfold tb arrV
  blk_ext [iblk, e1]
theorem blkW (k e : Fin 1024) : iblk m c 5 t (ix2 k e) = wA m c k e := by
  rw [← arrW_apply]
  have e1 := (grid_w t).1
  unfold arrW
  blk_ext [iblk, e1]
theorem blkWq (k e : Fin 1024) : iblk m c 7 t (ix2 k e) = wqA m c k e := by
  rw [← arrWq_apply]
  have e1 := (grid_w t).2.2.1
  unfold arrWq
  blk_ext [iblk, e1]
theorem blkWm (k e : Fin 1024) : iblk m c 8 t (ix2 k e) = wmA m c k e := by
  rw [← arrWm_apply]
  have e1 := (grid_w t).2.2.2.1
  unfold arrWm
  blk_ext [iblk, e1]
theorem blkGc (k : Fin 1024) : iblk m c 6 t (ix2 0 k) = gcA m c k := by
  rw [← arrGc_apply]
  have e1 := (grid_w t).2.1
  unfold arrGc
  blk_ext [iblk, e1]
theorem blkGf (k : Fin 1024) : iblk m c 9 t (ix2 0 k) = gfA m c k := by
  rw [← arrGf_apply]
  have e1 := (grid_w t).2.2.2.2
  unfold arrGf
  blk_ext [iblk, e1]

/-! ## The outputs -/

/-- The batch row and the position of a flat row. -/
def fb (y : Fin 16384) : Fin 4 := ⟨y.val / 4096, Nat.div_lt_of_lt_mul y.isLt⟩
def fi (y : Fin 16384) : Fin 4096 := ⟨y.val % 4096, Nat.mod_lt _ (by norm_num)⟩

/-- The row after the cross attention at a position, and the two arrays. -/
def mixAt (b : Fin 4) (i : Fin 4096) : Fin 1024 → EReal := mixRow (xA m c b i) (rA m c b i) (dA m c b i) (wA m c)
def outAt (b : Fin 4) (i : Fin 4096) : Fin 1024 → EReal := after (mixAt m c b i) (gcA m c) (wqA m c) (wmA m c) (kA m c b) (vA m c b)
def hArr (y : S16384x1024.Idx) : EReal := outAt m c (fb (y 0)) (fi (y 0)) (y 1)
def xtArr (y : S1024x16384.Idx) : EReal := xn (outAt m c (fb (y 1)) (fi (y 1))) (gfA m c) (y 0)

theorem oRow_blk (r : Fin 512) :
    oRow (iblk m c 0 t) (iblk m c 1 t) (iblk m c 2 t) (iblk m c 3 t) (iblk m c 4 t) (iblk m c 5 t) (iblk m c 6 t) (iblk m c 7 t) (iblk m c 8 t) r = outAt m c (tb t) (ti t r) := by
  unfold oRow hRow outAt mixAt
  simp only [blkX, blkR, blkD, blkK, blkV, blkW, blkGc, blkWq, blkWm]

theorem row_at (r : Fin 512) (y : Fin 16384) (h0 : y.val = t.val * 512 + r.val) : tb t = fb y ∧ ti t r = fi y := by
  constructor
  · exact Fin.ext (by show t.val / 8 = y.val / 4096; omega)
  · exact Fin.ext (by show t.val % 8 * 512 + r.val = y.val % 4096; omega)

theorem h_at (r : Fin 512) (e : Fin 1024) (y : S16384x1024.Idx) (h0 : (y 0).val = t.val * 512 + r.val) (h1 : (y 1).val = e.val) :
    oRow (iblk m c 0 t) (iblk m c 1 t) (iblk m c 2 t) (iblk m c 3 t) (iblk m c 4 t) (iblk m c 5 t) (iblk m c 6 t) (iblk m c 7 t) (iblk m c 8 t) r e = hArr m c y := by
  obtain ⟨hb, hi⟩ := row_at t r (y 0) h0
  rw [oRow_blk, hb, hi, show e = y 1 from Fin.ext h1.symm]
  rfl
theorem xt_at (e : Fin 1024) (r : Fin 512) (y : S1024x16384.Idx) (h0 : (y 0).val = e.val) (h1 : (y 1).val = t.val * 512 + r.val) :
    xn (oRow (iblk m c 0 t) (iblk m c 1 t) (iblk m c 2 t) (iblk m c 3 t) (iblk m c 4 t) (iblk m c 5 t) (iblk m c 6 t) (iblk m c 7 t) (iblk m c 8 t) r) (fun k => iblk m c 9 t (ix2 0 k)) e = xtArr m c y := by
  obtain ⟨hb, hi⟩ := row_at t r (y 1) h1
  simp only [blkGf]
  rw [oRow_blk, hb, hi, show e = y 0 from Fin.ext h0.symm]
  rfl

theorem idx_h (y : S512x1024.Idx) : y = ix2 (y 0) (y 1) := by
  funext a
  match a with
  | ⟨0, _⟩ => rfl
  | ⟨1, _⟩ => rfl
theorem idx_xt (y : S1024x512.Idx) : y = ix2 (y 0) (y 1) := by
  funext a
  match a with
  | ⟨0, _⟩ => rfl
  | ⟨1, _⟩ => rfl

theorem covers10 : (cfg0.win 10).Covers := by decide +kernel
theorem covers11 : (cfg0.win 11).Covers := by decide +kernel

theorem outs_h : (outsAt0 m c t).1 = k0_pay13 (hB (iblk m c 0 t) (iblk m c 1 t) (iblk m c 2 t) (iblk m c 5 t)) (crossB (iblk m c 0 t) (iblk m c 1 t) (iblk m c 2 t) (iblk m c 3 t) (iblk m c 4 t) (iblk m c 5 t) (iblk m c 6 t) (iblk m c 7 t)) (iblk m c 8 t) := by
  have e := out10_eq (iblk m c 0 t) (iblk m c 1 t) (iblk m c 2 t) (iblk m c 3 t) (iblk m c 4 t) (iblk m c 5 t) (iblk m c 6 t) (iblk m c 7 t) (iblk m c 8 t) (iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
  unfold outsAt0
  dsimp only
  exact e
theorem outs_xt : (outsAt0 m c t).2 = k0_pay14 (hB (iblk m c 0 t) (iblk m c 1 t) (iblk m c 2 t) (iblk m c 5 t)) (crossB (iblk m c 0 t) (iblk m c 1 t) (iblk m c 2 t) (iblk m c 3 t) (iblk m c 4 t) (iblk m c 5 t) (iblk m c 6 t) (iblk m c 7 t)) (iblk m c 8 t) (iblk m c 9 t) := by
  have e := out11_eq (iblk m c 0 t) (iblk m c 1 t) (iblk m c 2 t) (iblk m c 3 t) (iblk m c 4 t) (iblk m c 5 t) (iblk m c 6 t) (iblk m c 7 t) (iblk m c 8 t) (iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
  unfold outsAt0
  dsimp only
  exact e

theorem arr10 : (dats m 0 c).arrAt 10 cfg0.N = fun y : S16384x1024.Idx => hArr m c y := by
  refine (dats m 0 c).arrAt_eq_of_covers 10 _ covers10 fun t hf y => ?_
  have e1 := (grid_out t).1
  blk_simp
  rw [after0_10, outs_h]
  refine (congrArg _ (idx_h y)).trans ((res10_apply _ _ _ _ _ _ _ _ _ (y 0) (y 1)).trans (h_at m c t (y 0) (y 1) _ ?_ ?_))
  · blk_simp [e1]
  · blk_simp [e1]

theorem arr11 : (dats m 0 c).arrAt 11 cfg0.N = fun y : S1024x16384.Idx => xtArr m c y := by
  refine (dats m 0 c).arrAt_eq_of_covers 11 _ covers11 fun t hf y => ?_
  have e1 := (grid_out t).2
  blk_simp
  rw [after0_11, outs_xt]
  refine (congrArg _ (idx_xt y)).trans ((res11_apply _ _ _ _ _ _ _ _ _ _ (y 1) (y 0)).trans (xt_at m c t (y 0) (y 1) _ ?_ ?_))
  · blk_simp [e1]
  · blk_simp [e1]

/-- The run, with the values of the two arrays. -/
theorem run_value (ρ : Dev nD → PrngReg) : θ_run defs (onTc (τ := τ) (main (F := Ideal))) ⟨m, fun _ => 0, ρ⟩ fun r => ∀ c : Dev nD,
      r.2.mem ((c : Thread nD τ).loc main_v14_0) = (fun y : S16384x1024.Idx => hArr m c y)
      ∧ r.2.mem ((c : Thread nD τ).loc main_v14_1) = (fun y : S1024x16384.Idx => xtArr m c y)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (arr10 m c), (h c).2.1.trans (arr11 m c), (h c).2.2⟩) (Value.run_blocks m ρ)

end Cert.Kernel4Ideal.Mix

end
-- ==== Proof.Mix.Ref.lean ====
module

public import proofs.«01_k».proof.Proof.Mix.Arr
public import proofs.«01_k».proof.Proof.Gen.Reference4Ideal.Run

/-! The reference of the output projection and the cross attention at an index: the same two arrays. -/

@[expose] public section

set_option maxRecDepth 16384

noncomputable section

namespace Cert.Reference4Ideal.Mix

open Cert.Reference4Ideal Cert.Reference4Ideal.Gen Cert.Proj Cert.Mix
open Idealize.ShloMosaic
open Cert.Kernel4Ideal.Mix (fb fi hArr xtArr outAt mixAt xA rA dA kA vA wA gcA wqA wmA gfA)

/-! ## The stages -/

def mixed (X : FVec Ideal S4x4096x1024 .f32) (R D : FVec Ideal S4x4096x512 .f32) (W : FVec Ideal S1024x1024 .f32) : FVec Ideal S4x4096x1024 .f32 :=
  addf X (Host.dotGeneral dot_S4x4096x1024_S1024x1024_S4x4096x1024_2_0_01_1_n_n none (concatenate S4x4096x1024 2 [⟨S4x4096x512, R⟩, ⟨S4x4096x512, D⟩] concatenates_S4x4096x512_S4x4096x512_S4x4096x1024_d2) W)

def normed (X : FVec Ideal S4x4096x1024 .f32) (G : FVec Ideal S1024 .f32) : FVec Ideal S4x4096x1024 .f32 :=
  mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 G))

def times (X : FVec Ideal S4x4096x1024 .f32) (W : FVec Ideal S1024x1024 .f32) : FVec Ideal S4x4096x1024 .f32 :=
  Host.dotGeneral dot_S4x4096x1024_S1024x1024_S4x4096x1024_2_0_01_1_n_n none X W

def heads (Q : FVec Ideal S4x4096x1024 .f32) : FVec Ideal S4x4096x4x256 .f32 := shapeCast S4x4096x4x256 Q shapeCasts_S4x4096x1024_S4x4096x4x256

def scores (Q : FVec Ideal S4x4096x4x256 .f32) (K : FVec Ideal S4x256x4x256 .f32) : FVec Ideal S4x4x4096x256 .f32 :=
  mulf (Host.dotGeneral dot_S4x4096x4x256_S4x256x4x256_S4x4x4096x256_3_3_1_1_02_02 none Q K) (broadcastInDim S4x4x4096x256 ![] bcast_S_S4x4x4096x256 (constant S_ .f32 0x3D800000#32))

def tops (S : FVec Ideal S4x4x4096x256 .f32) : FVec Ideal S4x4x4096 .f32 :=
  Host.reduce FloatOps.maximumf S (constant S_ .f32 0xFF800000#32) reducesTo_S4x4x4096x256_S4x4x4096_d3 h_S_

def exped (S : FVec Ideal S4x4x4096x256 .f32) (M : FVec Ideal S4x4x4096 .f32) : FVec Ideal S4x4x4096x256 .f32 :=
  Host.exp (subf S (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) M))))

def shares (E : FVec Ideal S4x4x4096x256 .f32) : FVec Ideal S4x4x4096x256 .f32 :=
  Host.divf E (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd E (constant S_ .f32 0x00000000#32) reducesTo_S4x4x4096x256_S4x4x4096_d3 h_S_)))

def attended (V : FVec Ideal S4x256x4x256 .f32) (P : FVec Ideal S4x4x4096x256 .f32) : FVec Ideal S4x4096x4x256 .f32 :=
  transpose S4x4096x4x256 [0, 3, 1, 2] (Host.dotGeneral dot_S4x256x4x256_S4x4x4096x256_S4x4x256x4096_1_3_3_2_02_01 none V P) transposes_S4x4x256x4096_S4x4096x4x256_0_3_1_2

def joined (A : FVec Ideal S4x4096x4x256 .f32) : FVec Ideal S4x4096x1024 .f32 := shapeCast S4x4096x1024 A shapeCasts_S4x4096x4x256_S4x4096x1024

/-! ## Each at an index -/

theorem sum_split (f : Fin 1024 → EReal) : ∑ k, f k = ∑ k : Fin 512, f ⟨0 + k.val, by omega⟩ + ∑ k : Fin 512, f ⟨512 + k.val, by omega⟩ := by
  refine (Fin.sum_univ_add (a := 512) (b := 512) f).trans ?_
  refine congrArg (· + _) (Finset.sum_congr rfl fun k _ => congrArg f (Fin.ext ?_))
  show k.val = 0 + k.val
  omega

theorem mixed_dot (X : FVec Ideal S4x4096x1024 .f32) (R D : FVec Ideal S4x4096x512 .f32) (W : FVec Ideal S1024x1024 .f32) (b : Fin 4) (i : Fin 4096) (e : Fin 1024) :
    mixed X R D W (ix3 b i e) = X (ix3 b i e) + ∑ k : Fin 1024, (if h : k.val < 512 then R (ix3 b i ⟨k.val, h⟩) else D (ix3 b i ⟨k.val - 512, by omega⟩)) * W (ix2 k e) := by
  unfold mixed
  pointwise

theorem mixed_apply (X : FVec Ideal S4x4096x1024 .f32) (R D : FVec Ideal S4x4096x512 .f32) (W : FVec Ideal S1024x1024 .f32) (b : Fin 4) (i : Fin 4096) (e : Fin 1024) :
    mixed X R D W (ix3 b i e) = mixRow (fun k => X (ix3 b i k)) (fun k => R (ix3 b i k)) (fun k => D (ix3 b i k)) (fun k e => W (ix2 k e)) e := by
  rw [mixed_dot, sum_split]
  unfold mixRow
  rw [add_assoc]
  refine congrArg (_ + ·) (congrArg₂ (· + ·) (Finset.sum_congr rfl fun k _ => ?_) (Finset.sum_congr rfl fun k _ => ?_))
  · rw [dif_pos (show 0 + k.val < 512 by omega)]
    exact congrArg (fun x => R (ix3 b i x) * _) (Fin.ext (show 0 + k.val = k.val by omega))
  · rw [dif_neg (show ¬ 512 + k.val < 512 by omega)]
    exact congrArg (fun x => D (ix3 b i x) * _) (Fin.ext (show 512 + k.val - 512 = k.val by omega))

theorem normed_apply (X : FVec Ideal S4x4096x1024 .f32) (G : FVec Ideal S1024 .f32) (b : Fin 4) (i : Fin 4096) (e : Fin 1024) :
    normed X G (ix3 b i e) = xn (fun k => X (ix3 b i k)) (fun k => G (ix1 k)) e := by
  unfold normed xn
  pointwise

theorem times_apply (X : FVec Ideal S4x4096x1024 .f32) (W : FVec Ideal S1024x1024 .f32) (b : Fin 4) (i : Fin 4096) (e : Fin 1024) :
    times X W (ix3 b i e) = ∑ k, X (ix3 b i k) * W (ix2 k e) := by
  unfold times
  pointwise

theorem heads_apply (Q : FVec Ideal S4x4096x1024 .f32) (b : Fin 4) (i : Fin 4096) (h : Fin 4) (d : Fin 256) :
    heads Q (ix4 b i h d) = Q (ix3 b i ⟨h.val * 256 + d.val, by omega⟩) := by
  unfold heads
  pointwise

theorem scores_apply (Q : FVec Ideal S4x4096x4x256 .f32) (K : FVec Ideal S4x256x4x256 .f32) (b h : Fin 4) (i : Fin 4096) (j : Fin 256) :
    scores Q K (ix4 b h i j) = scoreOf (fun d => Q (ix4 b i h d)) (fun d => K (ix4 b j h d)) := by
  unfold scores scoreOf
  pointwise

theorem tops_apply (S : FVec Ideal S4x4x4096x256 .f32) (b h : Fin 4) (i : Fin 4096) :
    tops S (ix3 b h i) = top (fun j => S (ix4 b h i j)) := by
  unfold tops top
  pointwise

theorem exped_apply (S : FVec Ideal S4x4x4096x256 .f32) (M : FVec Ideal S4x4x4096 .f32) (b h : Fin 4) (i : Fin 4096) (j : Fin 256) :
    exped S M (ix4 b h i j) = Ideal.exp (S (ix4 b h i j) - max (Ideal.ofBits .f32 0xFF800000#32) (M (ix3 b h i))) := by
  unfold exped
  pointwise

theorem shares_apply (E : FVec Ideal S4x4x4096x256 .f32) (b h : Fin 4) (i : Fin 4096) (j : Fin 256) :
    shares E (ix4 b h i j) = Ideal.div (E (ix4 b h i j)) (∑ l, E (ix4 b h i l)) := by
  unfold shares
  pointwise

theorem attended_apply (V : FVec Ideal S4x256x4x256 .f32) (P : FVec Ideal S4x4x4096x256 .f32) (b : Fin 4) (i : Fin 4096) (h : Fin 4) (d : Fin 256) :
    attended V P (ix4 b i h d) = ∑ j, V (ix4 b j h d) * P (ix4 b h i j) := by
  unfold attended
  pointwise

theorem joined4 (A : FVec Ideal S4x4096x4x256 .f32) (b : Fin 4) (i : Fin 4096) (h : Fin 4) (d : Fin 256) :
    joined A (ix3 b i ⟨h.val * 256 + d.val, by omega⟩) = A (ix4 b i h d) := by
  unfold joined
  pointwise

theorem joined_apply (A : FVec Ideal S4x4096x4x256 .f32) (b : Fin 4) (i : Fin 4096) (e : Fin 1024) :
    joined A (ix3 b i e) = A (ix4 b i (fh e) (fd e)) :=
  (congrArg (fun e => joined A (ix3 b i e)) (Cert.Kernel4Ideal.Mix.col_eq e)).trans (joined4 A b i (fh e) (fd e))

/-- The softmax of the scores: the start of the largest element's fold is below it. -/
theorem soft_apply (S : FVec Ideal S4x4x4096x256 .f32) (b h : Fin 4) (i : Fin 4096) (j : Fin 256) :
    shares (exped S (tops S)) (ix4 b h i j) = soft (fun j => S (ix4 b h i j)) j := by
  have hm : ∀ s : Fin 256 → EReal, max (Ideal.ofBits .f32 0xFF800000#32) (top s) = top s :=
    fun s => max_eq_right (Finset.le_fold_max _ |>.2 (Or.inl le_rfl))
  rw [shares_apply]
  simp only [exped_apply, tops_apply, hm]
  rfl

/-! ## The row after the cross attention -/

section rows

variable (X : FVec Ideal S4x4096x1024 .f32) (R D : FVec Ideal S4x4096x512 .f32) (K V : FVec Ideal S4x256x4x256 .f32)
  (W : FVec Ideal S1024x1024 .f32) (Gc : FVec Ideal S1024 .f32) (Wq Wm : FVec Ideal S1024x1024 .f32) (Gf : FVec Ideal S1024 .f32)

def query : FVec Ideal S4x4096x1024 .f32 := times (normed (mixed X R D W) Gc) Wq
def scored : FVec Ideal S4x4x4096x256 .f32 := scores (heads (query X R D W Gc Wq)) K
def crossed : FVec Ideal S4x4096x1024 .f32 := joined (attended V (shares (exped (scored X R D K W Gc Wq) (tops (scored X R D K W Gc Wq)))))
def outR : FVec Ideal S4x4096x1024 .f32 := addf (mixed X R D W) (times (crossed X R D K V W Gc Wq) Wm)

def mixF (b : Fin 4) (i : Fin 4096) : Fin 1024 → EReal :=
  mixRow (fun k => X (ix3 b i k)) (fun k => R (ix3 b i k)) (fun k => D (ix3 b i k)) (fun k e => W (ix2 k e))
def queryF (b : Fin 4) (i : Fin 4096) (e : Fin 1024) : EReal := lin (mixF X R D W b i) (fun k => Gc (ix1 k)) (fun k => Wq (ix2 k e))

theorem query_apply (b : Fin 4) (i : Fin 4096) (e : Fin 1024) : query X R D W Gc Wq (ix3 b i e) = queryF X R D W Gc Wq b i e := by
  unfold query queryF lin mixF
  rw [times_apply]
  simp only [normed_apply, mixed_apply]

theorem crossed_apply (b : Fin 4) (i : Fin 4096) (e : Fin 1024) :
    crossed X R D K V W Gc Wq (ix3 b i e)
      = cross (queryF X R D W Gc Wq b i) (fun j e => K (ix4 b j (fh e) (fd e))) (fun j e => V (ix4 b j (fh e) (fd e))) e := by
  have h1 : ∀ d : Fin 256, fh ⟨(fh e).val * 256 + d.val, by omega⟩ = fh e := fun d =>
    Fin.ext (by show ((fh e).val * 256 + d.val) / 256 = (fh e).val; omega)
  have h2 : ∀ d : Fin 256, fd ⟨(fh e).val * 256 + d.val, by omega⟩ = d := fun d =>
    Fin.ext (by show ((fh e).val * 256 + d.val) % 256 = d.val; omega)
  unfold crossed cross headAt attend
  rw [joined_apply, attended_apply]
  refine Finset.sum_congr rfl fun j _ => ?_
  rw [soft_apply, mul_comm]
  unfold scored
  simp only [scores_apply, heads_apply, query_apply, h1, h2]

def outF (b : Fin 4) (i : Fin 4096) : Fin 1024 → EReal :=
  after (mixF X R D W b i) (fun k => Gc (ix1 k)) (fun k e => Wq (ix2 k e)) (fun k e => Wm (ix2 k e))
    (fun j e => K (ix4 b j (fh e) (fd e))) (fun j e => V (ix4 b j (fh e) (fd e)))

theorem add_at (A B : FVec Ideal S4x4096x1024 .f32) (b : Fin 4) (i : Fin 4096) (e : Fin 1024) : addf A B (ix3 b i e) = (A (ix3 b i e) + B (ix3 b i e) : EReal) := by
  pointwise

theorem outR_apply (b : Fin 4) (i : Fin 4096) (e : Fin 1024) : outR X R D K V W Gc Wq Wm (ix3 b i e) = outF X R D K V W Gc Wq Wm b i e := by
  unfold outR outF after addMul
  rw [add_at, times_apply]
  simp only [mixed_apply, crossed_apply]
  rfl

/-! ## The flat arrays -/

theorem flat_apply (A : FVec Ideal S4x4096x1024 .f32) (b : Fin 4) (i : Fin 4096) (e : Fin 1024) :
    (shapeCast S16384x1024 A shapeCasts_S4x4096x1024_S16384x1024 : FVec Ideal S16384x1024 .f32) (ix2 ⟨b.val * 4096 + i.val, by omega⟩ e) = A (ix3 b i e) := by
  pointwise
theorem turn_apply (A : FVec Ideal S16384x1024 .f32) (e : Fin 1024) (r : Fin 16384) :
    (truncf .bf16 (transpose S1024x16384 [1, 0] A transposes_S16384x1024_S1024x16384_1_0) bitsLt_bf16_f32 : FVec Ideal S1024x16384 .bf16) (ix2 e r) = A (ix2 r e) := by
  pointwise

theorem row_eq (r : Fin 16384) : r = ⟨(fb r).val * 4096 + (fi r).val, by omega⟩ :=
  Fin.ext (by show r.val = r.val / 4096 * 4096 + r.val % 4096; omega)

theorem idx_flat (y : S16384x1024.Idx) : y = ix2 ⟨(fb (y 0)).val * 4096 + (fi (y 0)).val, by omega⟩ (y 1) := by
  funext a
  match a with
  | ⟨0, _⟩ => exact row_eq (y 0)
  | ⟨1, _⟩ => rfl
theorem idx_turn (y : S1024x16384.Idx) : y = ix2 (y 0) (y 1) := by
  funext a
  match a with
  | ⟨0, _⟩ => rfl
  | ⟨1, _⟩ => rfl

def resH : FVec Ideal S16384x1024 .f32 := shapeCast S16384x1024 (outR X R D K V W Gc Wq Wm) shapeCasts_S4x4096x1024_S16384x1024
def resX : FVec Ideal S1024x16384 .bf16 :=
  truncf .bf16 (transpose S1024x16384 [1, 0] (shapeCast S16384x1024 (normed (outR X R D K V W Gc Wq Wm) Gf) shapeCasts_S4x4096x1024_S16384x1024 : FVec Ideal S16384x1024 .f32) transposes_S16384x1024_S1024x16384_1_0) bitsLt_bf16_f32

theorem resH_apply (y : S16384x1024.Idx) : resH X R D K V W Gc Wq Wm y = outF X R D K V W Gc Wq Wm (fb (y 0)) (fi (y 0)) (y 1) := by
  unfold resH
  exact (congrArg _ (idx_flat y)).trans ((flat_apply _ _ _ _).trans (outR_apply X R D K V W Gc Wq Wm _ _ _))

theorem resX_apply (y : S1024x16384.Idx) :
    resX X R D K V W Gc Wq Wm Gf y = xn (outF X R D K V W Gc Wq Wm (fb (y 1)) (fi (y 1))) (fun k => Gf (ix1 k)) (y 0) := by
  unfold resX
  refine (congrArg _ (idx_turn y)).trans ((turn_apply _ _ _).trans ?_)
  refine (congrArg (fun r => (shapeCast S16384x1024 (normed (outR X R D K V W Gc Wq Wm) Gf) shapeCasts_S4x4096x1024_S16384x1024 : FVec Ideal S16384x1024 .f32) (ix2 r (y 0))) (row_eq (y 1))).trans ((flat_apply _ _ _ _).trans ((normed_apply _ _ _ _ _).trans ?_))
  simp only [outR_apply]

end rows

/-! ## The run's two results -/

section run

variable (m : (ℓ : Loc nD τ sig) → Buf (Elt Ideal) ℓ) (c : Dev nD)

theorem v50_eq : Value.res_main_v50 (F := Ideal) m c = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) := by
  unfold Value.res_main_v50 resH outR crossed scored query attended joined shares exped tops scores heads times normed mixed
  rfl
theorem v53_eq : Value.res_main_v53 (F := Ideal) m c = resX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Value.res_main_v53 resX outR crossed scored query attended joined shares exped tops scores heads times normed mixed
  rfl

end run

end Cert.Reference4Ideal.Mix

end
-- ==== Proof.Diff.Pins.lean ====
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

local notation "𝕄" => MT nD τ sig Unit (Elt F) ℕ (UR sig nD τ) ℕ

/-- The tables and scratches the kernel is handed, whole, at their literal types. -/
abbrev tbM0_0 : Memref sig .tc .smem S36 .i32 := Memref.whole main_c
abbrev tbM0_1 : Memref sig .tc .smem S36 .i32 := Memref.whole main_c_0
abbrev scM0_0 : Memref sig .tc .vmem S1024x128 .bf16 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x128 .f32 := Memref.whole cc0_scratch3

/-! ## The words of the two prefetched tables -/

/-- Prefetched table 0 (`main_c`, [36]): the tile each grid step names. -/
def pinT_0 : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Prefetched table 1 (`main_c_0`, [36]): the tile each grid step names. -/
def pinT_1 : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

set_option backward.proofsInPublic true in
/-- The contents of the two tables. -/
def pfN : pre0.Contents (Elt F) := fun | ⟨0, _⟩ => pinT_0 | ⟨1, _⟩ => pinT_1 | ⟨_ + 2, h⟩ => absurd h (by simp)
/-- A window's blocks inside its array, entry by entry. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

end Cert.KernelIdeal.Diff

end
-- ==== Proof.Diff.Runs.lean ====
module

public import proofs.«01_k».proof.Proof.Gen.KernelIdeal.Skeleton
public import proofs.«01_k».proof.Proof.Diff.Pins

@[expose] public section

set_option maxRecDepth 16384
set_option Elab.async false

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body per control path, on symbolic staging memrefs: a subtype the run finds -/

/-- One staging buffer of output window 5, through which its contents are stated (`View.read_writes_of_cover`). -/
abbrev VO0_5 : View sig .tc .vmem S1x512x128 .bf16 := (Memref.whole cc0_stg5_0 : Memref sig .tc .vmem S1x512x128 .bf16).view

set_option backward.proofsInPublic true in
set_option maxHeartbeats 8000000 in
/-- PATH A (points 0, 36, … 540: 16 of 576): what the body leaves — per stored output its pieces (last first), per scratch its
    contents — WITH the proof that, on whole staging memrefs, from the inputs at their blocks, the tables, the outputs
    (5: stored) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (hc0 : (Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1)) (hc2 : ¬((Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1)) (k0_h4 : k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1) :
    Σ' (out0 : List (View.Piece (Elt F) S1x512x128 .bf16)) (out1 : Buf (Elt F) ((c : Thread nD τ).loc cc0_scratch0)) (out2 : Buf (Elt F) ((c : Thread nD τ).loc cc0_scratch1)) (out3 : Buf (Elt F) ((c : Thread nD τ).loc cc0_scratch2)), { out4 : Buf (Elt F) ((c : Thread nD τ).loc cc0_scratch3) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt F) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := F)) Variants.none c none) Set.univ (cc0_diff_attn_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) K => by
    unfold owns
    rw [cc0_diff_attn_prompt_eq_skeleton]; unfold cc0_diff_attn_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path A's pieces for output 5 tile its block (1 store of `S1x512x128`). -/
theorem cover0_A_5 (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (hc0 : (Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1)) (hc2 : ¬((Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1)) (k0_h4 : k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1) (y : S1x512x128.Idx) :
    ∃ pc ∈ (kernelRun0_A c i arg5 harg5 arg6 harg6 arg7 harg7 arg8 harg8 arg9 harg9 arg10 harg10 T0 T1 x0 x1 x2 x3 x4 hc0 hc1 hc2 k0_h4).1, y ∈ pc.1.set :=
  View.cover_of_tiledL (kernelRun0_A c i arg5 harg5 arg6 harg6 arg7 harg7 arg8 harg8 arg9 harg9 arg10 harg10 T0 T1 x0 x1 x2 x3 x4 hc0 hc1 hc2 k0_h4).1 S1x512x128.size (by sl_kernel_rfl) y

/-- What path A leaves in the output's buffer. -/
def out0_A_5 (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (hc0 : (Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1)) (hc2 : ¬((Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1)) (k0_h4 : k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1) : (S1x512x128.Idx → Elt F .bf16) :=
  VO0_5.read (Elt F) (VO0_5.writes (Elt F) VO0_5.junk (kernelRun0_A c i arg5 harg5 arg6 harg6 arg7 harg7 arg8 harg8 arg9 harg9 arg10 harg10 T0 T1 x0 x1 x2 x3 x4 hc0 hc1 hc2 k0_h4).1)

set_option backward.proofsInPublic true in
set_option maxHeartbeats 8000000 in
/-- PATH B (points 1, 37, … 541: 16 of 576): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (hc0 : (Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1)) (hc2 : (Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1) (k0_h4 : ¬(k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1)) :
    Σ' (out0 : Buf (Elt F) ((c : Thread nD τ).loc cc0_scratch0)) (out1 : Buf (Elt F) ((c : Thread nD τ).loc cc0_scratch1)) (out2 : Buf (Elt F) ((c : Thread nD τ).loc cc0_scratch2)), { out3 : Buf (Elt F) ((c : Thread nD τ).loc cc0_scratch3) //
      ∀ (y5 : (S1x512x128.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := F)) Variants.none c none) Set.univ (cc0_diff_attn_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1x512x128.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) K => by
    unfold owns
    rw [cc0_diff_attn_prompt_eq_skeleton]; unfold cc0_diff_attn_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH C (points 2, 5, … 575: 112 of 576): what the body leaves — per stored output its pieces (last first), per scratch its
    contents — WITH the proof that, on whole staging memrefs, from the inputs at their blocks, the tables, the outputs
    (5: stored) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1)) (hc2 : ¬((Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1)) (k0_h4 : k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1) :
    Σ' (out0 : List (View.Piece (Elt F) S1x512x128 .bf16)) (out1 : Buf (Elt F) ((c : Thread nD τ).loc cc0_scratch0)) (out2 : Buf (Elt F) ((c : Thread nD τ).loc cc0_scratch1)) (out3 : Buf (Elt F) ((c : Thread nD τ).loc cc0_scratch2)), { out4 : Buf (Elt F) ((c : Thread nD τ).loc cc0_scratch3) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt F) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := F)) Variants.none c none) Set.univ (cc0_diff_attn_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun K => by
    unfold owns
    rw [cc0_diff_attn_prompt_eq_skeleton]; unfold cc0_diff_attn_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path C's pieces for output 5 tile its block (1 store of `S1x512x128`). -/
theorem cover0_C_5 (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1)) (hc2 : ¬((Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1)) (k0_h4 : k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1) (y : S1x512x128.Idx) :
    ∃ pc ∈ (kernelRun0_C c i arg5 harg5 arg6 harg6 arg7 harg7 arg8 harg8 arg9 harg9 arg10 harg10 T0 T1 x0 x1 x2 x3 x4 xa0 xa1 xa2 xa3 hc0 hc1 hc2 k0_h4).1, y ∈ pc.1.set :=
  View.cover_of_tiledL (kernelRun0_C c i arg5 harg5 arg6 harg6 arg7 harg7 arg8 harg8 arg9 harg9 arg10 harg10 T0 T1 x0 x1 x2 x3 x4 xa0 xa1 xa2 xa3 hc0 hc1 hc2 k0_h4).1 S1x512x128.size (by sl_kernel_rfl) y

/-- What path C leaves in the output's buffer. -/
def out0_C_5 (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1)) (hc2 : ¬((Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1)) (k0_h4 : k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1) : (S1x512x128.Idx → Elt F .bf16) :=
  VO0_5.read (Elt F) (VO0_5.writes (Elt F) VO0_5.junk (kernelRun0_C c i arg5 harg5 arg6 harg6 arg7 harg7 arg8 harg8 arg9 harg9 arg10 harg10 T0 T1 x0 x1 x2 x3 x4 xa0 xa1 xa2 xa3 hc0 hc1 hc2 k0_h4).1)

set_option backward.proofsInPublic true in
set_option maxHeartbeats 8000000 in
/-- PATH D (points 3, 6, … 568: 96 of 576): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (hc0 : (Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1) (hc1 : (Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1) (hc2 : ¬((Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1)) (k0_h4 : ¬(k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1)) :
    Σ' (out0 : Buf (Elt F) ((c : Thread nD τ).loc cc0_scratch0)) (out1 : Buf (Elt F) ((c : Thread nD τ).loc cc0_scratch1)) (out2 : Buf (Elt F) ((c : Thread nD τ).loc cc0_scratch2)), { out3 : Buf (Elt F) ((c : Thread nD τ).loc cc0_scratch3) //
      ∀ (y5 : (S1x512x128.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := F)) Variants.none c none) Set.univ (cc0_diff_attn_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1x512x128.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) K => by
    unfold owns
    rw [cc0_diff_attn_prompt_eq_skeleton]; unfold cc0_diff_attn_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH E (points 4, 8, … 574: 96 of 576): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_E (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1)) (hc2 : (Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1) (k0_h4 : ¬(k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1)) :
    Σ' (out0 : Buf (Elt F) ((c : Thread nD τ).loc cc0_scratch0)) (out1 : Buf (Elt F) ((c : Thread nD τ).loc cc0_scratch1)) (out2 : Buf (Elt F) ((c : Thread nD τ).loc cc0_scratch2)), { out3 : Buf (Elt F) ((c : Thread nD τ).loc cc0_scratch3) //
      ∀ (y5 : (S1x512x128.Idx → Elt F .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := F)) Variants.none c none) Set.univ (cc0_diff_attn_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1x512x128.Idx → Elt F .bf16)) K => by
    unfold owns
    rw [cc0_diff_attn_prompt_eq_skeleton]; unfold cc0_diff_attn_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH F (points 7, 11, … 573: 240 of 576): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_F (c : Dev nD) (i : grid0.Coords) (arg5 : Memref sig .tc .smem S9 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x2x512x512 .f32) (harg9 : arg9.IsWhole) (arg10 : Memref sig .tc .vmem S1x512x128 .bf16) (harg10 : arg10.IsWhole) (T0 : (S36.Idx → Elt F .i32)) (T1 : (S36.Idx → Elt F .i32))
     (x0 : (S9.Idx → Elt F .f32)) (x1 : (S1x512x128.Idx → Elt F .bf16)) (x2 : (S1x512x128.Idx → Elt F .bf16)) (x3 : (S1x512x128.Idx → Elt F .bf16)) (x4 : (S1x2x512x512.Idx → Elt F .f32)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (hc0 : ¬((Scalar.cmpi .ne (Scalar.extui (Scalar.cmpi .eq (View.readAt (Elt F) (tbM0_1).view (Rect.unit (s := S36) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .sge (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 2#32)) 0#32) = 1#1) (hc2 : ¬((Scalar.cmpi .ne (Scalar.extui (Scalar.cmpi .eq (Scalar.subi (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos)))) 1#32)) 0#32) = 1#1)) (k0_h4 : ¬(k0_cond4 (View.readAt (Elt F) (tbM0_0).view (Rect.unit (s := S36) (k0_off1 i) S1.size (k0_off1_inb i)).toLoadRect T0 (Shape.Idx.first (numel1_S1.symm ▸ Nat.one_pos))) (View.readAt (Elt F) (tbM0_1).view (Rect.unit (s := S36) (k0_off1 i) S1.size (k0_off1_inb i)).toLoadRect T1 (Shape.Idx.first (numel1_S1.symm ▸ Nat.one_pos))) = 1#1)) :
    Σ' (out0 : Buf (Elt F) ((c : Thread nD τ).loc cc0_scratch0)) (out1 : Buf (Elt F) ((c : Thread nD τ).loc cc0_scratch1)) (out2 : Buf (Elt F) ((c : Thread nD τ).loc cc0_scratch2)), { out3 : Buf (Elt F) ((c : Thread nD τ).loc cc0_scratch3) //
      ∀ (y5 : (S1x512x128.Idx → Elt F .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := F)) Variants.none c none) Set.univ (cc0_diff_attn_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1x512x128.Idx → Elt F .bf16)) K => by
    unfold owns
    rw [cc0_diff_attn_prompt_eq_skeleton]; unfold cc0_diff_attn_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

end Cert.KernelIdeal.Diff

end
-- ==== Proof.Diff.Ok.lean ====
module

public import proofs.«01_k».proof.Proof.Diff.Pins

@[expose] public section

set_option maxRecDepth 16384
set_option Elab.async false

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

local notation "𝕄" => MT nD τ sig Unit (Elt F) ℕ (UR sig nD τ) ℕ

theorem ok_pfN_0_0_inb : ∀ i : grid0.Coords, ∀ a, (cc0_transform_1 k0_off1_inb numel1_S1 (pfN Bits) i a + 1) * S1x512x128.size a ≤ S4x4096x512.size a := by decide +kernel
theorem ok_pfN_0_0 : (∀ i : grid0.Coords, ∃ h : (∀ a, (cc0_transform_1 k0_off1_inb numel1_S1 (pfN Bits) i a + 1) * S1x512x128.size a ≤ S4x4096x512.size a), EltTy.bits .bf16 = 32 ∨ (Rect.block (s := S4x4096x512) S1x512x128.size (cc0_transform_1 k0_off1_inb numel1_S1 (pfN Bits) i) h).WholeWords (EltTy.packing .bf16)) := fun i => ⟨ok_pfN_0_0_inb i, .inr (Affine.block_words_dvd (s := S4x4096x512) (p := EltTy.packing .bf16) (by decide) (by decide))⟩
theorem ok_pfN_0_1_inb : ∀ i : grid0.Coords, ∀ a, (cc0_transform_2 k0_off1_inb numel1_S1 (pfN Bits) i a + 1) * S1x512x128.size a ≤ S4x4096x512.size a := by decide +kernel
theorem ok_pfN_0_1 : (∀ i : grid0.Coords, ∃ h : (∀ a, (cc0_transform_2 k0_off1_inb numel1_S1 (pfN Bits) i a + 1) * S1x512x128.size a ≤ S4x4096x512.size a), EltTy.bits .bf16 = 32 ∨ (Rect.block (s := S4x4096x512) S1x512x128.size (cc0_transform_2 k0_off1_inb numel1_S1 (pfN Bits) i) h).WholeWords (EltTy.packing .bf16)) := fun i => ⟨ok_pfN_0_1_inb i, .inr (Affine.block_words_dvd (s := S4x4096x512) (p := EltTy.packing .bf16) (by decide) (by decide))⟩
theorem ok_pfN_0_2_inb : ∀ i : grid0.Coords, ∀ a, (cc0_transform_3 k0_off1_inb numel1_S1 (pfN Bits) i a + 1) * S1x512x128.size a ≤ S4x4096x512.size a := by decide +kernel
theorem ok_pfN_0_2 : (∀ i : grid0.Coords, ∃ h : (∀ a, (cc0_transform_3 k0_off1_inb numel1_S1 (pfN Bits) i a + 1) * S1x512x128.size a ≤ S4x4096x512.size a), EltTy.bits .bf16 = 32 ∨ (Rect.block (s := S4x4096x512) S1x512x128.size (cc0_transform_3 k0_off1_inb numel1_S1 (pfN Bits) i) h).WholeWords (EltTy.packing .bf16)) := fun i => ⟨ok_pfN_0_2_inb i, .inr (Affine.block_words_dvd (s := S4x4096x512) (p := EltTy.packing .bf16) (by decide) (by decide))⟩
theorem ok_pfN_0_3_inb : ∀ i : grid0.Coords, ∀ a, (cc0_transform_5 k0_off1_inb numel1_S1 (pfN Bits) i a + 1) * S1x512x128.size a ≤ S4x4096x512.size a := by decide +kernel
theorem ok_pfN_0_3 : (∀ i : grid0.Coords, ∃ h : (∀ a, (cc0_transform_5 k0_off1_inb numel1_S1 (pfN Bits) i a + 1) * S1x512x128.size a ≤ S4x4096x512.size a), EltTy.bits .bf16 = 32 ∨ (Rect.block (s := S4x4096x512) S1x512x128.size (cc0_transform_5 k0_off1_inb numel1_S1 (pfN Bits) i) h).WholeWords (EltTy.packing .bf16)) := fun i => ⟨ok_pfN_0_3_inb i, .inr (Affine.block_words_dvd (s := S4x4096x512) (p := EltTy.packing .bf16) (by decide) (by decide))⟩
theorem ok_pfN_0 : ok0 (F := Bits) (pfN Bits) := ⟨ok_pfN_0_0, ok_pfN_0_1, ok_pfN_0_2, ok_pfN_0_3⟩

end Cert.KernelIdeal.Diff

end
-- ==== Proof.Diff.Pipe.lean ====
module

public import proofs.«01_k».proof.Proof.Diff.Ok

@[expose] public section

set_option maxRecDepth 16384
set_option Elab.async false

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

local notation "𝕄" => MT nD τ sig Unit (Elt F) ℕ (UR sig nD τ) ℕ

/-- Every block the tables name lies inside its array. -/
theorem ok_pfN : ok0 (F := F) (pfN F) := ok_pfN_0

/-- The tables with that fact, and the pipeline they steer (`cfgA F`, 576 points). -/
def adm : (pcfg0 (F := F)).Adm := ⟨pfN F, ok_pfN F⟩
abbrev cfgA : Pipeline.Cfg sig Λ₀ := cfg0 (F := F) (adm F)
abbrev pcs : Fin 1 → Pipeline.Cfg sig Λ₀ := Pipeline.pin (pcfgs (F := F)) fun _ => adm F

variable (V : (c : Dev nD) → (b : Ref sig .tc) → Buf (Elt F) ((c.tc : Thread nD τ).loc b))

/-! ## A point's coordinates, words and staging memrefs -/

/-- Point `t`'s coordinates. -/
abbrev crd (t : Fin (cfgA F).N) : (cfgA F).grid.Coords := (cfgA F).grid.coords t

/-- Each window's current staging memref at point `t`, spelled as the pipeline passes it, and its wholeness. -/
abbrev ms0_0 (t : Fin (cfgA F).N) : Memref sig .tc .smem S9 .f32 := spec0_0.stage ((cfgA F).slots t (0 : Fin 6))
abbrev hs0_0 (t : Fin (cfgA F).N) : (ms0_0 F t).IsWhole := hstage0_0 (((cfgA F).slots t (0 : Fin 6)).cast nbuf0_0)
abbrev ms0_1 (t : Fin (cfgA F).N) : Memref sig .tc .vmem S1x512x128 .bf16 := spec0_1.stage ((cfgA F).slots t (1 : Fin 6))
abbrev hs0_1 (t : Fin (cfgA F).N) : (ms0_1 F t).IsWhole := hstage0_1 (((cfgA F).slots t (1 : Fin 6)).cast nbuf0_1)
abbrev ms0_2 (t : Fin (cfgA F).N) : Memref sig .tc .vmem S1x512x128 .bf16 := spec0_2.stage ((cfgA F).slots t (2 : Fin 6))
abbrev hs0_2 (t : Fin (cfgA F).N) : (ms0_2 F t).IsWhole := hstage0_2 (((cfgA F).slots t (2 : Fin 6)).cast nbuf0_2)
abbrev ms0_3 (t : Fin (cfgA F).N) : Memref sig .tc .vmem S1x512x128 .bf16 := spec0_3.stage ((cfgA F).slots t (3 : Fin 6))
abbrev hs0_3 (t : Fin (cfgA F).N) : (ms0_3 F t).IsWhole := hstage0_3 (((cfgA F).slots t (3 : Fin 6)).cast nbuf0_3)
abbrev ms0_4 (t : Fin (cfgA F).N) : Memref sig .tc .vmem S1x2x512x512 .f32 := spec0_4.stage ((cfgA F).slots t (4 : Fin 6))
abbrev hs0_4 (t : Fin (cfgA F).N) : (ms0_4 F t).IsWhole := hstage0_4 (((cfgA F).slots t (4 : Fin 6)).cast nbuf0_4)
abbrev ms0_5 (t : Fin (cfgA F).N) : Memref sig .tc .vmem S1x512x128 .bf16 := spec0_5.stage ((cfgA F).slots t (5 : Fin 6))
abbrev hs0_5 (t : Fin (cfgA F).N) : (ms0_5 F t).IsWhole := hstage0_5 (((cfgA F).slots t (5 : Fin 6)).cast nbuf0_5)

/-! ## The windows' blocks -/

/-- Window `w`'s block at point `t`, read off its array at launch. -/
def iblk (c : Dev nD) (w : Fin (cfgA F).W) (t : Fin (cfgA F).N) : (((cfgA F).win w).xblock (crd F t)).Idx → Elt F ((cfgA F).win w).elt :=
  (((cfgA F).win w).blk t).view.read (Elt F) (V c (Pipeline.arrRef (cfgA F).spec w))

/-! ## The control's decisions at a point, (what tells the paths apart) -/

abbrev P0_0 (t : Fin (cfgA F).N) : Prop := (Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1
abbrev P0_1 (t : Fin (cfgA F).N) : Prop := (Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1
abbrev P0_2 (t : Fin (cfgA F).N) : Prop := (Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1

/-- Whether scratch 0 (`cc0_scratch0`) holds nothing a point has determined, before position `n`: until a path that stores it
    whole first (A, B, D) has run. -/
def sfresh0_0 : ℕ → Bool
  | 0 => true
  | n + 1 => if h : n < (cfgA F).N then (if P0_0 F ⟨n, h⟩ then (if P0_1 F ⟨n, h⟩ then false else (if P0_2 F ⟨n, h⟩ then false else false)) else (if P0_1 F ⟨n, h⟩ then sfresh0_0 n else (if P0_2 F ⟨n, h⟩ then sfresh0_0 n else sfresh0_0 n))) else true

/-- In closed form: undetermined before position `n` exactly when no point below `n` stores it. -/
def sfirst0_0 : ℕ := 0
def sfrTab0_0 : ℕ → Bool := fun n => decide (n ≤ sfirst0_0)

/-- Whether scratch 1 (`cc0_scratch1`) holds nothing a point has determined, before position `n`: until a path that stores it
    whole first (A, B, D) has run. -/
def sfresh0_1 : ℕ → Bool
  | 0 => true
  | n + 1 => if h : n < (cfgA F).N then (if P0_0 F ⟨n, h⟩ then (if P0_1 F ⟨n, h⟩ then false else (if P0_2 F ⟨n, h⟩ then false else false)) else (if P0_1 F ⟨n, h⟩ then sfresh0_1 n else (if P0_2 F ⟨n, h⟩ then sfresh0_1 n else sfresh0_1 n))) else true

/-- In closed form: undetermined before position `n` exactly when no point below `n` stores it. -/
def sfirst0_1 : ℕ := 0
def sfrTab0_1 : ℕ → Bool := fun n => decide (n ≤ sfirst0_1)

/-- Whether scratch 2 (`cc0_scratch2`) holds nothing a point has determined, before position `n`: until a path that stores it
    whole first (A, B, D) has run. -/
def sfresh0_2 : ℕ → Bool
  | 0 => true
  | n + 1 => if h : n < (cfgA F).N then (if P0_0 F ⟨n, h⟩ then (if P0_1 F ⟨n, h⟩ then false else (if P0_2 F ⟨n, h⟩ then false else false)) else (if P0_1 F ⟨n, h⟩ then sfresh0_2 n else (if P0_2 F ⟨n, h⟩ then sfresh0_2 n else sfresh0_2 n))) else true

/-- In closed form: undetermined before position `n` exactly when no point below `n` stores it. -/
def sfirst0_2 : ℕ := 0
def sfrTab0_2 : ℕ → Bool := fun n => decide (n ≤ sfirst0_2)

/-- Whether scratch 3 (`cc0_scratch3`) holds nothing a point has determined, before position `n`: until a path that stores it
    whole first (A, B, D) has run. -/
def sfresh0_3 : ℕ → Bool
  | 0 => true
  | n + 1 => if h : n < (cfgA F).N then (if P0_0 F ⟨n, h⟩ then (if P0_1 F ⟨n, h⟩ then false else (if P0_2 F ⟨n, h⟩ then false else false)) else (if P0_1 F ⟨n, h⟩ then sfresh0_3 n else (if P0_2 F ⟨n, h⟩ then sfresh0_3 n else sfresh0_3 n))) else true

/-- In closed form: undetermined before position `n` exactly when no point below `n` stores it. -/
def sfirst0_3 : ℕ := 0
def sfrTab0_3 : ℕ → Bool := fun n => decide (n ≤ sfirst0_3)

set_option backward.proofsInPublic true in
/-- Whether the output's buffer is undetermined before each position `1 ‥ N`, one bit per position. -/
def frMask0_5 : ℕ := 0xffffffffffffffffffffffffffffffffffffffffffffffffffffffffffffffffffffffffffffffffffffffffffffffffffffffffffffffffffffffffffffffffffffffffffffffff
/-- `(cfgA F).fresh 5` by a table: true before the first point, then the table. -/
def frTab0_5 : ℕ → Bool
  | 0 => true
  | n + 1 => (frMask0_5).testBit n

end Cert.KernelIdeal.Diff

end
-- ==== Proof.Diff.Facts.lean ====
module

public import proofs.«01_k».proof.Proof.Diff.Pipe

@[expose] public section

set_option maxRecDepth 16384
set_option Elab.async false

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

local notation "𝕄" => MT nD τ sig Unit (Elt F) ℕ (UR sig nD τ) ℕ
variable (V : (c : Dev nD) → (b : Ref sig .tc) → Buf (Elt F) ((c.tc : Thread nD τ).loc b))

/-! ## Everything the run needs to know of one grid point, as one proposition -/

/-- What holds at grid point `t`: how the tables of undetermined buffers step there, and, on the path the point
takes, that path's hypotheses and which buffers it leaves alone. One proposition per point, so that it can be decided
over a range of points at a time. -/
abbrev FactsAt (t : Fin (cfgA F).N) : Prop :=
  (sfrTab0_0 (t.val + 1) = (if P0_0 F t then (if P0_1 F t then false else (if P0_2 F t then false else false)) else (if P0_1 F t then sfrTab0_0 t.val else (if P0_2 F t then sfrTab0_0 t.val else sfrTab0_0 t.val))))
  ∧ (sfrTab0_1 (t.val + 1) = (if P0_0 F t then (if P0_1 F t then false else (if P0_2 F t then false else false)) else (if P0_1 F t then sfrTab0_1 t.val else (if P0_2 F t then sfrTab0_1 t.val else sfrTab0_1 t.val))))
  ∧ (sfrTab0_2 (t.val + 1) = (if P0_0 F t then (if P0_1 F t then false else (if P0_2 F t then false else false)) else (if P0_1 F t then sfrTab0_2 t.val else (if P0_2 F t then sfrTab0_2 t.val else sfrTab0_2 t.val))))
  ∧ (sfrTab0_3 (t.val + 1) = (if P0_0 F t then (if P0_1 F t then false else (if P0_2 F t then false else false)) else (if P0_1 F t then sfrTab0_3 t.val else (if P0_2 F t then sfrTab0_3 t.val else sfrTab0_3 t.val))))
  ∧ (frTab0_5 (t.val + 1) = (((cfgA F).win (5 : Fin 6)).flush t || ((cfgA F).idle (5 : Fin 6) ((cfgA F).grid.coords t) && frTab0_5 t.val)))
  ∧ (P0_0 F t → ¬P0_1 F t → ¬P0_2 F t → ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1) ∧ (True)))))
  ∧ (P0_0 F t → ¬P0_1 F t → ¬P0_2 F t → (cfgA F).idle (5 : Fin 6) ((cfgA F).grid.coords t) = false ∧ ((cfgA F).win (5 : Fin 6)).flush t = true ∧ frTab0_5 t.val = true ∧ sfrTab0_0 (t.val + 1) = false ∧ sfrTab0_1 (t.val + 1) = false ∧ sfrTab0_2 (t.val + 1) = false ∧ sfrTab0_3 (t.val + 1) = false)
  ∧ (P0_0 F t → ¬P0_1 F t → P0_2 F t → ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ (((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))))
  ∧ (P0_0 F t → ¬P0_1 F t → P0_2 F t → (cfgA F).idle (5 : Fin 6) ((cfgA F).grid.coords t) = true ∧ ((cfgA F).win (5 : Fin 6)).flush t = false ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)
  ∧ (¬P0_0 F t → ¬P0_1 F t → ¬P0_2 F t → (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1) ∧ (True)))))
  ∧ (¬P0_0 F t → ¬P0_1 F t → ¬P0_2 F t → (cfgA F).idle (5 : Fin 6) ((cfgA F).grid.coords t) = false ∧ ((cfgA F).win (5 : Fin 6)).flush t = true ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)
  ∧ (P0_0 F t → P0_1 F t → ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ (((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))))
  ∧ (P0_0 F t → P0_1 F t → (cfgA F).idle (5 : Fin 6) ((cfgA F).grid.coords t) = true ∧ ((cfgA F).win (5 : Fin 6)).flush t = false ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)
  ∧ (¬P0_0 F t → ¬P0_1 F t → P0_2 F t → (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ (((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))))
  ∧ (¬P0_0 F t → ¬P0_1 F t → P0_2 F t → (cfgA F).idle (5 : Fin 6) ((cfgA F).grid.coords t) = true ∧ ((cfgA F).win (5 : Fin 6)).flush t = false ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)
  ∧ (¬P0_0 F t → P0_1 F t → (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ (((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))))
  ∧ (¬P0_0 F t → P0_1 F t → (cfgA F).idle (5 : Fin 6) ((cfgA F).grid.coords t) = true ∧ ((cfgA F).win (5 : Fin 6)).flush t = false ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)

set_option synthInstance.maxSize 65536 in
instance FactsAt.dec (t : Fin (cfgA F).N) : Decidable (FactsAt F t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))))))

end Cert.KernelIdeal.Diff

end
-- ==== Proof.Diff.FactsDec.lean ====
module

public import proofs.«01_k».proof.Proof.Diff.Facts

@[expose] public section

set_option maxRecDepth 16384
set_option Elab.async false

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

local notation "𝕄" => MT nD τ sig Unit (Elt F) ℕ (UR sig nD τ) ℕ

theorem allFacts_0_0 : ∀ t : Fin (cfgA Bits).N, 0 ≤ t.val → t.val < 72 → FactsAt Bits t := by decide +kernel
theorem allFacts_0_1 : ∀ t : Fin (cfgA Bits).N, 72 ≤ t.val → t.val < 144 → FactsAt Bits t := by decide +kernel
theorem allFacts_0_2 : ∀ t : Fin (cfgA Bits).N, 144 ≤ t.val → t.val < 216 → FactsAt Bits t := by decide +kernel
theorem allFacts_0_3 : ∀ t : Fin (cfgA Bits).N, 216 ≤ t.val → t.val < 288 → FactsAt Bits t := by decide +kernel
theorem allFacts_0_4 : ∀ t : Fin (cfgA Bits).N, 288 ≤ t.val → t.val < 360 → FactsAt Bits t := by decide +kernel
theorem allFacts_0_5 : ∀ t : Fin (cfgA Bits).N, 360 ≤ t.val → t.val < 432 → FactsAt Bits t := by decide +kernel
theorem allFacts_0_6 : ∀ t : Fin (cfgA Bits).N, 432 ≤ t.val → t.val < 504 → FactsAt Bits t := by decide +kernel
theorem allFacts_0_7 : ∀ t : Fin (cfgA Bits).N, 504 ≤ t.val → t.val < 576 → FactsAt Bits t := by decide +kernel
theorem allFacts_0 : ∀ t : Fin (cfgA Bits).N, FactsAt Bits t := fun t => by
  have h0 : 0 ≤ t.val := Nat.zero_le _
  rcases Nat.lt_or_ge t.val 72 with h1 | h1; · exact allFacts_0_0 t h0 h1
  rcases Nat.lt_or_ge t.val 144 with h2 | h2; · exact allFacts_0_1 t h1 h2
  rcases Nat.lt_or_ge t.val 216 with h3 | h3; · exact allFacts_0_2 t h2 h3
  rcases Nat.lt_or_ge t.val 288 with h4 | h4; · exact allFacts_0_3 t h3 h4
  rcases Nat.lt_or_ge t.val 360 with h5 | h5; · exact allFacts_0_4 t h4 h5
  rcases Nat.lt_or_ge t.val 432 with h6 | h6; · exact allFacts_0_5 t h5 h6
  rcases Nat.lt_or_ge t.val 504 with h7 | h7; · exact allFacts_0_6 t h6 h7
  exact allFacts_0_7 t h7 t.isLt

end Cert.KernelIdeal.Diff

end
-- ==== Proof.Diff.Body.lean ====
module

public import proofs.«01_k».proof.Proof.Diff.Runs
public import proofs.«01_k».proof.Proof.Diff.FactsDec
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

local notation "𝕄" => MT nD τ sig Unit (Elt F) ℕ (UR sig nD τ) ℕ

/-- Some value of each float type, for the entries nothing has determined. -/
instance someFloat (φ : FTy) : Inhabited (F φ) := ⟨FloatOps.ofBits φ 0⟩

/-- The proof's resource algebra: the rounds library's, for the pipeline's staging cells, embedded whole. -/
abbrev EP : Emb (UR sig nD τ) 𝕄 := emb₁

variable (V : (c : Dev nD) → (b : Ref sig .tc) → Buf (Elt F) ((c.tc : Thread nD τ).loc b))

/-- The facts at every point. -/
theorem allFacts : ∀ (t : Fin (cfgA F).N), FactsAt F t := fun t => allFacts_0 t

/-! ## The facts by name: each path's hypotheses and its place in the grid -/

theorem sfrTab0_0_step : ∀ (t : Fin (cfgA F).N), sfrTab0_0 (t.val + 1) = (if P0_0 F t then (if P0_1 F t then false else (if P0_2 F t then false else false)) else (if P0_1 F t then sfrTab0_0 t.val else (if P0_2 F t then sfrTab0_0 t.val else sfrTab0_0 t.val))) := fun t => (allFacts F t).1
theorem sfresh0_0_eq : ∀ n, n ≤ (cfgA F).N → sfresh0_0 F n = sfrTab0_0 n
  | 0, _ => by simp only [sfresh0_0, sfrTab0_0, Nat.zero_le, decide_true]
  | n + 1, h => by simp only [sfresh0_0, dif_pos (show n < (cfgA F).N from h), sfresh0_0_eq n (Nat.le_of_lt h), sfrTab0_0_step F ⟨n, h⟩]
theorem sfreshF0_0 (t : Fin (cfgA F).N) : sfresh0_0 F t.val = sfrTab0_0 t.val := sfresh0_0_eq F t.val (Nat.le_of_lt t.isLt)
theorem sfreshS0_0 (t : Fin (cfgA F).N) : sfresh0_0 F (t.val + 1) = sfrTab0_0 (t.val + 1) := sfresh0_0_eq F (t.val + 1) t.isLt

theorem sfrTab0_1_step : ∀ (t : Fin (cfgA F).N), sfrTab0_1 (t.val + 1) = (if P0_0 F t then (if P0_1 F t then false else (if P0_2 F t then false else false)) else (if P0_1 F t then sfrTab0_1 t.val else (if P0_2 F t then sfrTab0_1 t.val else sfrTab0_1 t.val))) := fun t => (allFacts F t).2.1
theorem sfresh0_1_eq : ∀ n, n ≤ (cfgA F).N → sfresh0_1 F n = sfrTab0_1 n
  | 0, _ => by simp only [sfresh0_1, sfrTab0_1, Nat.zero_le, decide_true]
  | n + 1, h => by simp only [sfresh0_1, dif_pos (show n < (cfgA F).N from h), sfresh0_1_eq n (Nat.le_of_lt h), sfrTab0_1_step F ⟨n, h⟩]
theorem sfreshF0_1 (t : Fin (cfgA F).N) : sfresh0_1 F t.val = sfrTab0_1 t.val := sfresh0_1_eq F t.val (Nat.le_of_lt t.isLt)
theorem sfreshS0_1 (t : Fin (cfgA F).N) : sfresh0_1 F (t.val + 1) = sfrTab0_1 (t.val + 1) := sfresh0_1_eq F (t.val + 1) t.isLt

theorem sfrTab0_2_step : ∀ (t : Fin (cfgA F).N), sfrTab0_2 (t.val + 1) = (if P0_0 F t then (if P0_1 F t then false else (if P0_2 F t then false else false)) else (if P0_1 F t then sfrTab0_2 t.val else (if P0_2 F t then sfrTab0_2 t.val else sfrTab0_2 t.val))) := fun t => (allFacts F t).2.2.1
theorem sfresh0_2_eq : ∀ n, n ≤ (cfgA F).N → sfresh0_2 F n = sfrTab0_2 n
  | 0, _ => by simp only [sfresh0_2, sfrTab0_2, Nat.zero_le, decide_true]
  | n + 1, h => by simp only [sfresh0_2, dif_pos (show n < (cfgA F).N from h), sfresh0_2_eq n (Nat.le_of_lt h), sfrTab0_2_step F ⟨n, h⟩]
theorem sfreshF0_2 (t : Fin (cfgA F).N) : sfresh0_2 F t.val = sfrTab0_2 t.val := sfresh0_2_eq F t.val (Nat.le_of_lt t.isLt)
theorem sfreshS0_2 (t : Fin (cfgA F).N) : sfresh0_2 F (t.val + 1) = sfrTab0_2 (t.val + 1) := sfresh0_2_eq F (t.val + 1) t.isLt

theorem sfrTab0_3_step : ∀ (t : Fin (cfgA F).N), sfrTab0_3 (t.val + 1) = (if P0_0 F t then (if P0_1 F t then false else (if P0_2 F t then false else false)) else (if P0_1 F t then sfrTab0_3 t.val else (if P0_2 F t then sfrTab0_3 t.val else sfrTab0_3 t.val))) := fun t => (allFacts F t).2.2.2.1
theorem sfresh0_3_eq : ∀ n, n ≤ (cfgA F).N → sfresh0_3 F n = sfrTab0_3 n
  | 0, _ => by simp only [sfresh0_3, sfrTab0_3, Nat.zero_le, decide_true]
  | n + 1, h => by simp only [sfresh0_3, dif_pos (show n < (cfgA F).N from h), sfresh0_3_eq n (Nat.le_of_lt h), sfrTab0_3_step F ⟨n, h⟩]
theorem sfreshF0_3 (t : Fin (cfgA F).N) : sfresh0_3 F t.val = sfrTab0_3 t.val := sfresh0_3_eq F t.val (Nat.le_of_lt t.isLt)
theorem sfreshS0_3 (t : Fin (cfgA F).N) : sfresh0_3 F (t.val + 1) = sfrTab0_3 (t.val + 1) := sfresh0_3_eq F (t.val + 1) t.isLt

theorem frTab0_5_step : ∀ (t : Fin (cfgA F).N),
    frTab0_5 (t.val + 1) = (((cfgA F).win (5 : Fin 6)).flush t || ((cfgA F).idle (5 : Fin 6) ((cfgA F).grid.coords t) && frTab0_5 t.val)) := fun t => (allFacts F t).2.2.2.2.1
theorem freshF0_5 (t : Fin (cfgA F).N) : (cfgA F).fresh (5 : Fin 6) t.val = frTab0_5 t.val :=
  Pipeline.Cfg.fresh_tab (cfgA F) (5 : Fin 6) (frTab0_5) rfl (frTab0_5_step F) t.val (Nat.le_of_lt t.isLt)

/-- At a point of path A the path's hypotheses hold of the words the body reads there. -/
theorem hyps0_A : ∀ (t : Fin (cfgA F).N), P0_0 F t → ¬P0_1 F t → ¬P0_2 F t →
    ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1) ∧ (True)))) := fun t => (allFacts F t).2.2.2.2.2.1

theorem hypsR0_A : ∀ (t : Fin (cfgA F).N), P0_0 F t → ¬P0_1 F t → ¬P0_2 F t →
    ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1) ∧ (True)))) := hyps0_A F

/-- At a point of path A: which windows it leaves alone, which are written back, which buffers are undetermined. -/
theorem sched0_A : ∀ (t : Fin (cfgA F).N), P0_0 F t → ¬P0_1 F t → ¬P0_2 F t →
    (cfgA F).idle (5 : Fin 6) ((cfgA F).grid.coords t) = false ∧ ((cfgA F).win (5 : Fin 6)).flush t = true ∧ (cfgA F).fresh (5 : Fin 6) t.val = true ∧ sfresh0_0 F (t.val + 1) = false ∧ sfresh0_1 F (t.val + 1) = false ∧ sfresh0_2 F (t.val + 1) = false ∧ sfresh0_3 F (t.val + 1) = false := by
  intro t; rw [freshF0_5 F t, sfreshS0_0 F t, sfreshS0_1 F t, sfreshS0_2 F t, sfreshS0_3 F t]; exact (allFacts F t).2.2.2.2.2.2.1

/-- At a point of path B the path's hypotheses hold of the words the body reads there. -/
theorem hyps0_B : ∀ (t : Fin (cfgA F).N), P0_0 F t → ¬P0_1 F t → P0_2 F t →
    ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ (((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))) := fun t => (allFacts F t).2.2.2.2.2.2.2.1

theorem hypsR0_B : ∀ (t : Fin (cfgA F).N), P0_0 F t → ¬P0_1 F t → P0_2 F t →
    ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ (((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))) := hyps0_B F

/-- At a point of path B: which windows it leaves alone, which are written back, which buffers are undetermined. -/
theorem sched0_B : ∀ (t : Fin (cfgA F).N), P0_0 F t → ¬P0_1 F t → P0_2 F t →
    (cfgA F).idle (5 : Fin 6) ((cfgA F).grid.coords t) = true ∧ ((cfgA F).win (5 : Fin 6)).flush t = false ∧ (cfgA F).fresh (5 : Fin 6) t.val = true ∧ sfresh0_0 F t.val = false ∧ sfresh0_0 F (t.val + 1) = false ∧ sfresh0_1 F t.val = false ∧ sfresh0_1 F (t.val + 1) = false ∧ sfresh0_2 F t.val = false ∧ sfresh0_2 F (t.val + 1) = false ∧ sfresh0_3 F t.val = false ∧ sfresh0_3 F (t.val + 1) = false := by
  intro t; rw [freshF0_5 F t, sfreshF0_0 F t, sfreshS0_0 F t, sfreshF0_1 F t, sfreshS0_1 F t, sfreshF0_2 F t, sfreshS0_2 F t, sfreshF0_3 F t, sfreshS0_3 F t]; exact (allFacts F t).2.2.2.2.2.2.2.2.1

/-- At a point of path C the path's hypotheses hold of the words the body reads there. -/
theorem hyps0_C : ∀ (t : Fin (cfgA F).N), ¬P0_0 F t → ¬P0_1 F t → ¬P0_2 F t →
    (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1) ∧ (True)))) := fun t => (allFacts F t).2.2.2.2.2.2.2.2.2.1

theorem hypsR0_C : ∀ (t : Fin (cfgA F).N), ¬P0_0 F t → ¬P0_1 F t → ¬P0_2 F t →
    (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1) ∧ (True)))) := hyps0_C F

/-- At a point of path C: which windows it leaves alone, which are written back, which buffers are undetermined. -/
theorem sched0_C : ∀ (t : Fin (cfgA F).N), ¬P0_0 F t → ¬P0_1 F t → ¬P0_2 F t →
    (cfgA F).idle (5 : Fin 6) ((cfgA F).grid.coords t) = false ∧ ((cfgA F).win (5 : Fin 6)).flush t = true ∧ (cfgA F).fresh (5 : Fin 6) t.val = true ∧ sfresh0_0 F t.val = false ∧ sfresh0_0 F (t.val + 1) = false ∧ sfresh0_1 F t.val = false ∧ sfresh0_1 F (t.val + 1) = false ∧ sfresh0_2 F t.val = false ∧ sfresh0_2 F (t.val + 1) = false ∧ sfresh0_3 F t.val = false ∧ sfresh0_3 F (t.val + 1) = false := by
  intro t; rw [freshF0_5 F t, sfreshF0_0 F t, sfreshS0_0 F t, sfreshF0_1 F t, sfreshS0_1 F t, sfreshF0_2 F t, sfreshS0_2 F t, sfreshF0_3 F t, sfreshS0_3 F t]; exact (allFacts F t).2.2.2.2.2.2.2.2.2.2.1

/-- At a point of path D the path's hypotheses hold of the words the body reads there. -/
theorem hyps0_D : ∀ (t : Fin (cfgA F).N), P0_0 F t → P0_1 F t →
    ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ (((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))) := fun t => (allFacts F t).2.2.2.2.2.2.2.2.2.2.2.1

theorem hypsR0_D : ∀ (t : Fin (cfgA F).N), P0_0 F t → P0_1 F t →
    ((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1) ∧ (((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))) := hyps0_D F

/-- At a point of path D: which windows it leaves alone, which are written back, which buffers are undetermined. -/
theorem sched0_D : ∀ (t : Fin (cfgA F).N), P0_0 F t → P0_1 F t →
    (cfgA F).idle (5 : Fin 6) ((cfgA F).grid.coords t) = true ∧ ((cfgA F).win (5 : Fin 6)).flush t = false ∧ (cfgA F).fresh (5 : Fin 6) t.val = true ∧ sfresh0_0 F t.val = false ∧ sfresh0_0 F (t.val + 1) = false ∧ sfresh0_1 F t.val = false ∧ sfresh0_1 F (t.val + 1) = false ∧ sfresh0_2 F t.val = false ∧ sfresh0_2 F (t.val + 1) = false ∧ sfresh0_3 F t.val = false ∧ sfresh0_3 F (t.val + 1) = false := by
  intro t; rw [freshF0_5 F t, sfreshF0_0 F t, sfreshS0_0 F t, sfreshF0_1 F t, sfreshS0_1 F t, sfreshF0_2 F t, sfreshS0_2 F t, sfreshF0_3 F t, sfreshS0_3 F t]; exact (allFacts F t).2.2.2.2.2.2.2.2.2.2.2.2.1

/-- At a point of path E the path's hypotheses hold of the words the body reads there. -/
theorem hyps0_E : ∀ (t : Fin (cfgA F).N), ¬P0_0 F t → ¬P0_1 F t → P0_2 F t →
    (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ (((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))) := fun t => (allFacts F t).2.2.2.2.2.2.2.2.2.2.2.2.2.1

theorem hypsR0_E : ∀ (t : Fin (cfgA F).N), ¬P0_0 F t → ¬P0_1 F t → P0_2 F t →
    (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ ((¬((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1)) ∧ (((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))) := hyps0_E F

/-- At a point of path E: which windows it leaves alone, which are written back, which buffers are undetermined. -/
theorem sched0_E : ∀ (t : Fin (cfgA F).N), ¬P0_0 F t → ¬P0_1 F t → P0_2 F t →
    (cfgA F).idle (5 : Fin 6) ((cfgA F).grid.coords t) = true ∧ ((cfgA F).win (5 : Fin 6)).flush t = false ∧ (cfgA F).fresh (5 : Fin 6) t.val = true ∧ sfresh0_0 F t.val = false ∧ sfresh0_0 F (t.val + 1) = false ∧ sfresh0_1 F t.val = false ∧ sfresh0_1 F (t.val + 1) = false ∧ sfresh0_2 F t.val = false ∧ sfresh0_2 F (t.val + 1) = false ∧ sfresh0_3 F t.val = false ∧ sfresh0_3 F (t.val + 1) = false := by
  intro t; rw [freshF0_5 F t, sfreshF0_0 F t, sfreshS0_0 F t, sfreshF0_1 F t, sfreshS0_1 F t, sfreshF0_2 F t, sfreshS0_2 F t, sfreshF0_3 F t, sfreshS0_3 F t]; exact (allFacts F t).2.2.2.2.2.2.2.2.2.2.2.2.2.2.1

/-- At a point of path F the path's hypotheses hold of the words the body reads there. -/
theorem hyps0_F : ∀ (t : Fin (cfgA F).N), ¬P0_0 F t → P0_1 F t →
    (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ (((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))) := fun t => (allFacts F t).2.2.2.2.2.2.2.2.2.2.2.2.2.2.2.1

theorem hypsR0_F : ∀ (t : Fin (cfgA F).N), ¬P0_0 F t → P0_1 F t →
    (¬((Scalar.cmpi .ne (Scalar.extui (Scalar.cmpi .eq (View.readAt (Elt F) (tbM0_1).view (Rect.unit (s := S36) (k0_off1 (crd F t)) S1.size (k0_off1_inb (crd F t))).toLoadRect (pinT_1) (Shape.Idx.first (numel1_S1.symm ▸ Nat.one_pos))) 0#32)) 0#32) = 1#1)) ∧ (((Scalar.cmpi .ne (Scalar.extui (Scalar.cmpi .sge (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 2#32)) 0#32) = 1#1) ∧ ((¬((Scalar.cmpi .ne (Scalar.extui (Scalar.cmpi .eq (Scalar.subi (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos)))) 1#32)) 0#32) = 1#1)) ∧ ((¬(k0_cond4 (View.readAt (Elt F) (tbM0_0).view (Rect.unit (s := S36) (k0_off1 (crd F t)) S1.size (k0_off1_inb (crd F t))).toLoadRect (pinT_0) (Shape.Idx.first (numel1_S1.symm ▸ Nat.one_pos))) (View.readAt (Elt F) (tbM0_1).view (Rect.unit (s := S36) (k0_off1 (crd F t)) S1.size (k0_off1_inb (crd F t))).toLoadRect (pinT_1) (Shape.Idx.first (numel1_S1.symm ▸ Nat.one_pos))) = 1#1)) ∧ (True)))) := hyps0_F F

/-- At a point of path F: which windows it leaves alone, which are written back, which buffers are undetermined. -/
theorem sched0_F : ∀ (t : Fin (cfgA F).N), ¬P0_0 F t → P0_1 F t →
    (cfgA F).idle (5 : Fin 6) ((cfgA F).grid.coords t) = true ∧ ((cfgA F).win (5 : Fin 6)).flush t = false ∧ (cfgA F).fresh (5 : Fin 6) t.val = true ∧ sfresh0_0 F t.val = false ∧ sfresh0_0 F (t.val + 1) = false ∧ sfresh0_1 F t.val = false ∧ sfresh0_1 F (t.val + 1) = false ∧ sfresh0_2 F t.val = false ∧ sfresh0_2 F (t.val + 1) = false ∧ sfresh0_3 F t.val = false ∧ sfresh0_3 F (t.val + 1) = false := by
  intro t; rw [freshF0_5 F t, sfreshF0_0 F t, sfreshS0_0 F t, sfreshF0_1 F t, sfreshS0_1 F t, sfreshF0_2 F t, sfreshS0_2 F t, sfreshF0_3 F t, sfreshS0_3 F t]; exact (allFacts F t).2.2.2.2.2.2.2.2.2.2.2.2.2.2.2.2

/-! ## What the outputs and scratches hold after each point -/

/-- One step: what the output's buffer and the four scratch buffers hold after the body at point `t`, from what they held
before (`prev`), by the path the point takes. A buffer the path leaves alone keeps what it held. -/
def step0 (c : Dev nD) (t : Fin (cfgA F).N) (prev : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) :=
  if q0 : P0_0 F t then
    if q1 : P0_1 F t then
      ((if (cfgA F).fresh (5 : Fin 6) t.val then default else prev.1), (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_D F t q0 q1).1 (hypsR0_D F t q0 q1).2.1 (hypsR0_D F t q0 q1).2.2.1 (hypsR0_D F t q0 q1).2.2.2.1).1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_D F t q0 q1).1 (hypsR0_D F t q0 q1).2.1 (hypsR0_D F t q0 q1).2.2.1 (hypsR0_D F t q0 q1).2.2.2.1).2.1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_D F t q0 q1).1 (hypsR0_D F t q0 q1).2.1 (hypsR0_D F t q0 q1).2.2.1 (hypsR0_D F t q0 q1).2.2.2.1).2.2.1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_D F t q0 q1).1 (hypsR0_D F t q0 q1).2.1 (hypsR0_D F t q0 q1).2.2.1 (hypsR0_D F t q0 q1).2.2.2.1).2.2.2.1)
    else
      if q2 : P0_2 F t then
        ((if (cfgA F).fresh (5 : Fin 6) t.val then default else prev.1), (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_B F t q0 q1 q2).1 (hypsR0_B F t q0 q1 q2).2.1 (hypsR0_B F t q0 q1 q2).2.2.1 (hypsR0_B F t q0 q1 q2).2.2.2.1).1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_B F t q0 q1 q2).1 (hypsR0_B F t q0 q1 q2).2.1 (hypsR0_B F t q0 q1 q2).2.2.1 (hypsR0_B F t q0 q1 q2).2.2.2.1).2.1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_B F t q0 q1 q2).1 (hypsR0_B F t q0 q1 q2).2.1 (hypsR0_B F t q0 q1 q2).2.2.1 (hypsR0_B F t q0 q1 q2).2.2.2.1).2.2.1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_B F t q0 q1 q2).1 (hypsR0_B F t q0 q1 q2).2.1 (hypsR0_B F t q0 q1 q2).2.2.1 (hypsR0_B F t q0 q1 q2).2.2.2.1).2.2.2.1)
      else
        (out0_A_5 c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1).2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1).2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1).2.2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1).2.2.2.2.1)
  else
    if q1 : P0_1 F t then
      ((if (cfgA F).fresh (5 : Fin 6) t.val then default else prev.1), (kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_F F t q0 q1).1 (hypsR0_F F t q0 q1).2.1 (hypsR0_F F t q0 q1).2.2.1 (hypsR0_F F t q0 q1).2.2.2.1).1, (kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_F F t q0 q1).1 (hypsR0_F F t q0 q1).2.1 (hypsR0_F F t q0 q1).2.2.1 (hypsR0_F F t q0 q1).2.2.2.1).2.1, (kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_F F t q0 q1).1 (hypsR0_F F t q0 q1).2.1 (hypsR0_F F t q0 q1).2.2.1 (hypsR0_F F t q0 q1).2.2.2.1).2.2.1, (kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_F F t q0 q1).1 (hypsR0_F F t q0 q1).2.1 (hypsR0_F F t q0 q1).2.2.1 (hypsR0_F F t q0 q1).2.2.2.1).2.2.2.1)
    else
      if q2 : P0_2 F t then
        ((if (cfgA F).fresh (5 : Fin 6) t.val then default else prev.1), (kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_E F t q0 q1 q2).1 (hypsR0_E F t q0 q1 q2).2.1 (hypsR0_E F t q0 q1 q2).2.2.1 (hypsR0_E F t q0 q1 q2).2.2.2.1).1, (kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_E F t q0 q1 q2).1 (hypsR0_E F t q0 q1 q2).2.1 (hypsR0_E F t q0 q1 q2).2.2.1 (hypsR0_E F t q0 q1 q2).2.2.2.1).2.1, (kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_E F t q0 q1 q2).1 (hypsR0_E F t q0 q1 q2).2.1 (hypsR0_E F t q0 q1 q2).2.2.1 (hypsR0_E F t q0 q1 q2).2.2.2.1).2.2.1, (kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_E F t q0 q1 q2).1 (hypsR0_E F t q0 q1 q2).2.1 (hypsR0_E F t q0 q1 q2).2.2.1 (hypsR0_E F t q0 q1 q2).2.2.2.1).2.2.2.1)
      else
        (out0_C_5 c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1).2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1).2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1).2.2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1).2.2.2.2.1)

/-- What the output's buffer and the four scratch buffers hold after position `n`. -/
def traj0 (c : Dev nD) : (n : ℕ) → n < (cfgA F).N → (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)
  | 0, h => step0 F V c ⟨0, h⟩ (default, default, default, default, default)
  | n + 1, h => step0 F V c ⟨n + 1, h⟩ (traj0 c n (Nat.lt_of_succ_lt h))

/-- What they held before point `t`. -/
def prev0 (c : Dev nD) (t : Fin (cfgA F).N) : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) :=
  if h : t.val = 0 then (default, default, default, default, default) else traj0 F V c (t.val - 1) (by omega)

theorem traj0_eq (c : Dev nD) (t : Fin (cfgA F).N) : traj0 F V c t.val t.isLt = step0 F V c t (prev0 F V c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA F).N) (prev : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : P0_0 F t) (q1 : ¬P0_1 F t) (q2 : ¬P0_2 F t) :
    step0 F V c t prev = (out0_A_5 c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1).2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1).2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1).2.2.2.1, (kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_A F t q0 q1 q2).1 (hypsR0_A F t q0 q1 q2).2.1 (hypsR0_A F t q0 q1 q2).2.2.1 (hypsR0_A F t q0 q1 q2).2.2.2.1).2.2.2.2.1) := by
  unfold step0; simp only [dif_pos q0, dif_neg q1, dif_neg q2]

/-- `step0` at a point of path B. -/
theorem step0_B (c : Dev nD) (t : Fin (cfgA F).N) (prev : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : P0_0 F t) (q1 : ¬P0_1 F t) (q2 : P0_2 F t) :
    step0 F V c t prev = ((if (cfgA F).fresh (5 : Fin 6) t.val then default else prev.1), (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_B F t q0 q1 q2).1 (hypsR0_B F t q0 q1 q2).2.1 (hypsR0_B F t q0 q1 q2).2.2.1 (hypsR0_B F t q0 q1 q2).2.2.2.1).1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_B F t q0 q1 q2).1 (hypsR0_B F t q0 q1 q2).2.1 (hypsR0_B F t q0 q1 q2).2.2.1 (hypsR0_B F t q0 q1 q2).2.2.2.1).2.1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_B F t q0 q1 q2).1 (hypsR0_B F t q0 q1 q2).2.1 (hypsR0_B F t q0 q1 q2).2.2.1 (hypsR0_B F t q0 q1 q2).2.2.2.1).2.2.1, (kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_B F t q0 q1 q2).1 (hypsR0_B F t q0 q1 q2).2.1 (hypsR0_B F t q0 q1 q2).2.2.1 (hypsR0_B F t q0 q1 q2).2.2.2.1).2.2.2.1) := by
  unfold step0; simp only [dif_pos q0, dif_neg q1, dif_pos q2]

/-- `step0` at a point of path C. -/
theorem step0_C (c : Dev nD) (t : Fin (cfgA F).N) (prev : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : ¬P0_0 F t) (q1 : ¬P0_1 F t) (q2 : ¬P0_2 F t) :
    step0 F V c t prev = (out0_C_5 c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1).2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1).2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1).2.2.2.1, (kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_C F t q0 q1 q2).1 (hypsR0_C F t q0 q1 q2).2.1 (hypsR0_C F t q0 q1 q2).2.2.1 (hypsR0_C F t q0 q1 q2).2.2.2.1).2.2.2.2.1) := by
  unfold step0; simp only [dif_neg q0, dif_neg q1, dif_neg q2]

/-- `step0` at a point of path D. -/
theorem step0_D (c : Dev nD) (t : Fin (cfgA F).N) (prev : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : P0_0 F t) (q1 : P0_1 F t) :
    step0 F V c t prev = ((if (cfgA F).fresh (5 : Fin 6) t.val then default else prev.1), (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_D F t q0 q1).1 (hypsR0_D F t q0 q1).2.1 (hypsR0_D F t q0 q1).2.2.1 (hypsR0_D F t q0 q1).2.2.2.1).1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_D F t q0 q1).1 (hypsR0_D F t q0 q1).2.1 (hypsR0_D F t q0 q1).2.2.1 (hypsR0_D F t q0 q1).2.2.2.1).2.1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_D F t q0 q1).1 (hypsR0_D F t q0 q1).2.1 (hypsR0_D F t q0 q1).2.2.1 (hypsR0_D F t q0 q1).2.2.2.1).2.2.1, (kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) (hypsR0_D F t q0 q1).1 (hypsR0_D F t q0 q1).2.1 (hypsR0_D F t q0 q1).2.2.1 (hypsR0_D F t q0 q1).2.2.2.1).2.2.2.1) := by
  unfold step0; simp only [dif_pos q0, dif_pos q1]

/-- `step0` at a point of path E. -/
theorem step0_E (c : Dev nD) (t : Fin (cfgA F).N) (prev : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : ¬P0_0 F t) (q1 : ¬P0_1 F t) (q2 : P0_2 F t) :
    step0 F V c t prev = ((if (cfgA F).fresh (5 : Fin 6) t.val then default else prev.1), (kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_E F t q0 q1 q2).1 (hypsR0_E F t q0 q1 q2).2.1 (hypsR0_E F t q0 q1 q2).2.2.1 (hypsR0_E F t q0 q1 q2).2.2.2.1).1, (kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_E F t q0 q1 q2).1 (hypsR0_E F t q0 q1 q2).2.1 (hypsR0_E F t q0 q1 q2).2.2.1 (hypsR0_E F t q0 q1 q2).2.2.2.1).2.1, (kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_E F t q0 q1 q2).1 (hypsR0_E F t q0 q1 q2).2.1 (hypsR0_E F t q0 q1 q2).2.2.1 (hypsR0_E F t q0 q1 q2).2.2.2.1).2.2.1, (kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_E F t q0 q1 q2).1 (hypsR0_E F t q0 q1 q2).2.1 (hypsR0_E F t q0 q1 q2).2.2.1 (hypsR0_E F t q0 q1 q2).2.2.2.1).2.2.2.1) := by
  unfold step0; simp only [dif_neg q0, dif_neg q1, dif_pos q2]

/-- `step0` at a point of path F. -/
theorem step0_F (c : Dev nD) (t : Fin (cfgA F).N) (prev : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3)) (q0 : ¬P0_0 F t) (q1 : P0_1 F t) :
    step0 F V c t prev = ((if (cfgA F).fresh (5 : Fin 6) t.val then default else prev.1), (kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_F F t q0 q1).1 (hypsR0_F F t q0 q1).2.1 (hypsR0_F F t q0 q1).2.2.1 (hypsR0_F F t q0 q1).2.2.2.1).1, (kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_F F t q0 q1).1 (hypsR0_F F t q0 q1).2.1 (hypsR0_F F t q0 q1).2.2.1 (hypsR0_F F t q0 q1).2.2.2.1).2.1, (kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_F F t q0 q1).1 (hypsR0_F F t q0 q1).2.1 (hypsR0_F F t q0 q1).2.2.1 (hypsR0_F F t q0 q1).2.2.2.1).2.2.1, (kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) prev.2.1 prev.2.2.1 prev.2.2.2.1 prev.2.2.2.2 (hypsR0_F F t q0 q1).1 (hypsR0_F F t q0 q1).2.1 (hypsR0_F F t q0 q1).2.2.1 (hypsR0_F F t q0 q1).2.2.2.1).2.2.2.1) := by
  unfold step0; simp only [dif_neg q0, dif_pos q1]

/-! ## The pipeline's proof data -/

/-- What the tracked buffers held before position `t` of `Fin (N+1)` (the invariant's index). -/
def prev0T (c : Dev nD) (t : Fin ((cfgA F).N + 1)) : (S1x512x128.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) :=
  if h : t.val = 0 then (default, default, default, default, default) else traj0 F V c (t.val - 1) (by omega)

theorem prev0T_castSucc (c : Dev nD) (t : Fin (cfgA F).N) : prev0T F V c t.castSucc = prev0 F V c t := by
  unfold prev0T prev0; simp only [Fin.val_castSucc]
theorem prev0T_succ (c : Dev nD) (t : Fin (cfgA F).N) : prev0T F V c t.succ = traj0 F V c t.val t.isLt := by
  unfold prev0T; simp only [Fin.val_succ, Nat.add_one_ne_zero, ↓reduceDIte, Nat.add_one_sub_one]

/-- The invariant before point `t`: each scratch buffer holds what the steps before left (anything before a point has
stored it), and the tables are held. -/
def Phi (V : (c : Dev nD) → (b : Ref sig .tc) → Buf (Elt F) ((c.tc : Thread nD τ).loc b)) (c : Dev nD) (t : Fin ((cfgA F).N + 1)) : sProp 𝕄 :=
  iprop((∃ a, ⌜sfresh0_0 F t.val = false → a = (prev0T F V c t).2.1⌝ ∗ (scM0_0.view.loc (c : Thread nD τ) ↦{fullShare} a)) ∗ (∃ a, ⌜sfresh0_1 F t.val = false → a = (prev0T F V c t).2.2.1⌝ ∗ (scM0_1.view.loc (c : Thread nD τ) ↦{fullShare} a)) ∗ (∃ a, ⌜sfresh0_2 F t.val = false → a = (prev0T F V c t).2.2.2.1⌝ ∗ (scM0_2.view.loc (c : Thread nD τ) ↦{fullShare} a)) ∗ (∃ a, ⌜sfresh0_3 F t.val = false → a = (prev0T F V c t).2.2.2.2⌝ ∗ (scM0_3.view.loc (c : Thread nD τ) ↦{fullShare} a)) ∗ (tbM0_0.view.loc (c : Thread nD τ) ↦{fullShare.right} pinT_0) ∗ (tbM0_1.view.loc (c : Thread nD τ) ↦{fullShare.right} pinT_1))

/-- The proof data of the one pipeline on core `c`. -/
def dats (_ : Fin 1) (c : Dev nD) : Dat τ (Elt F) Unit ℕ (UR sig nD τ) ℕ (cfgA F) c where
  A w := V c (Pipeline.arrRef (cfgA F).spec w)
  after w t := match w with
    | ⟨0, _⟩ => iblk F V c (0 : Fin 6) t
    | ⟨1, _⟩ => iblk F V c (1 : Fin 6) t
    | ⟨2, _⟩ => iblk F V c (2 : Fin 6) t
    | ⟨3, _⟩ => iblk F V c (3 : Fin 6) t
    | ⟨4, _⟩ => iblk F V c (4 : Fin 6) t
    | ⟨5, _⟩ => (traj0 F V c t.val t.isLt).1
  Φ t := Phi F V c t
  q _ := fullShare
  owed _ := 0

theorem after0_0 (c : Dev nD) (t : Fin (cfgA F).N) : (dats F V 0 c).after (0 : Fin 6) t = iblk F V c (0 : Fin 6) t := rfl
theorem after0_1 (c : Dev nD) (t : Fin (cfgA F).N) : (dats F V 0 c).after (1 : Fin 6) t = iblk F V c (1 : Fin 6) t := rfl
theorem after0_2 (c : Dev nD) (t : Fin (cfgA F).N) : (dats F V 0 c).after (2 : Fin 6) t = iblk F V c (2 : Fin 6) t := rfl
theorem after0_3 (c : Dev nD) (t : Fin (cfgA F).N) : (dats F V 0 c).after (3 : Fin 6) t = iblk F V c (3 : Fin 6) t := rfl
theorem after0_4 (c : Dev nD) (t : Fin (cfgA F).N) : (dats F V 0 c).after (4 : Fin 6) t = iblk F V c (4 : Fin 6) t := rfl
theorem after0_5 (c : Dev nD) (t : Fin (cfgA F).N) : (dats F V 0 c).after (5 : Fin 6) t = (traj0 F V c t.val t.isLt).1 := rfl

/-! ## What each window's staging buffer holds when the body runs -/

/-- Input window 0 holds its block, fetched there or not. -/
theorem before0_0 (c : Dev nD) (t : Fin (cfgA F).N) (d) : (dats F V 0 c).before (0 : Fin 6) t d = iblk F V c (0 : Fin 6) t :=
  ((dats F V 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA F).N) (d) : (dats F V 0 c).before (1 : Fin 6) t d = iblk F V c (1 : Fin 6) t :=
  ((dats F V 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA F).N) (d) : (dats F V 0 c).before (2 : Fin 6) t d = iblk F V c (2 : Fin 6) t :=
  ((dats F V 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA F).N) (d) : (dats F V 0 c).before (3 : Fin 6) t d = iblk F V c (3 : Fin 6) t :=
  ((dats F V 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA F).N) (d) : (dats F V 0 c).before (4 : Fin 6) t d = iblk F V c (4 : Fin 6) t :=
  ((dats F V 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- Output 5's `after` carries through the points that leave it idle. -/
theorem hcarry0_5 (c : Dev nD) : ∀ (t : Fin (cfgA F).N) (ht : t.val ≠ 0), (cfgA F).idle (5 : Fin 6) ((cfgA F).grid.coords t) = true → (cfgA F).fresh (5 : Fin 6) t.val = false →
    (dats F V 0 c).after (5 : Fin 6) t = (dats F V 0 c).after (5 : Fin 6) ⟨t.val - 1, by omega⟩ := by
  intro t ht hi hf
  rw [after0_5, after0_5, traj0_eq]
  by_cases q0 : P0_0 F t
  · by_cases q1 : P0_1 F t
    · rw [step0_D F V c t _ q0 q1]
      simp only [hf, Bool.false_eq_true, ↓reduceIte]
      unfold prev0; rw [dif_neg ht]
    · by_cases q2 : P0_2 F t
      · rw [step0_B F V c t _ q0 q1 q2]
        simp only [hf, Bool.false_eq_true, ↓reduceIte]
        unfold prev0; rw [dif_neg ht]
      · obtain ⟨i5, -, -, -, -, -, -⟩ := sched0_A F t q0 q1 q2
        rw [i5] at hi; exact absurd hi (by decide)
  · by_cases q1 : P0_1 F t
    · rw [step0_F F V c t _ q0 q1]
      simp only [hf, Bool.false_eq_true, ↓reduceIte]
      unfold prev0; rw [dif_neg ht]
    · by_cases q2 : P0_2 F t
      · rw [step0_E F V c t _ q0 q1 q2]
        simp only [hf, Bool.false_eq_true, ↓reduceIte]
        unfold prev0; rw [dif_neg ht]
      · obtain ⟨i5, -, -, -, -, -, -, -, -, -, -⟩ := sched0_C F t q0 q1 q2
        rw [i5] at hi; exact absurd hi (by decide)

/-- What the output's buffer holds when the body runs at `t`. -/
theorem before0_5 (c : Dev nD) (t : Fin (cfgA F).N) (d) :
    (dats F V 0 c).before (5 : Fin 6) t d = if (cfgA F).fresh (5 : Fin 6) t.val then d else (prev0 F V c t).1 := by
  rw [(dats F V 0 c).before_out_traj (5 : Fin 6) rfl (fun _ _ => rfl) (hcarry0_5 F V c) t.val t rfl d]
  by_cases hf : (cfgA F).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

/-! ## The body obligation, at a generic point, by path -/

/-- The body at point `t` on its staging memrefs, as the pipeline calls it. -/
abbrev bodyAt0 (t : Fin (cfgA F).N) : Prog (TpuEff nD τ sig (Elt F) Λ₀ .tc) PUnit :=
  cc0_diff_attn_prompt (crd F t) (Memref.whole main_c) (Memref.isWhole_whole _) (Memref.whole main_c_0) (Memref.isWhole_whole _) (ms0_0 F t) (hs0_0 F t) (ms0_1 F t) (hs0_1 F t) (ms0_2 F t) (hs0_2 F t) (ms0_3 F t) (hs0_3 F t) (ms0_4 F t) (hs0_4 F t) (ms0_5 F t) (hs0_5 F t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4800000 in
/-- The body's specification at point `t`: the path the point takes, its hypotheses, and its run. -/
theorem sound_body (c : Dev nD) (t : Fin (cfgA F).N) :
    iprop((dats F V 0 c).Φ t.castSucc ∗ (dats F V 0 c).owesAt () t.castSucc
        ∗ (∃ d, owns (c : Thread nD τ) (ms0_0 F t) fullShare ((dats F V 0 c).before (0 : Fin 6) t d))
        ∗ (∃ d, owns (c : Thread nD τ) (ms0_1 F t) fullShare ((dats F V 0 c).before (1 : Fin 6) t d))
        ∗ (∃ d, owns (c : Thread nD τ) (ms0_2 F t) fullShare ((dats F V 0 c).before (2 : Fin 6) t d))
        ∗ (∃ d, owns (c : Thread nD τ) (ms0_3 F t) fullShare ((dats F V 0 c).before (3 : Fin 6) t d))
        ∗ (∃ d, owns (c : Thread nD τ) (ms0_4 F t) fullShare ((dats F V 0 c).before (4 : Fin 6) t d))
        ∗ (∃ d, owns (c : Thread nD τ) (ms0_5 F t) fullShare ((dats F V 0 c).before (5 : Fin 6) t d)))
      ⊢ wp frame (wpE (defs₀ (F := F)) Variants.none c none) Set.univ (bodyAt0 F t) fun _ =>
          iprop((dats F V 0 c).Φ t.succ ∗ (dats F V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats F V 0 c).before w t d))
                  | true => owns (c : Thread nD τ) (((cfgA F).win w).stage ((cfgA F).slots t w)) fullShare ((dats F V 0 c).after w t)
                | false => owns (c : Thread nD τ) (((cfgA F).win w).stage ((cfgA F).slots t w)) fullShare ((dats F V 0 c).after w t)) := by
  rw [bigSep_W0]
  by_cases q0 : P0_0 F t
  · by_cases q1 : P0_1 F t
    · obtain ⟨i5, f5, fr5, sf0, sfn0, sf1, sfn1, sf2, sfn2, sf3, sfn3⟩ := sched0_D F t q0 q1
      have F0 := hypsR0_D F t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats F V 0 c).Φ t.succ = Phi F V c t.succ from rfl, show (dats F V 0 c).Φ t.castSucc = Phi F V c t.castSucc from rfl,
        show (dats F V 0 c).owesAt () t.succ = (dats F V 0 c).owesAt () t.castSucc from rfl]
      try rewrite [traj0_eq, step0_D F V c t _ q0 q1]
      unfold Phi; simp only [prev0T_castSucc, prev0T_succ, traj0_eq, step0_D F V c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
      iapply ((kernelRun0_D c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) hc0 hc1 hc2 k0_h4).2.2.2.2 _ a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · by_cases q2 : P0_2 F t
      · obtain ⟨i5, f5, fr5, sf0, sfn0, sf1, sfn1, sf2, sfn2, sf3, sfn3⟩ := sched0_B F t q0 q1 q2
        have F0 := hypsR0_B F t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i5]
        simp only [before0_0, before0_1, before0_2, before0_3, before0_4, before0_5, after0_0, after0_1, after0_2, after0_3, after0_4, after0_5, f5]
        simp only [fr5, Bool.false_eq_true, ↓reduceIte]
        rewrite [show (dats F V 0 c).Φ t.succ = Phi F V c t.succ from rfl, show (dats F V 0 c).Φ t.castSucc = Phi F V c t.castSucc from rfl,
          show (dats F V 0 c).owesAt () t.succ = (dats F V 0 c).owesAt () t.castSucc from rfl]
        try rewrite [traj0_eq, step0_B F V c t _ q0 q1 q2]
        unfold Phi; simp only [prev0T_castSucc, prev0T_succ, traj0_eq, step0_B F V c t _ q0 q1 q2, Fin.val_castSucc, Fin.val_succ]
        iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
        iapply ((kernelRun0_B c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) hc0 hc1 hc2 k0_h4).2.2.2.2 _ a0 a1 a2 a3 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        isplitl [HS1]; · iexact HS1
        isplitl [HS2]; · iexact HS2
        isplitl [HS3]; · iexact HS3
        iintro ⟨H0, H1, H2, H3, H4, HT0, HT1, H5, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · obtain ⟨i5, f5, fr5, sfn0, sfn1, sfn2, sfn3⟩ := sched0_A F t q0 q1 q2
        have F0 := hypsR0_A F t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i5]
        simp only [before0_0, before0_1, before0_2, before0_3, before0_4, before0_5, after0_0, after0_1, after0_2, after0_3, after0_4, after0_5, f5]
        simp only [fr5, Bool.false_eq_true, ↓reduceIte]
        rewrite [show (dats F V 0 c).Φ t.succ = Phi F V c t.succ from rfl, show (dats F V 0 c).Φ t.castSucc = Phi F V c t.castSucc from rfl,
          show (dats F V 0 c).owesAt () t.succ = (dats F V 0 c).owesAt () t.castSucc from rfl]
        try rewrite [traj0_eq, step0_A F V c t _ q0 q1 q2]
        unfold Phi; simp only [prev0T_castSucc, prev0T_succ, traj0_eq, step0_A F V c t _ q0 q1 q2, Fin.val_castSucc, Fin.val_succ]
        iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
        iapply ((kernelRun0_A c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) hc0 hc1 hc2 k0_h4).2.2.2.2.2 a0 a1 a2 a3 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexists _; iexact H5
        isplitl [HS0]; · iexact HS0
        isplitl [HS1]; · iexact HS1
        isplitl [HS2]; · iexact HS2
        isplitl [HS3]; · iexact HS3
        iintro ⟨H0, H1, H2, H3, H4, HT0, HT1, ⟨%e5, H5⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        unfold owns; iexists _; isplitr; swap
        · iexact H5
        · ipureintro; exact View.read_writes_of_cover _ _ _ _ _ (cover0_A_5 c _ _ _ _ _ _ _ _ _ _ _ _ _ _ _ _ _ _ _ _ _ _ _ _)
  · by_cases q1 : P0_1 F t
    · obtain ⟨i5, f5, fr5, sf0, sfn0, sf1, sfn1, sf2, sfn2, sf3, sfn3⟩ := sched0_F F t q0 q1
      have F0 := hypsR0_F F t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats F V 0 c).Φ t.succ = Phi F V c t.succ from rfl, show (dats F V 0 c).Φ t.castSucc = Phi F V c t.castSucc from rfl,
        show (dats F V 0 c).owesAt () t.succ = (dats F V 0 c).owesAt () t.castSucc from rfl]
      try rewrite [traj0_eq, step0_F F V c t _ q0 q1]
      unfold Phi; simp only [prev0T_castSucc, prev0T_succ, traj0_eq, step0_F F V c t _ q0 q1, Fin.val_castSucc, Fin.val_succ]
      simp only [exists_held sf0, exists_held sf1, exists_held sf2, exists_held sf3]
      iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
      iapply ((kernelRun0_F c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) _ _ _ _ hc0 hc1 hc2 k0_h4).2.2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · by_cases q2 : P0_2 F t
      · obtain ⟨i5, f5, fr5, sf0, sfn0, sf1, sfn1, sf2, sfn2, sf3, sfn3⟩ := sched0_E F t q0 q1 q2
        have F0 := hypsR0_E F t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i5]
        simp only [before0_0, before0_1, before0_2, before0_3, before0_4, before0_5, after0_0, after0_1, after0_2, after0_3, after0_4, after0_5, f5]
        simp only [fr5, Bool.false_eq_true, ↓reduceIte]
        rewrite [show (dats F V 0 c).Φ t.succ = Phi F V c t.succ from rfl, show (dats F V 0 c).Φ t.castSucc = Phi F V c t.castSucc from rfl,
          show (dats F V 0 c).owesAt () t.succ = (dats F V 0 c).owesAt () t.castSucc from rfl]
        try rewrite [traj0_eq, step0_E F V c t _ q0 q1 q2]
        unfold Phi; simp only [prev0T_castSucc, prev0T_succ, traj0_eq, step0_E F V c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
        iapply ((kernelRun0_E c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) _ _ _ _ hc0 hc1 hc2 k0_h4).2.2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        isplitl [HS1]; · iexact HS1
        isplitl [HS2]; · iexact HS2
        isplitl [HS3]; · iexact HS3
        iintro ⟨H0, H1, H2, H3, H4, HT0, HT1, H5, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · obtain ⟨i5, f5, fr5, sf0, sfn0, sf1, sfn1, sf2, sfn2, sf3, sfn3⟩ := sched0_C F t q0 q1 q2
        have F0 := hypsR0_C F t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i5]
        simp only [before0_0, before0_1, before0_2, before0_3, before0_4, before0_5, after0_0, after0_1, after0_2, after0_3, after0_4, after0_5, f5]
        simp only [fr5, Bool.false_eq_true, ↓reduceIte]
        rewrite [show (dats F V 0 c).Φ t.succ = Phi F V c t.succ from rfl, show (dats F V 0 c).Φ t.castSucc = Phi F V c t.castSucc from rfl,
          show (dats F V 0 c).owesAt () t.succ = (dats F V 0 c).owesAt () t.castSucc from rfl]
        try rewrite [traj0_eq, step0_C F V c t _ q0 q1 q2]
        unfold Phi; simp only [prev0T_castSucc, prev0T_succ, traj0_eq, step0_C F V c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
        iapply ((kernelRun0_C c (crd F t) (ms0_0 F t) (hs0_0 F t) (ms0_1 F t) (hs0_1 F t) (ms0_2 F t) (hs0_2 F t) (ms0_3 F t) (hs0_3 F t) (ms0_4 F t) (hs0_4 F t) (ms0_5 F t) (hs0_5 F t) (pinT_0) (pinT_1) (iblk F V c (0 : Fin 6) t) (iblk F V c (1 : Fin 6) t) (iblk F V c (2 : Fin 6) t) (iblk F V c (3 : Fin 6) t) (iblk F V c (4 : Fin 6) t) _ _ _ _ hc0 hc1 hc2 k0_h4).2.2.2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexists _; iexact H5
        isplitl [HS0]; · iexact HS0
        isplitl [HS1]; · iexact HS1
        isplitl [HS2]; · iexact HS2
        isplitl [HS3]; · iexact HS3
        iintro ⟨H0, H1, H2, H3, H4, HT0, HT1, ⟨%e5, H5⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        unfold owns; iexists _; isplitr; swap
        · iexact H5
        · ipureintro; exact View.read_writes_of_cover _ _ _ _ _ (cover0_C_5 c _ _ _ _ _ _ _ _ _ _ _ _ _ _ _ _ _ _ _ _ _ _ _ _ _ _ _ _)

/-- The library's body obligation, at every point. -/
theorem body_obligation (c : Dev nD) : BodyObligation (dats F V 0 c) (defs₀ (F := F)) Variants.none () Set.univ := fun t => by
  rw [bigSep_W0]
  exact sound_body F V c t

/-! ## The launch -/

end Cert.KernelIdeal.Diff

end
-- ==== Proof.Diff.Entry.lean ====
module

public import proofs.«01_k».proof.Defs
public import proofs.«01_k».proof.Proof.Gen.KernelIdeal.Launch
public import Idealize.ShloMosaic.Lib.Pipeline.Frame
public import Idealize.ShloMosaic.Lib.StableHlo.RunRead

/-! What the buffers hold when the attention call begins: the host operations before it, run from the launch memory; the
argument arrays are untouched by them and the two tables hold the causal pairs. -/

@[expose] public section

set_option maxRecDepth 16384

noncomputable section

namespace Cert.KernelIdeal.Diff

open Cert.KernelIdeal Cert.KernelIdeal.Gen
open Idealize.ShloMosaic Idealize.ShloMosaic.TcCoe
open Idealize.SL Idealize.SL.RA Idealize.SL.BI Idealize.SL.Sem

variable {F : FTy → Type} [FloatOps F]

/-- The host operations before the call, stretch by stretch. -/
abbrev hostLines : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16]

/-- The buffers' contents on core `c` when the call begins. -/
abbrev entry (m : (ℓ : Loc nD τ sig) → Buf (Elt F) ℓ) (c : Dev nD) (b : Ref sig .tc) : Buf (Elt F) ((c.tc : Thread nD τ).loc b) :=
  StableHlo.after (List.flatten hostLines) (fun b => m (c, b)) b

theorem hostLines_fresh : (hostLines (F := F)).Forall fun ops => ops.Forall fun op => op.fresh = ∅ := by
  simp only [List.Forall]
  refine ⟨?_, ?_, ?_, ?_, ?_, ?_, ?_, ?_, ?_, ?_, ?_, ?_, ?_, ?_, ?_, ?_, ?_⟩ <;> repeat' first | exact rfl | constructor

theorem hostLines_sub : (hostLines (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub,
    hostOps0_15_sub, hostOps0_16_sub⟩

set_option maxHeartbeats 2000000 in
/-- The program is its host lines and then the call. -/
theorem main_lines (c : Dev nD) : main (F := F) c = Pipeline.chain (hostLines.map StableHlo.seq ++ [Prog.lift (.customCall (Pipeline.entry 0) ())]) :=
  main_chain c

variable (m : (ℓ : Loc nD τ sig) → Buf (Elt F) ℓ) (c : Dev nD)

theorem entry_arg0 : entry m c main_arg0 = m (c, main_arg0) := by
  show StableHlo.after (List.flatten hostLines) (fun b => m (c, b)) main_arg0 = _
  after_reads_simp
theorem entry_arg1 : entry m c main_arg1 = m (c, main_arg1) := by
  show StableHlo.after (List.flatten hostLines) (fun b => m (c, b)) main_arg1 = _
  after_reads_simp
theorem entry_arg2 : entry m c main_arg2 = m (c, main_arg2) := by
  show StableHlo.after (List.flatten hostLines) (fun b => m (c, b)) main_arg2 = _
  after_reads_simp
theorem entry_arg3 : entry m c main_arg3 = m (c, main_arg3) := by
  show StableHlo.after (List.flatten hostLines) (fun b => m (c, b)) main_arg3 = _
  after_reads_simp
theorem entry_arg4 : entry m c main_arg4 = m (c, main_arg4) := by
  show StableHlo.after (List.flatten hostLines) (fun b => m (c, b)) main_arg4 = _
  after_reads_simp
theorem entry_arg5 : entry m c main_arg5 = m (c, main_arg5) := by
  show StableHlo.after (List.flatten hostLines) (fun b => m (c, b)) main_arg5 = _
  after_reads_simp
theorem entry_arg6 : entry m c main_arg6 = m (c, main_arg6) := by
  show StableHlo.after (List.flatten hostLines) (fun b => m (c, b)) main_arg6 = _
  after_reads_simp
theorem entry_arg7 : entry m c main_arg7 = m (c, main_arg7) := by
  show StableHlo.after (List.flatten hostLines) (fun b => m (c, b)) main_arg7 = _
  after_reads_simp
theorem entry_c : entry m c main_c = fun i => lit0 (S36.rowMajor i) := by
  show StableHlo.after (List.flatten hostLines) (fun b => m (c, b)) main_c = _
  after_reads_simp
  rfl
theorem entry_c_0 : entry m c main_c_0 = fun i => lit1 (S36.rowMajor i) := by
  show StableHlo.after (List.flatten hostLines) (fun b => m (c, b)) main_c_0 = _
  after_reads_simp
  rfl

end Cert.KernelIdeal.Diff

end
-- ==== Proof.Diff.Run.lean ====
module

public import proofs.«01_k».proof.Proof.Diff.Body
public import proofs.«01_k».proof.Proof.Diff.Entry
public import Idealize.ShloMosaic.Lib.Pipeline.Quiescent

/-! The run of the whole program: the host lines, then the attention call at the tables the host lines wrote; what every
buffer holds at the end, and that the arguments end as they were. -/

@[expose] public section

set_option maxRecDepth 16384

noncomputable section

namespace Cert.KernelIdeal.Diff

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]
variable (V : (c : Dev nD) → (b : Ref sig .tc) → Buf (Elt F) ((c.tc : Thread nD τ).loc b))

local notation "𝕄" => MT nD τ sig Unit (Elt F) ℕ (UR sig nD τ) ℕ

/-- The rounds library's launch element. -/
def u₀ : UR sig nD τ :=
  initOf (Pipeline.cells (pcs F) ((launch0 (F := F)).cellOf_inj fun _ => adm F))
    (Pipeline.launchToks (pcs F) ((launch0 (F := F)).cellOf_inj fun _ => adm F))

theorem share_eq (c : Dev nD) (w : Fin (cfgA F).W) : (dats F V 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm F).1 ∗ Pipeline.scopedRest spec0 c) ⊢ (dats F V 0 c).Φ 0 := by
  rw [prefHeld_eq, scopedRest0_eq, show (dats F V 0 c).Φ 0 = Phi F V c 0 from rfl]
  unfold Phi
  iintro ⟨-, ⟨HT0, HT1⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 F 0 = true from rfl)) Bool.false_ne_true
  isplitl [HS1]
  · iexists a1; isplitr; swap
    · iexact HS1
    · ipureintro; intro h; exact absurd (h.symm.trans (show sfresh0_1 F 0 = true from rfl)) Bool.false_ne_true
  isplitl [HS2]
  · iexists a2; isplitr; swap
    · iexact HS2
    · ipureintro; intro h; exact absurd (h.symm.trans (show sfresh0_2 F 0 = true from rfl)) Bool.false_ne_true
  isplitl [HS3]
  · iexists a3; isplitr; swap
    · iexact HS3
    · ipureintro; intro h; exact absurd (h.symm.trans (show sfresh0_3 F 0 = true from rfl)) Bool.false_ne_true
  isplitl [HT0]
  · iexact HT0
  iexact HT1

/-- at the last point it gives the scratch buffers back (`hout`), the tables let go. -/
theorem phiN_exit (c : Dev nD) : (dats F V 0 c).Φ (Fin.last (cfgA F).N) ⊢ iprop(BI.emp ∗ Pipeline.scopedRest spec0 c) := by
  rw [scopedRest0_eq, show (dats F V 0 c).Φ (Fin.last (cfgA F).N) = Phi F V c (Fin.last _) from rfl]
  unfold Phi
  iintro ⟨⟨%a0, -, HS0⟩, ⟨%a1, -, HS1⟩, ⟨%a2, -, HS2⟩, ⟨%a3, -, HS3⟩, -, -⟩
  isplitr; · iempintro
  isplitl [HS0]
  · iexists a0; iexact HS0
  isplitl [HS1]
  · iexists a1; iexact HS1
  isplitl [HS2]
  · iexists a2; iexact HS2
  iexists a3; iexact HS3

variable (m : (ℓ : Loc nD τ sig) → Buf (Elt F) ℓ) (ρ : Dev nD → PrngReg)

theorem pinT_0_eq : pinT_0 = fun i => lit0 (S36.rowMajor i) := by
  funext i; revert i; decide +kernel

theorem pinT_1_eq : pinT_1 = fun i => lit1 (S36.rowMajor i) := by
  funext i; revert i; decide +kernel

/-- The tables hold the pairs the pipeline is read at. -/
theorem entry_pre (c : Dev nD) (k : Fin 2) : entry m c (pre0.ref k) = (adm F).1 k := by
  fin_cases k
  · exact (entry_c m c).trans pinT_0_eq.symm
  · exact (entry_c_0 m c).trans pinT_1_eq.symm

/-- What the run leaves: every array of the call at what the points wrote, every other buffer as the call found it. -/
def Post (r : PUnit × MemSt nD τ sig (Elt F)) : Prop :=
  ∀ c : Dev nD, (∀ w : Fin (cfgA F).W, r.2.mem (((cfgA F).win w).arr.view.loc (c : Thread nD τ)) = (dats F (entry m) 0 c).arrAt w (cfgA F).N)
    ∧ ∀ b ∈ Pipeline.restRefs sig spec0, r.2.mem ((c.tc : Thread nD τ).loc b) = entry m c b

set_option backward.isDefEq.respectTransparency.types false in
set_option maxHeartbeats 4000000 in
theorem run_main_quiescent : θ_run (defs (F := F)) (onTc (τ := τ) (main (F := F))) (s₀ m ρ) (fun r => Post F m r ∧ r.2.sem = fun _ => 0) :=
  Pipeline.θ_run_region_noSem_pf_quiescent pcfgs (fun _ => adm F) (dats F (entry m)) () ((launch0 (F := F)).cellOf_inj fun _ => adm F) (0 : Fin 1)
    (launch0 (F := F)).win.to₀ (launch0 (F := F)).pre (EP F) defs₀ Variants.none m ρ main
    (hbody := fun c => (body_obligation F (entry m) c).loose) (hne := (launch0 (F := F)).block_pos)
    (harr := (launch0 (F := F)).arr_whole) (hstage := (launch0 (F := F)).stage_whole) (howed := fun _ _ => rfl)
    (u₀ := u₀ F) (hu₀ := .rfl)
    (V := entry m)
    (hmain := Pipeline.hmainP_prefixes pcfgs 0 defs₀ Variants.none m main hostLines hostLines_sub hostLines_fresh main_lines)
    (hsplit := fun c => Pipeline.arrays_split (pcs F) (dats F (entry m)) 0 (launch0 (F := F)).win.arr_inj c (launch0 (F := F)).arr_whole
      (share_eq F (entry m) c) _ _ fun _ => rfl)
    (hpf := entry_pre F m)
    (X := fun _ => iprop(emp)) (Y := fun _ => iprop(emp))
    (Z := fun c => Pipeline.unscopedRestP (Ix := Unit) (Name := ℕ) (U := UR sig nD τ) (Lvl := ℕ) pre0 spec0 c (entry m c))
    (hX := fun c => by
      iintro H; isplitr; · iempintro
      iexact H)
    (hin := phi0_intro F (entry m))
    (hout := phiN_exit F (entry m))
    (QY := fun c s => ∀ b ∈ Pipeline.restRefsP sig pre0 spec0, s.mem ((c.tc : Thread nD τ).loc b) = entry m c b)
    (hY := fun c s' => by
      iintro ⟨-, HU, HSI⟩
      unfold Pipeline.unscopedRestP
      imodintro
      iapply (pointsTo_read_all (Pipeline.restRefsP sig pre0 spec0) (fun b => (c.tc : Thread nD τ).loc b) (entry m c) s')
      isplitl [HU] <;> iassumption)
    (hQ := fun s h hz => ⟨fun c => ⟨(h c).1, Pipeline.rest_of_restP pre0 spec0 (adm F).1 c (entry m c) s (entry_pre F m c) (h c).2.1 (h c).2.2⟩, hz⟩)

/-- The frame: from any launch memory the run ends, every argument as it was, every semaphore at zero. -/
theorem run_frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ?_, h.2⟩) (run_main_quiescent F m ρ)
  have hr := (h.1 c).2
  exact ⟨(hr _ (by decide)).trans (entry_arg0 m c), (hr _ (by decide)).trans (entry_arg1 m c), (hr _ (by decide)).trans (entry_arg2 m c),
    (hr _ (by decide)).trans (entry_arg3 m c), (hr _ (by decide)).trans (entry_arg4 m c), (hr _ (by decide)).trans (entry_arg5 m c),
    (hr _ (by decide)).trans (entry_arg6 m c), (hr _ (by decide)).trans (entry_arg7 m c)⟩

end Cert.KernelIdeal.Diff

end
-- ==== Proof.Diff.Same.lean ====
module

public import proofs.«01_k».proof.Defs
public import proofs.«01_k».proof.Proof.Gen.Kernel.Launch
public import proofs.«01_k».proof.Proof.Gen.KernelIdeal.Launch

/-! The kernel program and the one read over the extended reals have the same text: their host lines, list by list, and
their kernel body are equal, so that what is proved of one for any float values holds of the other. -/

@[expose] public section

set_option maxRecDepth 16384

noncomputable section

namespace Cert.KernelIdeal.Diff

open Idealize.ShloMosaic Idealize.SL.Sem

variable {F : FTy → Type} [FloatOps F]

theorem lit0_eq : Cert.Kernel.lit0 = Cert.KernelIdeal.lit0 := by funext i; revert i; decide
theorem lit1_eq : Cert.Kernel.lit1 = Cert.KernelIdeal.lit1 := by funext i; revert i; decide

/-- A list of host operations. -/
abbrev HostList (F : FTy → Type) := List (HloOp Cert.KernelIdeal.τ Cert.KernelIdeal.sig (Elt F))
/-- The calls of a program, as pipelines. -/
abbrev Calls (F : FTy → Type) [FloatOps F] := Fin 1 → Pipeline.PCfg Cert.KernelIdeal.sig Cert.KernelIdeal.Λ₀ (Elt F)

/-- Host lists one after the other, then the kernel call. -/
def hostThenCall (pc : Calls F) (ls : List (HostList F)) : Prog (TpuEff Cert.KernelIdeal.nD Cert.KernelIdeal.τ
    Cert.KernelIdeal.sig (Elt F) (Pipeline.Sig Cert.KernelIdeal.Λ₀ (Fin 1) fun p => (pc p).Adm) .tc) PUnit :=
  Pipeline.chain (ls.map StableHlo.seq ++ [Prog.lift (.customCall (Pipeline.entry 0) ())])

theorem host0_eq : @Eq (HostList F) Cert.Kernel.Gen.hostOps0 Cert.KernelIdeal.Gen.hostOps0 := by
  unfold Cert.Kernel.Gen.hostOps0
  rw [lit0_eq, lit1_eq]
  rfl
theorem host1_eq : @Eq (HostList F) Cert.Kernel.Gen.hostOps0_1 Cert.KernelIdeal.Gen.hostOps0_1 := rfl
theorem host2_eq : @Eq (HostList F) Cert.Kernel.Gen.hostOps0_2 Cert.KernelIdeal.Gen.hostOps0_2 := rfl
theorem host3_eq : @Eq (HostList F) Cert.Kernel.Gen.hostOps0_3 Cert.KernelIdeal.Gen.hostOps0_3 := rfl
theorem host4_eq : @Eq (HostList F) Cert.Kernel.Gen.hostOps0_4 Cert.KernelIdeal.Gen.hostOps0_4 := rfl
theorem host5_eq : @Eq (HostList F) Cert.Kernel.Gen.hostOps0_5 Cert.KernelIdeal.Gen.hostOps0_5 := rfl
theorem host6_eq : @Eq (HostList F) Cert.Kernel.Gen.hostOps0_6 Cert.KernelIdeal.Gen.hostOps0_6 := rfl
theorem host7_eq : @Eq (HostList F) Cert.Kernel.Gen.hostOps0_7 Cert.KernelIdeal.Gen.hostOps0_7 := rfl
theorem host8_eq : @Eq (HostList F) Cert.Kernel.Gen.hostOps0_8 Cert.KernelIdeal.Gen.hostOps0_8 := rfl
theorem host9_eq : @Eq (HostList F) Cert.Kernel.Gen.hostOps0_9 Cert.KernelIdeal.Gen.hostOps0_9 := rfl
theorem host10_eq : @Eq (HostList F) Cert.Kernel.Gen.hostOps0_10 Cert.KernelIdeal.Gen.hostOps0_10 := rfl
theorem host11_eq : @Eq (HostList F) Cert.Kernel.Gen.hostOps0_11 Cert.KernelIdeal.Gen.hostOps0_11 := rfl
theorem host12_eq : @Eq (HostList F) Cert.Kernel.Gen.hostOps0_12 Cert.KernelIdeal.Gen.hostOps0_12 := rfl
theorem host13_eq : @Eq (HostList F) Cert.Kernel.Gen.hostOps0_13 Cert.KernelIdeal.Gen.hostOps0_13 := rfl
theorem host14_eq : @Eq (HostList F) Cert.Kernel.Gen.hostOps0_14 Cert.KernelIdeal.Gen.hostOps0_14 := rfl
theorem host15_eq : @Eq (HostList F) Cert.Kernel.Gen.hostOps0_15 Cert.KernelIdeal.Gen.hostOps0_15 := rfl
theorem host16_eq : @Eq (HostList F) Cert.Kernel.Gen.hostOps0_16 Cert.KernelIdeal.Gen.hostOps0_16 := rfl

/-- The call's pipeline is the same. -/
theorem calls_eq : @Eq (Calls F) Cert.Kernel.pcfgs Cert.KernelIdeal.pcfgs := rfl

/-- The kernel body is the same. -/
theorem body_eq : @Eq (Defs Cert.KernelIdeal.nD Cert.KernelIdeal.τ Cert.KernelIdeal.sig (Elt F) Cert.KernelIdeal.Λ₀)
    Cert.Kernel.defs₀ Cert.KernelIdeal.defs₀ := by
  unfold Cert.Kernel.defs₀ Cert.KernelIdeal.defs₀
  refine congrArg Defs.onTc ?_
  funext a b
  match a, b with
  | 0, (t, s) => rfl
  | ⟨_ + 1, h⟩, _ => exact absurd h (Nat.not_lt.2 (Nat.le_add_left _ _))

/-- What a run of such a program ends in. -/
def Ends (pc : Calls F) (d : Defs Cert.KernelIdeal.nD Cert.KernelIdeal.τ Cert.KernelIdeal.sig (Elt F) Cert.KernelIdeal.Λ₀)
    (ls : List (HostList F)) (s : MemSt Cert.KernelIdeal.nD Cert.KernelIdeal.τ Cert.KernelIdeal.sig (Elt F))
    (post : PUnit × MemSt Cert.KernelIdeal.nD Cert.KernelIdeal.τ Cert.KernelIdeal.sig (Elt F) → Prop) : Prop :=
  θ_run (Pipeline.defs pc d) (onTc (τ := Cert.KernelIdeal.τ) fun _ => hostThenCall pc ls) s post

theorem main_kernel (c : Dev Cert.Kernel.nD) : Cert.Kernel.main (F := F) c = hostThenCall Cert.Kernel.pcfgs [Cert.Kernel.Gen.hostOps0, Cert.Kernel.Gen.hostOps0_1, Cert.Kernel.Gen.hostOps0_2, Cert.Kernel.Gen.hostOps0_3, Cert.Kernel.Gen.hostOps0_4, Cert.Kernel.Gen.hostOps0_5, Cert.Kernel.Gen.hostOps0_6, Cert.Kernel.Gen.hostOps0_7, Cert.Kernel.Gen.hostOps0_8, Cert.Kernel.Gen.hostOps0_9, Cert.Kernel.Gen.hostOps0_10, Cert.Kernel.Gen.hostOps0_11, Cert.Kernel.Gen.hostOps0_12, Cert.Kernel.Gen.hostOps0_13, Cert.Kernel.Gen.hostOps0_14, Cert.Kernel.Gen.hostOps0_15, Cert.Kernel.Gen.hostOps0_16] :=
  Cert.Kernel.Gen.main_chain (F := F) c

theorem main_kernelIdeal (c : Dev Cert.KernelIdeal.nD) : Cert.KernelIdeal.main (F := F) c = hostThenCall Cert.KernelIdeal.pcfgs [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16] :=
  Cert.KernelIdeal.Gen.main_chain (F := F) c

/-- A run of the one program is a run of the other. -/
theorem run_transfer (s : MemSt Cert.KernelIdeal.nD Cert.KernelIdeal.τ Cert.KernelIdeal.sig (Elt F))
    (post : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s post) :
    θ_run (Cert.Kernel.defs (F := F)) (onTc (τ := Cert.Kernel.τ) (Cert.Kernel.main (F := F))) s post := by
  rw [show Cert.KernelIdeal.main (F := F) = _ from funext main_kernelIdeal] at h
  change Ends _ _ _ _ _ at h
  rw [← calls_eq, ← body_eq, ← host0_eq, ← host1_eq, ← host2_eq, ← host3_eq, ← host4_eq, ← host5_eq, ← host6_eq, ← host7_eq, ← host8_eq, ← host9_eq, ← host10_eq, ← host11_eq, ← host12_eq, ← host13_eq, ← host14_eq, ← host15_eq, ← host16_eq] at h
  rw [show Cert.Kernel.main (F := F) = _ from funext main_kernel]
  exact h

end Cert.KernelIdeal.Diff

end
-- ==== Proof.Value.Grid.lean ====
module

public import proofs.«01_k».proof.Proof.Diff.FactsDec

/-! The grid's points: which tile of queries and which tile of keys each names, what the body decides there, and which block of
each array the point reads and writes. -/

@[expose] public section

set_option maxRecDepth 16384

noncomputable section

namespace Cert.KernelIdeal.Value

open Cert.KernelIdeal Cert.KernelIdeal.Gen Cert.KernelIdeal.Diff
open Idealize.ShloMosaic

/-- The batch a point works at. -/
def pB (n : ℕ) : ℕ := n / 144
/-- The head a point works at. -/
def pH (n : ℕ) : ℕ := n / 36 % 4
/-- The tile of queries a point works at. -/
def pI (n : ℕ) : ℕ := ([0, 1, 1, 2, 2, 2, 3, 3, 3, 3, 4, 4, 4, 4, 4, 5, 5, 5, 5, 5, 5, 6, 6, 6, 6, 6, 6, 6, 7, 7, 7, 7, 7, 7, 7, 7] : List ℕ).getD (n % 36) 0
/-- The tile of keys a point works at. -/
def pJ (n : ℕ) : ℕ := ([0, 0, 1, 0, 1, 2, 0, 1, 2, 3, 0, 1, 2, 3, 4, 0, 1, 2, 3, 4, 5, 0, 1, 2, 3, 4, 5, 6, 0, 1, 2, 3, 4, 5, 6, 7] : List ℕ).getD (n % 36) 0

/-- What holds of a number of a point: the tiles are in range, and a point not at a first tile of keys has its predecessor at
the tile before. -/
def Num (n : ℕ) : Prop := pB n < 4 ∧ pH n < 4 ∧ pI n < 8 ∧ pJ n ≤ pI n ∧
  (pJ n ≠ 0 → n ≠ 0 ∧ pB (n - 1) = pB n ∧ pH (n - 1) = pH n ∧ pI (n - 1) = pI n ∧ pJ (n - 1) + 1 = pJ n)
instance (n : ℕ) : Decidable (Num n) := by unfold Num; infer_instance
theorem num : ∀ n : Fin 576, Num n.val := by decide +kernel

/-- What a point's index maps and decisions are. -/
def GridAt (F : FTy → Type) [FloatOps F] (t : Fin (cfgA F).N) : Prop :=
  ((cfgA F).win 1).index t = ![pB t.val, pI t.val, pH t.val] ∧ ((cfgA F).win 2).index t = ![pB t.val, pJ t.val, pH t.val] ∧
  ((cfgA F).win 3).index t = ![pB t.val, pJ t.val, pH t.val] ∧ ((cfgA F).win 4).index t = ![pH t.val, 0, 0, 0] ∧
  ((cfgA F).win 5).index t = ![pB t.val, pI t.val, pH t.val] ∧ ((cfgA F).win 0).index t = ![0] ∧
  (P0_0 F t ↔ pJ t.val = 0) ∧ (P0_1 F t ↔ pJ t.val + 2 ≤ pI t.val) ∧ (P0_2 F t ↔ pI t.val = pJ t.val + 1) ∧
  ((crd F t) 1).val = pH t.val ∧ (((cfgA F).win 5).flush t = true → pJ t.val = pI t.val)
instance (t : Fin (cfgA Bits).N) : Decidable (GridAt Bits t) := by unfold GridAt; infer_instance

theorem gridBits_0 : ∀ t : Fin (cfgA Bits).N, 0 ≤ t.val → t.val < 72 → GridAt Bits t := by decide +kernel
theorem gridBits_1 : ∀ t : Fin (cfgA Bits).N, 72 ≤ t.val → t.val < 144 → GridAt Bits t := by decide +kernel
theorem gridBits_2 : ∀ t : Fin (cfgA Bits).N, 144 ≤ t.val → t.val < 216 → GridAt Bits t := by decide +kernel
theorem gridBits_3 : ∀ t : Fin (cfgA Bits).N, 216 ≤ t.val → t.val < 288 → GridAt Bits t := by decide +kernel
theorem gridBits_4 : ∀ t : Fin (cfgA Bits).N, 288 ≤ t.val → t.val < 360 → GridAt Bits t := by decide +kernel
theorem gridBits_5 : ∀ t : Fin (cfgA Bits).N, 360 ≤ t.val → t.val < 432 → GridAt Bits t := by decide +kernel
theorem gridBits_6 : ∀ t : Fin (cfgA Bits).N, 432 ≤ t.val → t.val < 504 → GridAt Bits t := by decide +kernel
theorem gridBits_7 : ∀ t : Fin (cfgA Bits).N, 504 ≤ t.val → t.val < 576 → GridAt Bits t := by decide +kernel
theorem gridBits : ∀ t : Fin (cfgA Bits).N, GridAt Bits t := fun t => by
  have h7 : t.val < 576 := t.isLt
  by_cases h0 : t.val < 72
  · exact gridBits_0 t (Nat.zero_le _) h0
  by_cases h1 : t.val < 144
  · exact gridBits_1 t (by omega) h1
  by_cases h2 : t.val < 216
  · exact gridBits_2 t (by omega) h2
  by_cases h3 : t.val < 288
  · exact gridBits_3 t (by omega) h3
  by_cases h4 : t.val < 360
  · exact gridBits_4 t (by omega) h4
  by_cases h5 : t.val < 432
  · exact gridBits_5 t (by omega) h5
  by_cases h6 : t.val < 504
  · exact gridBits_6 t (by omega) h6
  exact gridBits_7 t (by omega) h7

theorem gridAt (t : Fin (cfgA Ideal).N) : GridAt Ideal t := gridBits t

end Cert.KernelIdeal.Value

end
-- ==== Proof.Value.Chunk.lean ====
module

public import proofs.«01_k».proof.Proof.Diff.Runs
public import Idealize.ShloMosaic.Lib.Pointwise
public import Idealize.ShloMosaic.Lib.WritesUnit

/-! One chunk of 256 rows of the attention body at the extended reals: its scores, the new running maximum, the new
normaliser and the new accumulator, each read at a row. -/

@[expose] public section

set_option maxRecDepth 16384

noncomputable section

namespace Cert.KernelIdeal.Value

open Cert.KernelIdeal Cert.KernelIdeal.Gen
open Idealize.ShloMosaic

/-- The new maximum of a row with scores `s` over the maximum `m` so far. -/
def rowM (s : Fin 512 → EReal) (m : EReal) : EReal := max m (Finset.univ.fold max ⊥ s)

/-- The new normaliser of the row. -/
def rowL (s : Fin 512 → EReal) (m l : EReal) : EReal :=
  Ideal.exp (m - rowM s m) * l + ∑ x, Ideal.exp (s x - rowM s m)

/-- The new accumulator of the row at one lane, `v` the values' lane. -/
def rowA (s : Fin 512 → EReal) (m : EReal) (v : Fin 512 → EReal) (a : EReal) : EReal :=
  Ideal.exp (m - rowM s m) * a + ∑ x, Ideal.exp (s x - rowM s m) * v x

/-- A tile's first axis dropped. -/
def flat (k : Vec Ideal S1x512x128 .bf16) : FVec Ideal S512x128 .bf16 := shapeCast S512x128 k shapeCasts_S1x512x128_S512x128

/-- A chunk's scores. -/
def chS (q : FVec Ideal S256x128 .bf16) (k : FVec Ideal S512x128 .bf16) (b : FVec Ideal S256x512 .f32) : FVec Ideal S256x512 .f32 :=
  addf (matmul dot_S256x128_S512x128_S256x512_1_1_0_0_n_n none q k (constant S256x512 .f32 0x00000000#32)) b

/-- A chunk's new maximum. -/
def chM (s : FVec Ideal S256x512 .f32) (m : Vec Ideal S256x1 .f32) : FVec Ideal S256x1 .f32 :=
  maximumf m (shapeCast S256x1 (multiReduction .maximumf [1] S256 s 0xFF800000#32 reduces_S256x512_S256 (.inl rfl) rfl) shapeCasts_S256_S256x1)

/-- A chunk's weights under the new maximum. -/
def chP (s : FVec Ideal S256x512 .f32) (m : Vec Ideal S256x1 .f32) : FVec Ideal S256x512 .f32 :=
  exp (subf s (broadcastTo S256x512 (chM s m) broadcasts_S256x1_S256x512))

/-- A chunk's new normaliser. -/
def chL (s : FVec Ideal S256x512 .f32) (m l : Vec Ideal S256x1 .f32) : FVec Ideal S256x1 .f32 :=
  addf (mulf (exp (subf m (chM s m))) l)
    (shapeCast S256x1 (multiReduction .add [1] S256 (chP s m) 0x00000000#32 reduces_S256x512_S256 (.inl rfl) rfl) shapeCasts_S256_S256x1)

/-- A chunk's new accumulator. -/
def chA (s : FVec Ideal S256x512 .f32) (m : Vec Ideal S256x1 .f32) (v : FVec Ideal S512x128 .bf16) (a : Vec Ideal S256x128 .f32) : FVec Ideal S256x128 .f32 :=
  addf (mulf (broadcastTo S256x128 (exp (subf m (chM s m))) broadcasts_S256x1_S256x128) a)
    (matmul dot_S256x512_S512x128_S256x128_1_0_0_1_n_n none (truncf .bf16 (chP s m) bitsLt_bf16_f32) v (constant S256x128 .f32 0x00000000#32))

theorem flat_apply (k : Vec Ideal S1x512x128 .bf16) (x : Fin 512) (e : Fin 128) : flat k (ix2 x e) = k (ix3 0 x e) := by
  unfold flat; pointwise

theorem chS_apply (q : FVec Ideal S256x128 .bf16) (k : FVec Ideal S512x128 .bf16) (b : FVec Ideal S256x512 .f32) (r : Fin 256) (x : Fin 512) :
    chS q k b (ix2 r x) = (∑ e : Fin 128, q (ix2 r e) * k (ix2 x e)) + b (ix2 r x) := by
  unfold chS; pointwise

theorem chM_apply (s : FVec Ideal S256x512 .f32) (m : Vec Ideal S256x1 .f32) (r : Fin 256) :
    chM s m (ix2 r 0) = rowM (fun x => s (ix2 r x)) (m (ix2 r 0)) := by
  unfold chM rowM; pointwise; rfl

theorem chP_apply (s : FVec Ideal S256x512 .f32) (m : Vec Ideal S256x1 .f32) (r : Fin 256) (x : Fin 512) :
    chP s m (ix2 r x) = Ideal.exp (s (ix2 r x) - rowM (fun x => s (ix2 r x)) (m (ix2 r 0))) := by
  rw [← chM_apply]; unfold chP; pointwise

theorem chL_apply (s : FVec Ideal S256x512 .f32) (m l : Vec Ideal S256x1 .f32) (r : Fin 256) :
    chL s m l (ix2 r 0) = rowL (fun x => s (ix2 r x)) (m (ix2 r 0)) (l (ix2 r 0)) := by
  unfold rowL; rw [← chM_apply]; unfold chL; pointwise
  simp only [chP_apply, chM_apply]

theorem chA_apply (s : FVec Ideal S256x512 .f32) (m : Vec Ideal S256x1 .f32) (v : FVec Ideal S512x128 .bf16) (a : Vec Ideal S256x128 .f32)
    (r : Fin 256) (e : Fin 128) :
    chA s m v a (ix2 r e) = rowA (fun x => s (ix2 r x)) (m (ix2 r 0)) (fun x => v (ix2 x e)) (a (ix2 r e)) := by
  unfold rowA; rw [← chM_apply]; unfold chA; pointwise
  simp only [chP_apply, chM_apply]

end Cert.KernelIdeal.Value
end
end
-- ==== Proof.Value.Math.lean ====
module

public import proofs.«01_k».proof.Proof.Value.Chunk

/-! The mathematics of a row's attention over the extended reals: the running maximum, normaliser and accumulator over
the tiles of keys make the softmax's sums over all keys, and the output formed from them is the plain one's. -/

@[expose] public section

noncomputable section

namespace Cert.KernelIdeal.Value

open Idealize.ShloMosaic

/-! ## The exponential -/

theorem exp_bot : Ideal.exp ⊥ = 0 := rfl
theorem exp_coe (r : ℝ) : Ideal.exp (r : EReal) = ((Real.exp r : ℝ) : EReal) := rfl

theorem exp_nonneg (x : EReal) : 0 ≤ Ideal.exp x := by
  induction x with
  | bot => exact le_refl _
  | top => exact le_top
  | coe r => exact EReal.coe_nonneg.2 (Real.exp_pos r).le

theorem sub_top (x : EReal) : x - ⊤ = ⊥ := by rw [sub_eq_add_neg, EReal.neg_top, EReal.add_bot]
theorem bot_sub (x : EReal) : ⊥ - x = ⊥ := by rw [sub_eq_add_neg, EReal.bot_add]

theorem exp_sub_ne_top (m m' : EReal) (h : m ≤ m') (hb : m ≠ ⊥) : Ideal.exp (m - m') ≠ ⊤ := by
  induction m' with
  | top => rw [sub_top, exp_bot]; exact EReal.zero_ne_top
  | bot => exact absurd (le_bot_iff.1 h) hb
  | coe r' =>
    induction m with
    | bot => exact absurd rfl hb
    | top => exact absurd (top_le_iff.1 h) (EReal.coe_ne_top r')
    | coe r => rw [← EReal.coe_sub, exp_coe]; exact EReal.coe_ne_top _

/-- Moving a weight from the old maximum to the new one. -/
theorem exp_shift (s m m' : EReal) (hs : s ≤ m) (h : m ≤ m') (hb : m ≠ ⊥) :
    Ideal.exp (m - m') * Ideal.exp (s - m) = Ideal.exp (s - m') := by
  induction m' with
  | top => rw [sub_top, sub_top, exp_bot, zero_mul]
  | bot => exact absurd (le_bot_iff.1 h) hb
  | coe r' =>
    induction m with
    | bot => exact absurd rfl hb
    | top => exact absurd (top_le_iff.1 h) (EReal.coe_ne_top r')
    | coe r =>
      induction s with
      | bot => rw [bot_sub, bot_sub, exp_bot, mul_zero]
      | top => exact absurd (top_le_iff.1 hs) (EReal.coe_ne_top r)
      | coe x =>
        rw [← EReal.coe_sub, ← EReal.coe_sub, ← EReal.coe_sub, exp_coe, exp_coe, exp_coe, ← EReal.coe_mul, ← Real.exp_add]
        congr 2; ring

/-- A nonnegative finite factor passes into a sum. -/
theorem mul_sum_of_nonneg {ι : Type} (c : EReal) (h0 : 0 ≤ c) (ht : c ≠ ⊤) (T : Finset ι) (f : ι → EReal) :
    c * ∑ x ∈ T, f x = ∑ x ∈ T, c * f x := by
  classical
  induction T using Finset.induction_on with
  | empty => simp
  | insert a T ha ih => rw [Finset.sum_insert ha, Finset.sum_insert ha, EReal.left_distrib_of_nonneg_of_ne_top h0 ht, ih]

theorem fold_max_eq_sup {ι : Type} (T : Finset ι) (f : ι → EReal) : T.fold max ⊥ f = T.sup f := rfl

/-! ## The running sums -/

/-- Key `x` of tile `J`. -/
def key (J : Fin 8) : Fin 512 ↪ Fin 4096 where
  toFun x := ⟨512 * J.val + x.val, by omega⟩
  inj' a b h := by
    have := congrArg Fin.val h
    simp only at this
    exact Fin.ext (by omega)

theorem key_val (J : Fin 8) (x : Fin 512) : (key J x).val = 512 * J.val + x.val := rfl

/-- The keys of the first `n` tiles. -/
def below (n : ℕ) : Finset (Fin 4096) := Finset.univ.filter fun x => x.val < 512 * n

theorem below_zero : below 0 = ∅ := by
  unfold below; exact Finset.filter_eq_empty_iff.2 fun x _ h => by omega

theorem below_disjoint (J : Fin 8) : Disjoint (below J.val) (Finset.univ.map (key J)) := by
  rw [Finset.disjoint_left]
  intro x hx hy
  obtain ⟨y, -, rfl⟩ := Finset.mem_map.1 hy
  have := (Finset.mem_filter.1 hx).2
  rw [key_val] at this; omega

theorem below_succ (J : Fin 8) : below (J.val + 1) = (below J.val).disjUnion (Finset.univ.map (key J)) (below_disjoint J) := by
  ext x
  simp only [Finset.mem_disjUnion, Finset.mem_map, below, Finset.mem_filter, Finset.mem_univ, true_and]
  constructor
  · intro h
    by_cases h' : x.val < 512 * J.val
    · exact .inl h'
    · exact .inr ⟨⟨x.val - 512 * J.val, by omega⟩, Fin.ext (by rw [key_val]; simp only; omega)⟩
  · rintro (h | ⟨y, rfl⟩)
    · omega
    · rw [key_val]; omega

variable (m0 : ℝ) (S : Fin 4096 → EReal) (V : Fin 4096 → EReal)

/-- The running maximum over a set of keys. -/
def rm (T : Finset (Fin 4096)) : EReal := max (m0 : EReal) (T.sup S)
/-- The normaliser over a set of keys at its maximum. -/
def rl (T : Finset (Fin 4096)) : EReal := ∑ x ∈ T, Ideal.exp (S x - rm m0 S T)
/-- The accumulator over a set of keys at its maximum. -/
def ra (T : Finset (Fin 4096)) : EReal := ∑ x ∈ T, Ideal.exp (S x - rm m0 S T) * V x

theorem rm_zero : rm m0 S (below 0) = m0 := by rw [below_zero]; exact max_bot_right _
theorem rl_zero : rl m0 S (below 0) = 0 := by unfold rl; rw [below_zero]; exact Finset.sum_empty
theorem ra_zero : ra m0 S V (below 0) = 0 := by unfold ra; rw [below_zero]; exact Finset.sum_empty

theorem rm_ne_bot (T : Finset (Fin 4096)) : rm m0 S T ≠ ⊥ :=
  fun h => EReal.coe_ne_bot m0 (le_bot_iff.1 (h ▸ le_max_left _ _))

theorem rm_succ (J : Fin 8) : rm m0 S (below (J.val + 1)) = rowM (fun x => S (key J x)) (rm m0 S (below J.val)) := by
  unfold rowM rm
  rw [fold_max_eq_sup, below_succ, Finset.disjUnion_eq_union, Finset.sup_union, Finset.sup_map, max_assoc]
  rfl

theorem rm_le (J : Fin 8) : rm m0 S (below J.val) ≤ rm m0 S (below (J.val + 1)) := by
  rw [rm_succ]; exact le_max_left _ _

theorem le_rm (T : Finset (Fin 4096)) (x : Fin 4096) (h : x ∈ T) : S x ≤ rm m0 S T :=
  (Finset.le_sup h).trans (le_max_right _ _)

theorem rl_succ (J : Fin 8) : rl m0 S (below (J.val + 1)) = rowL (fun x => S (key J x)) (rm m0 S (below J.val)) (rl m0 S (below J.val)) := by
  unfold rowL
  rw [← rm_succ]
  conv_rhs => rw [show rl m0 S (below J.val) = ∑ x ∈ below J.val, Ideal.exp (S x - rm m0 S (below J.val)) from rfl,
    mul_sum_of_nonneg _ (exp_nonneg _) (exp_sub_ne_top _ _ (rm_le m0 S J) (rm_ne_bot m0 S _))]
  rw [Finset.sum_congr rfl fun x hx => exp_shift _ _ _ (le_rm m0 S _ x hx) (rm_le m0 S J) (rm_ne_bot m0 S _)]
  unfold rl
  generalize rm m0 S (below (J.val + 1)) = M
  rw [below_succ, Finset.sum_disjUnion, Finset.sum_map]

theorem ra_succ (J : Fin 8) :
    ra m0 S V (below (J.val + 1)) = rowA (fun x => S (key J x)) (rm m0 S (below J.val)) (fun x => V (key J x)) (ra m0 S V (below J.val)) := by
  unfold rowA
  rw [← rm_succ]
  conv_rhs => rw [show ra m0 S V (below J.val) = ∑ x ∈ below J.val, Ideal.exp (S x - rm m0 S (below J.val)) * V x from rfl,
    mul_sum_of_nonneg _ (exp_nonneg _) (exp_sub_ne_top _ _ (rm_le m0 S J) (rm_ne_bot m0 S _))]
  rw [Finset.sum_congr rfl fun x hx => by
    rw [← mul_assoc, exp_shift _ _ _ (le_rm m0 S _ x hx) (rm_le m0 S J) (rm_ne_bot m0 S _)]]
  unfold ra
  generalize rm m0 S (below (J.val + 1)) = M
  rw [below_succ, Finset.sum_disjUnion, Finset.sum_map]

/-- Keys of score minus infinity add nothing. -/
theorem rm_all (n : ℕ) (h : ∀ x, x ∉ below n → S x = ⊥) : rm m0 S (below n) = rm m0 S Finset.univ := by
  have e : (below n).sup S = Finset.univ.sup S := by
    refine le_antisymm (Finset.sup_mono (Finset.subset_univ _)) (Finset.sup_le fun x _ => ?_)
    by_cases hx : x ∈ below n
    · exact Finset.le_sup hx
    · rw [h x hx]; exact bot_le
  unfold rm
  rw [e]

theorem rl_all (n : ℕ) (h : ∀ x, x ∉ below n → S x = ⊥) : rl m0 S (below n) = rl m0 S Finset.univ := by
  unfold rl
  rw [rm_all m0 S n h]
  exact Finset.sum_subset (Finset.subset_univ _) fun x _ hx => by rw [h x hx, bot_sub, exp_bot]

theorem ra_all (n : ℕ) (h : ∀ x, x ∉ below n → S x = ⊥) : ra m0 S V (below n) = ra m0 S V Finset.univ := by
  unfold ra
  rw [rm_all m0 S n h]
  exact Finset.sum_subset (Finset.subset_univ _) fun x _ hx => by rw [h x hx, bot_sub, exp_bot, zero_mul]

end Cert.KernelIdeal.Value

end
end
-- ==== Proof.Value.Bucket.lean ====
module

public import Idealize.ShloMosaic.PureOps.Ideal
public import Idealize.ShloMosaic.Lib.IdealHost
public import Idealize.ShloMosaic.Lib.WordArith

/-! The constants of the attention as reals, and the bucket of a distance: every distance up to 4095 has one of the 32
buckets, and from 128 on it is the last. -/

@[expose] public section

noncomputable section

namespace Cert.Attn

open Idealize.ShloMosaic

theorem bits_16 : Ideal.ofBits .f32 0x41800000#32 = ((16 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_log : Ideal.ofBits .f32 0x40051592#32 = ((8721810 / 4194304 : ℝ) : EReal) := by
  simp [Ideal.ofBits, Ideal.ieee, -EReal.coe_mul]; norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]
theorem bits_eps : ∃ r : ℝ, Ideal.ofBits .f32 0x358637BD#32 = (r : EReal) := by
  simp [Ideal.ofBits, Ideal.ieee, -EReal.coe_mul]
theorem bits_lam : ∃ r : ℝ, Ideal.ofBits .f32 0x3E4CCCCD#32 = (r : EReal) := by
  simp [Ideal.ofBits, Ideal.ieee, -EReal.coe_mul]
theorem bits_low : ∃ r : ℝ, Ideal.ofBits .f32 0xF149F2CA#32 = (r : EReal) := by
  simp [Ideal.ofBits, Ideal.ieee, -EReal.coe_mul, -EReal.coe_neg]

/-- The bucket of a distance, as the host computes it on words. -/
def bucketW (n : BitVec 32) : BitVec 32 :=
  Scalar.select (IntOp.cmpi .slt n 16#32) n
    (IntOp.minsi (IntOp.addi 16#32 (FloatOps.fptosi (F := Ideal) (φ := .f32) 32
      (Ideal.div (Ideal.log (Ideal.div (FloatOps.sitofp (F := Ideal) .f32 (IntOp.maxsi n 1#32)) (Ideal.ofBits .f32 0x41800000#32)))
        (Ideal.ofBits .f32 0x40051592#32) * Ideal.ofBits .f32 0x41800000#32))) 31#32)

/-- The same with the wrap of a negative index. -/
def bucketI (n : BitVec 32) : BitVec 32 :=
  Scalar.select (IntOp.cmpi .slt (bucketW n) 0#32) (IntOp.addi (bucketW n) 32#32) (bucketW n)

/-- The score of a query at position `i` against a key at position `x`: the product of the two rows scaled, with the
bias of their distance; a key after the query has none. -/
def score (dot : EReal) (tb : Fin 32 → EReal) (bk : ℕ → Fin 32) (i x : ℕ) : EReal :=
  if x ≤ i then dot * ((1 / 8 : ℝ) : EReal) + tb (bk (i - x)) else ⊥

/-- The real the logarithmic buckets count. -/
def lev (n : ℕ) : ℝ := Real.log (n / 16) / (8721810 / 4194304) * 16

/-- The bucket of a distance. -/
def bk (n : ℕ) : Fin 32 := if h : n < 16 then ⟨n, by omega⟩ else ⟨min (16 + ⌊lev n⌋.toNat) 31, by omega⟩

theorem lev_nonneg (n : ℕ) (h : 16 ≤ n) : 0 ≤ lev n := by
  have h1 : (1 : ℝ) ≤ n / 16 := by
    rw [le_div_iff₀ (by norm_num)]; exact_mod_cast (by omega : 1 * 16 ≤ n)
  unfold lev
  have := Real.log_nonneg h1
  positivity

theorem lev_le (n : ℕ) (h : 16 ≤ n) (hn : n ≤ 4095) : lev n ≤ 4096 := by
  have h0 : (0 : ℝ) < n / 16 := by have : (0 : ℝ) < n := by exact_mod_cast (by omega : 0 < n)
                                   positivity
  have h1 := Real.log_le_sub_one_of_pos h0
  have h2 : (n : ℝ) ≤ 4095 := by exact_mod_cast hn
  unfold lev
  rw [div_mul_eq_mul_div, div_le_iff₀ (by norm_num)]
  nlinarith

theorem lev_far (n : ℕ) (h : 128 ≤ n) : 15 ≤ lev n := by
  have h1 : (8 : ℝ) ≤ n / 16 := by
    rw [le_div_iff₀ (by norm_num)]; exact_mod_cast (by omega : 8 * 16 ≤ n)
  have h2 : Real.log 8 ≤ Real.log (n / 16) := Real.log_le_log (by norm_num) h1
  have h3 : (2 : ℝ) ≤ Real.log 8 := by
    rw [Real.le_log_iff_exp_le (by norm_num)]
    have h := Real.add_one_le_exp (-(1 / 64) : ℝ)
    rw [Real.exp_neg] at h
    have hp := Real.exp_pos (1 / 64 : ℝ)
    have h4 : Real.exp (1 / 64) ≤ 64 / 63 := by
      have : (63 / 64 : ℝ) ≤ (Real.exp (1 / 64))⁻¹ := le_trans (by norm_num) h
      rw [le_inv_comm₀ (by norm_num) hp] at this
      exact this.trans (by norm_num)
    rw [show (2 : ℝ) = (128 : ℕ) * (1 / 64) by norm_num, Real.exp_nat_mul]
    exact (pow_le_pow_left₀ hp.le h4 128).trans (by norm_num)
  unfold lev
  rw [div_mul_eq_mul_div, le_div_iff₀ (by norm_num)]
  nlinarith

theorem bk_far (n : ℕ) (h : 128 ≤ n) : bk n = 31 := by
  unfold bk
  rw [dif_neg (by omega)]
  have h1 : (15 : ℤ) ≤ ⌊lev n⌋ := Int.le_floor.2 (by exact_mod_cast lev_far n h)
  apply Fin.ext
  show min (16 + ⌊lev n⌋.toNat) 31 = 31
  omega

theorem ofInt_toNat (z : ℤ) (h : 0 ≤ z) : BitVec.ofInt 32 z = BitVec.ofNat 32 z.toNat := by
  obtain ⟨k, rfl⟩ := Int.eq_ofNat_of_zero_le h
  simp

theorem bucketW_eq (n : ℕ) (hn : n ≤ 4095) : bucketW (BitVec.ofNat 32 n) = BitVec.ofNat 32 (bk n).val := by
  have hi : (BitVec.ofNat 32 n).toInt = n := WordArith.toInt_ofNat_small n (by omega)
  unfold bucketW
  by_cases h : n < 16
  · have hc : IntOp.cmpi .slt (BitVec.ofNat 32 n) 16#32 = 1#1 := by
      simp only [IntOp.cmpi, BitVec.slt, hi]
      simp [h]
    rw [hc]
    unfold bk
    rw [dif_pos h]
    rfl
  · have hc : IntOp.cmpi .slt (BitVec.ofNat 32 n) 16#32 = 0#1 := by
      simp only [IntOp.cmpi, BitVec.slt, hi]
      simp [h]
    have hm : IntOp.maxsi (BitVec.ofNat 32 n) 1#32 = BitVec.ofNat 32 n := by
      simp only [IntOp.maxsi, BitVec.slt, BitVec.sle, hi]
      simp; omega
    rw [hc, hm, show (FloatOps.sitofp (F := Ideal) .f32 (BitVec.ofNat 32 n) : EReal) = ((n : ℝ) : EReal) from by
      show (((BitVec.ofNat 32 n).toInt : ℝ) : EReal) = _
      rw [hi]; norm_cast]
    have hl : Ideal.div (Ideal.log (Ideal.div ((n : ℝ) : EReal) (Ideal.ofBits .f32 0x41800000#32))) (Ideal.ofBits .f32 0x40051592#32)
        * Ideal.ofBits .f32 0x41800000#32 = ((lev n : ℝ) : EReal) := by
      rw [bits_16, bits_log, Ideal.div_coe (by norm_num), Ideal.div_coe (by norm_num), ← EReal.coe_mul]
      have hp : ¬((n : ℝ) * (1 / 16) ≤ 0) := by
        have : (0 : ℝ) < n := by exact_mod_cast (by omega : 0 < n)
        have : (0 : ℝ) < n * (1 / 16) := by positivity
        linarith
      rw [show Ideal.log (((n : ℝ) * (1 / 16) : ℝ) : EReal) = ((Real.log ((n : ℝ) * (1 / 16)) : ℝ) : EReal) from if_neg hp,
        ← EReal.coe_mul, ← EReal.coe_mul]
      unfold lev
      congr 1
      rw [show (n : ℝ) * (1 / 16) = n / 16 by ring]
      ring
    rw [hl]
    have hf : (FloatOps.fptosi (F := Ideal) (φ := .f32) 32 ((lev n : ℝ) : EReal)) = BitVec.ofNat 32 ⌊lev n⌋.toNat := by
      show Ideal.fptosi 32 ((lev n : ℝ) : EReal) = _
      unfold Ideal.fptosi
      have h0 := lev_nonneg n (by omega)
      have h1 : (0 : ℤ) ≤ ⌊lev n⌋ := Int.floor_nonneg.2 h0
      have h2 : ⌊lev n⌋ ≤ 4096 := by
        have := (Int.floor_le (lev n)).trans (lev_le n (by omega) hn)
        exact_mod_cast this
      rw [show Ideal.toIntClamped (-(2 ^ (32 - 1) : Nat)) ((2 ^ (32 - 1) : Nat) - 1) ((lev n : ℝ) : EReal)
          = max (-(2 ^ (32 - 1) : Nat) : ℤ) (min (((2 ^ (32 - 1) : Nat) : ℤ) - 1) (if 0 ≤ lev n then ⌊lev n⌋ else ⌈lev n⌉)) from rfl, if_pos h0,
        ← ofInt_toNat _ h1]
      congr 1
      norm_num
      omega
    rw [hf]
    have h1 : (0 : ℤ) ≤ ⌊lev n⌋ := Int.floor_nonneg.2 (lev_nonneg n (by omega))
    have h2 : ⌊lev n⌋ ≤ 4096 := by
      have := (Int.floor_le (lev n)).trans (lev_le n (by omega) hn)
      exact_mod_cast this
    obtain ⟨k, hk⟩ : ∃ k : ℕ, k = ⌊lev n⌋.toNat := ⟨_, rfl⟩
    have hk' : k ≤ 4096 := by omega
    have hb : (bk n).val = min (16 + k) 31 := by unfold bk; rw [dif_neg h, hk]
    rw [hb, ← hk]
    have ha : IntOp.addi 16#32 (BitVec.ofNat 32 k) = BitVec.ofNat 32 (16 + k) := by
      show 16#32 + BitVec.ofNat 32 k = _
      rw [BitVec.ofNat_add]
    have hai : (BitVec.ofNat 32 (16 + k)).toInt = ((16 + k : ℕ) : ℤ) := WordArith.toInt_ofNat_small _ (by omega)
    rw [ha]
    show IntOp.minsi (BitVec.ofNat 32 (16 + k)) 31#32 = BitVec.ofNat 32 (min (16 + k) 31)
    simp only [IntOp.minsi, BitVec.slt, BitVec.sle, hai]
    by_cases h5 : 16 + k ≤ 31
    · rw [min_eq_left h5]; split
      · rfl
      · next hh => simp at hh; have : 16 + k = 31 := by omega
                   rw [this]
    · rw [min_eq_right (by omega)]; split
      · next hh => simp at hh; omega
      · rfl

theorem bucketI_eq (n : ℕ) (hn : n ≤ 4095) : bucketI (BitVec.ofNat 32 n) = BitVec.ofNat 32 (bk n).val := by
  unfold bucketI
  rw [bucketW_eq n hn]
  have hi : (BitVec.ofNat 32 (bk n).val).toInt = ((bk n).val : ℤ) := WordArith.toInt_ofNat_small _ (by omega)
  rw [show IntOp.cmpi .slt (BitVec.ofNat 32 (bk n).val) 0#32 = 0#1 from by
    simp only [IntOp.cmpi, BitVec.slt, hi]
    rw [decide_eq_false (by show ¬((bk n).val : ℤ) < 0; omega)]; rfl]
  rfl

end Cert.Attn

end
end
-- ==== Proof.Value.Final.lean ====
module

public import proofs.«01_k».proof.Proof.Value.Math

/-! The output row: the kernel's quotient of accumulator by normaliser, normalised, is the plain softmax's weighted sum,
normalised. Where a row's scores have no finite maximum both normalised rows are zero. -/

@[expose] public section

noncomputable section

namespace Cert.KernelIdeal.Value

open Idealize.ShloMosaic

/-- The normalisation of a row of 128 lanes. -/
def nrm (n eps : EReal) (o : Fin 128 → EReal) (e : Fin 128) : EReal :=
  o e * Ideal.rsqrt (Ideal.div (∑ d, o d * o d) n + eps)

theorem sum_zero_top {ι : Type} (T : Finset ι) (f : ι → EReal) (h : ∀ x ∈ T, f x = 0 ∨ f x = ⊤) :
    (∑ x ∈ T, f x = 0 ∧ ∀ x ∈ T, f x = 0) ∨ ∑ x ∈ T, f x = ⊤ := by
  classical
  induction T using Finset.induction_on with
  | empty => exact .inl ⟨Finset.sum_empty, fun x hx => absurd hx (Finset.notMem_empty x)⟩
  | insert a T ha ih =>
    rw [Finset.sum_insert ha]
    have ih := ih fun x hx => h x (Finset.mem_insert_of_mem hx)
    rcases h a (Finset.mem_insert_self a T) with h0 | h0
    · rcases ih with ⟨i1, i2⟩ | i
      · exact .inl ⟨by rw [h0, i1, add_zero], fun x hx => (Finset.mem_insert.1 hx).elim (fun e => e ▸ h0) (i2 x)⟩
      · exact .inr (by rw [h0, i, zero_add])
    · rcases ih with ⟨i1, -⟩ | i
      · exact .inr (by rw [h0, i1, add_zero])
      · exact .inr (by rw [h0, i]; rfl)

/-- A row of zeros and infinities is normalised to zero. -/
theorem nrm_zero (n eps : ℝ) (hn : 0 < n) (o : Fin 128 → EReal) (h : ∀ e, o e = 0 ∨ o e = ⊤ ∨ o e = ⊥) (e : Fin 128) :
    nrm n eps o e = 0 := by
  unfold nrm
  have hs : ∀ d ∈ (Finset.univ : Finset (Fin 128)), o d * o d = 0 ∨ o d * o d = ⊤ := fun d _ => by
    rcases h d with h | h | h <;> rw [h]
    · exact .inl (mul_zero _)
    · exact .inr EReal.top_mul_top
    · exact .inr EReal.bot_mul_bot
  rcases sum_zero_top Finset.univ (fun d => o d * o d) hs with ⟨-, hz⟩ | ht
  · have : o e = 0 := by
      rcases h e with h | h | h
      · exact h
      · have := hz e (Finset.mem_univ _); rw [h] at this; exact absurd (EReal.top_mul_top.symm.trans this) EReal.top_ne_zero
      · have := hz e (Finset.mem_univ _); rw [h] at this; exact absurd (EReal.bot_mul_bot.symm.trans this) EReal.top_ne_zero
    rw [this, zero_mul]
  · rw [ht, Ideal.div_coe hn.ne', EReal.top_mul_coe_of_pos (by positivity), EReal.top_add_coe]
    exact mul_zero _

theorem sum_tri {ι : Type} (T : Finset ι) (f : ι → EReal) (h : ∀ x ∈ T, f x = 0 ∨ f x = ⊤ ∨ f x = ⊥) :
    ∑ x ∈ T, f x = 0 ∨ ∑ x ∈ T, f x = ⊤ ∨ ∑ x ∈ T, f x = ⊥ := by
  classical
  induction T using Finset.induction_on with
  | empty => exact .inl Finset.sum_empty
  | insert a T ha ih =>
    rw [Finset.sum_insert ha]
    have ih := ih fun x hx => h x (Finset.mem_insert_of_mem hx)
    rcases h a (Finset.mem_insert_self a T) with h0 | h0 | h0 <;> rcases ih with i | i | i <;> rw [h0, i]
    · exact .inl (add_zero _)
    · exact .inr (.inl (zero_add _))
    · exact .inr (.inr (zero_add _))
    · exact .inr (.inl (add_zero _))
    · exact .inr (.inl rfl)
    · exact .inr (.inr (EReal.add_bot _))
    · exact .inr (.inr (EReal.bot_add _))
    · exact .inr (.inr (EReal.bot_add _))
    · exact .inr (.inr (EReal.bot_add _))

theorem coe_mul_inf (v : ℝ) (w : EReal) (hw : w = ⊤ ∨ w = ⊥) : (v : EReal) * w = 0 ∨ (v : EReal) * w = ⊤ ∨ (v : EReal) * w = ⊥ := by
  rcases lt_trichotomy v 0 with h | h | h
  · rcases hw with rfl | rfl
    · exact .inr (.inr (EReal.coe_mul_top_of_neg h))
    · exact .inr (.inl (EReal.coe_mul_bot_of_neg h))
  · subst h; exact .inl (by rw [EReal.coe_zero, zero_mul])
  · rcases hw with rfl | rfl
    · exact .inr (.inl (EReal.coe_mul_top_of_pos h))
    · exact .inr (.inr (EReal.coe_mul_bot_of_pos h))

theorem coe_sub_inf (r : ℝ) (w : EReal) (hw : w = ⊤ ∨ w = ⊥) : (r : EReal) - w = ⊤ ∨ (r : EReal) - w = ⊥ := by
  rcases hw with rfl | rfl
  · exact .inr (by rw [sub_eq_add_neg, EReal.neg_top, EReal.add_bot])
  · exact .inl (by rw [sub_eq_add_neg, EReal.neg_bot, EReal.coe_add_top])

theorem sum_coe {ι : Type} (T : Finset ι) (f : ι → ℝ) : ∑ x ∈ T, ((f x : ℝ) : EReal) = ((∑ x ∈ T, f x : ℝ) : EReal) := by
  classical
  induction T using Finset.induction_on with
  | empty => simp
  | insert a T ha ih => rw [Finset.sum_insert ha, Finset.sum_insert ha, ih, EReal.coe_add]

/-- The plain softmax's maximum of a row. -/
def sm (S : Fin 4096 → EReal) : EReal := Finset.univ.fold max ⊥ S
/-- Its exponentials. -/
def se (S : Fin 4096 → EReal) (x : Fin 4096) : EReal := Ideal.exp (S x - sm S)
/-- Its weights. -/
def sw (S : Fin 4096 → EReal) (x : Fin 4096) : EReal := Ideal.div (se S x) (∑ y, se S y)

/-- A row whose scores have a finite maximum: the plain weights are reals, and the kernel's quotient is their weighted sum. -/
theorem row_good (m0 : ℝ) (S : Fin 4096 → EReal) (r : ℝ) (hr : Finset.univ.sup S = (r : EReal)) :
    ∃ w : Fin 4096 → ℝ, (∀ x, sw S x = (w x : EReal)) ∧
      ∀ v : Fin 4096 → ℝ, Ideal.div (ra m0 S (fun x => (v x : EReal)) Finset.univ) (rl m0 S Finset.univ) = ((∑ x, w x * v x : ℝ) : EReal) := by
  have hle : ∀ x, S x ≤ (r : EReal) := fun x => hr ▸ Finset.le_sup (Finset.mem_univ x)
  -- the exponentials at any real shift, as multiples of those at the maximum
  let p : Fin 4096 → ℝ := fun x => (Ideal.exp (S x - (r : EReal))).toReal
  have hp : ∀ (M : ℝ) x, Ideal.exp (S x - (M : EReal)) = ((Real.exp (r - M) * p x : ℝ) : EReal) := fun M x => by
    have hx := hle x
    show _ = ((Real.exp (r - M) * (Ideal.exp (S x - (r : EReal))).toReal : ℝ) : EReal)
    induction hs : S x with
    | bot => rw [bot_sub, bot_sub, exp_bot]; simp
    | top => rw [hs] at hx; exact absurd (top_le_iff.1 hx) (EReal.coe_ne_top r)
    | coe s =>
      rw [← EReal.coe_sub, ← EReal.coe_sub, exp_coe, exp_coe, EReal.toReal_coe, ← Real.exp_add]
      congr 2; ring
  have hp0 : ∀ x, 0 ≤ p x := fun x => EReal.toReal_nonneg (exp_nonneg _)
  obtain ⟨x0, -, hx0⟩ := Finset.exists_mem_eq_sup Finset.univ ⟨(0 : Fin 4096), Finset.mem_univ _⟩ S
  have hp1 : p x0 = 1 := by
    show (Ideal.exp (S x0 - (r : EReal))).toReal = 1
    rw [← hx0, hr, ← EReal.coe_sub, sub_self, exp_coe, Real.exp_zero, EReal.toReal_coe]
  let L : ℝ := ∑ x, p x
  have hL : 0 < L := by
    have := Finset.single_le_sum (fun x _ => hp0 x) (Finset.mem_univ x0)
    rw [hp1] at this
    exact lt_of_lt_of_le one_pos this
  have hsm : sm S = (r : EReal) := hr
  have hse : ∀ x, se S x = ((p x : ℝ) : EReal) := fun x => by
    unfold se
    rw [hsm, hp r x, sub_self, Real.exp_zero, one_mul]
  refine ⟨fun x => p x * (1 / L), fun x => ?_, fun v => ?_⟩
  · unfold sw
    rw [Finset.sum_congr rfl fun y _ => hse y, sum_coe, hse, Ideal.div_coe hL.ne', ← EReal.coe_mul]
  · have hM : rm m0 S Finset.univ = ((max m0 r : ℝ) : EReal) := by
      unfold rm
      rw [hr]
      exact (EReal.coe_strictMono.monotone.map_max).symm
    unfold ra rl
    rw [hM]
    generalize max m0 r = M
    have hk := Real.exp_pos (r - M)
    rw [Finset.sum_congr rfl fun y _ => hp M y, sum_coe,
      Finset.sum_congr rfl fun y _ => by rw [hp M y, ← EReal.coe_mul], sum_coe]
    rw [← Finset.mul_sum, Ideal.div_coe (mul_pos hk hL).ne', ← EReal.coe_mul]
    congr 1
    rw [Finset.sum_mul]
    refine Finset.sum_congr rfl fun x _ => ?_
    show Real.exp (r - M) * p x * v x * (1 / (Real.exp (r - M) * L)) = p x * (1 / L) * v x
    field_simp

/-- A row whose scores have none: every weight and the kernel's quotient are `⊥`. -/
theorem row_bad (m0 : ℝ) (S : Fin 4096 → EReal) (h : Finset.univ.sup S = ⊤ ∨ Finset.univ.sup S = ⊥) :
    (∀ x, sw S x = ⊥) ∧ ∀ V : Fin 4096 → EReal, Ideal.div (ra m0 S V Finset.univ) (rl m0 S Finset.univ) = ⊥ := by
  have h00 : Ideal.div 0 0 = ⊥ := by unfold Ideal.div; rw [if_pos rfl, if_neg (lt_irrefl _)]
  have hse : ∀ x, se S x = 0 := fun x => by
    unfold se
    rw [show sm S = Finset.univ.sup S from rfl]
    rcases h with h | h
    · rw [h, sub_top, exp_bot]
    · have : S x = ⊥ := le_bot_iff.1 (h ▸ Finset.le_sup (Finset.mem_univ x))
      rw [this, bot_sub, exp_bot]
  have hk : ∀ x, Ideal.exp (S x - rm m0 S Finset.univ) = 0 := fun x => by
    unfold rm
    rcases h with h | h
    · rw [h, max_eq_right le_top, sub_top, exp_bot]
    · have : S x = ⊥ := le_bot_iff.1 (h ▸ Finset.le_sup (Finset.mem_univ x))
      rw [this, bot_sub, exp_bot]
  refine ⟨fun x => ?_, fun V => ?_⟩
  · unfold sw
    rw [hse, Finset.sum_congr rfl fun y _ => hse y, Finset.sum_const_zero, h00]
  · unfold ra rl
    rw [Finset.sum_congr rfl fun y _ => hk y, Finset.sum_congr rfl fun y _ => by rw [hk y, zero_mul], Finset.sum_const_zero, h00]

/-- The two rows, normalised, are equal. -/
theorem out_eq (m0 n eps : ℝ) (hn : 0 < n) (S0 S1 : Fin 4096 → EReal) (V : Fin 4096 → Fin 128 → ℝ) (lam : ℝ) (e : Fin 128) :
    nrm n eps (fun e => Ideal.div (ra m0 S0 (fun x => (V x e : EReal)) Finset.univ) (rl m0 S0 Finset.univ)
        - (lam : EReal) * Ideal.div (ra m0 S1 (fun x => (V x e : EReal)) Finset.univ) (rl m0 S1 Finset.univ)) e
      = nrm n eps (fun e => ∑ x, (V x e : EReal) * (sw S0 x - (lam : EReal) * sw S1 x)) e := by
  have cases : ∀ S : Fin 4096 → EReal, (∃ r : ℝ, Finset.univ.sup S = (r : EReal)) ∨ (Finset.univ.sup S = ⊤ ∨ Finset.univ.sup S = ⊥) := fun S => by
    induction h : Finset.univ.sup S with
    | bot => exact .inr (.inr rfl)
    | top => exact .inr (.inl rfl)
    | coe r => exact .inl ⟨r, rfl⟩
  rcases cases S0 with ⟨r0, h0⟩ | h0
  · obtain ⟨w0, hw0, hk0⟩ := row_good m0 S0 r0 h0
    rcases cases S1 with ⟨r1, h1⟩ | h1
    · obtain ⟨w1, hw1, hk1⟩ := row_good m0 S1 r1 h1
      congr 1
      funext e
      rw [hk0, hk1, ← EReal.coe_mul, ← EReal.coe_sub]
      have hx : ∀ x, (V x e : EReal) * (sw S0 x - (lam : EReal) * sw S1 x) = ((V x e * (w0 x - lam * w1 x) : ℝ) : EReal) := fun x => by
        rw [hw0, hw1, ← EReal.coe_mul, ← EReal.coe_sub, ← EReal.coe_mul]
      rw [Finset.sum_congr rfl fun x _ => hx x, sum_coe]
      congr 1
      rw [Finset.mul_sum, ← Finset.sum_sub_distrib]
      exact Finset.sum_congr rfl fun x _ => by ring
    · obtain ⟨hw1, hk1⟩ := row_bad m0 S1 h1
      by_cases hl : lam = 0
      · subst hl
        congr 1
        funext e
        rw [hk0, EReal.coe_zero, zero_mul, sub_zero, ← sum_coe]
        refine Finset.sum_congr rfl fun x _ => ?_
        rw [hw0, zero_mul, sub_zero, ← EReal.coe_mul, mul_comm]
      · have hb : (lam : EReal) * ⊥ = ⊤ ∨ (lam : EReal) * ⊥ = ⊥ := by
          rcases lt_or_gt_of_ne hl with h | h
          · exact .inl (EReal.coe_mul_bot_of_neg h)
          · exact .inr (EReal.coe_mul_bot_of_pos h)
        rw [nrm_zero n eps hn _ fun e => ?_, nrm_zero n eps hn _ fun e => ?_]
        · exact sum_tri _ _ fun x _ => by
            rw [hw0, hw1]; exact coe_mul_inf _ _ (coe_sub_inf _ _ hb)
        · rw [hk0, hk1]; exact .inr (coe_sub_inf _ _ hb)
  · obtain ⟨hw0, hk0⟩ := row_bad m0 S0 h0
    rw [nrm_zero n eps hn _ fun e => ?_, nrm_zero n eps hn _ fun e => ?_]
    · exact sum_tri _ _ fun x _ => by
        rw [hw0, bot_sub]; exact coe_mul_inf _ _ (.inr rfl)
    · rw [hk0, bot_sub]; exact .inr (.inr rfl)

end Cert.KernelIdeal.Value

end
end
-- ==== Proof.Value.Spec.lean ====
module

public import proofs.«01_k».proof.Proof.Value.Bucket
public import proofs.«01_k».proof.Proof.Value.Final

/-! The attention in plain mathematics, of arrays read at their coordinates. -/

@[expose] public section

noncomputable section

namespace Cert.Attn

open Idealize.ShloMosaic
open Cert.KernelIdeal.Value (nrm sm se sw)

variable (q k : Fin 4 → Fin 4096 → Fin 4 → Fin 2 → Fin 64 → EReal) (v : Fin 4 → Fin 4096 → Fin 4 → Fin 128 → EReal)
  (tb : Fin 32 → Fin 4 → EReal) (l : EReal)

/-- The scores. -/
def S (b h : Fin 4) (c : Fin 2) (i x : Fin 4096) : EReal :=
  score (∑ e : Fin 64, q b i h c e * k b x h c e) (fun j => tb j h) bk i.val x.val

/-- The weight of the second softmax. -/
def lam (l3 l4 l5 l6 : Fin 64 → EReal) : EReal :=
  Ideal.exp (∑ e, l3 e * l4 e) - Ideal.exp (∑ e, l5 e * l6 e) + Ideal.ofBits .f32 0x3E4CCCCD#32

/-- The weighted sum of the values. -/
def mixed (b h : Fin 4) (i : Fin 4096) (e : Fin 128) : EReal :=
  ∑ x : Fin 4096, v b x h e * (sw (S q k tb b h 0 i) x - l * sw (S q k tb b h 1 i) x)

/-- The output. -/
def out (b : Fin 4) (i : Fin 4096) (y : Fin 512) : EReal :=
  nrm (Ideal.ofBits .f32 0x43000000#32) (Ideal.ofBits .f32 0x358637BD#32) (mixed q k v tb l b ⟨y.val / 128, by omega⟩ i) ⟨y.val % 128, by omega⟩
    * Ideal.ofBits .f32 0x3F4CCCCD#32

end Cert.Attn

end
end
-- ==== Proof.Value.Arrays.lean ====
module

public import proofs.«01_k».proof.Proof.Diff.Entry
public import proofs.«01_k».proof.Proof.Value.Spec
public import Idealize.ShloMosaic.Lib.Pointwise
public import Idealize.ShloMosaic.Lib.Routing.Ops
public import Idealize.ShloMosaic.Lib.Tactic.CleanTypes

/-! The arrays the call reads, at an index: the queries scaled, the keys and values reshaped, the scalars and the tiles of
the bias. -/

@[expose] public section

set_option maxRecDepth 16384

noncomputable section

namespace Cert.KernelIdeal.Value

open Cert.KernelIdeal Cert.KernelIdeal.Gen Cert.KernelIdeal.Diff Cert.Attn
open Idealize.ShloMosaic Idealize.ShloMosaic.TcCoe Idealize.ShloMosaic.StableHlo

variable (m : (ℓ : Loc nD τ sig) → Buf (Elt Ideal) ℓ) (c : Dev nD)

/-! ## The arguments at their coordinates -/

def qA (b : Fin 4) (i : Fin 4096) (h : Fin 4) (k : Fin 2) (e : Fin 64) : EReal := (m (c, main_arg0) : FVec Ideal S4x4096x4x2x64 .f32) (ix5 b i h k e)
def kA (b : Fin 4) (i : Fin 4096) (h : Fin 4) (k : Fin 2) (e : Fin 64) : EReal := (m (c, main_arg1) : FVec Ideal S4x4096x4x2x64 .f32) (ix5 b i h k e)
def vA (b : Fin 4) (i : Fin 4096) (h : Fin 4) (e : Fin 128) : EReal := (m (c, main_arg2) : FVec Ideal S4x4096x4x128 .f32) (ix4 b i h e)
def tA (j : Fin 32) (h : Fin 4) : EReal := (m (c, main_arg7) : FVec Ideal S32x4 .f32) (ix2 j h)
def lA : EReal :=
  lam (fun e => (m (c, main_arg3) : FVec Ideal S64 .f32) (ix1 e)) (fun e => (m (c, main_arg4) : FVec Ideal S64 .f32) (ix1 e))
    (fun e => (m (c, main_arg5) : FVec Ideal S64 .f32) (ix1 e)) (fun e => (m (c, main_arg6) : FVec Ideal S64 .f32) (ix1 e))

/-! ## Queries, keys, values -/

/-- The arrays as the call finds them. -/
def arrQ : FVec Ideal S4x4096x512 .bf16 := entry m c main_v73
def arrK : FVec Ideal S4x4096x512 .bf16 := entry m c main_v75
def arrV : FVec Ideal S4x4096x512 .bf16 := entry m c main_v77
def arrS : FVec Ideal S9 .f32 := entry m c main_v69
def arrB : FVec Ideal S4x2x512x512 .f32 := entry m c main_v171

theorem resh_q (A : FVec Ideal S4x4096x4x2x64 .f32) (b : Fin 4) (i : Fin 4096) (h : Fin 4) (k : Fin 2) (e : Fin 64) :
    (shapeCast S4x4096x512 (truncf FTy.bf16 (mulf A (broadcastInDim S4x4096x4x2x64 ![] bcast_S_S4x4096x4x2x64 (constant S_ FTy.f32 0x3E000000#32))) bitsLt_bf16_f32)
      shapeCasts_S4x4096x4x2x64_S4x4096x512 : FVec Ideal S4x4096x512 .bf16) (ix3 b i ⟨h.val * 128 + k.val * 64 + e.val, by omega⟩)
      = (A (ix5 b i h k e) : EReal) * Ideal.ofBits .f32 0x3E000000#32 := by
  pointwise
theorem resh_k (A : FVec Ideal S4x4096x4x2x64 .f32) (b : Fin 4) (i : Fin 4096) (h : Fin 4) (k : Fin 2) (e : Fin 64) :
    (shapeCast S4x4096x512 (truncf FTy.bf16 A bitsLt_bf16_f32)
      shapeCasts_S4x4096x4x2x64_S4x4096x512 : FVec Ideal S4x4096x512 .bf16) (ix3 b i ⟨h.val * 128 + k.val * 64 + e.val, by omega⟩)
      = (A (ix5 b i h k e) : EReal) := by
  pointwise
theorem resh_v (A : FVec Ideal S4x4096x4x128 .f32) (b : Fin 4) (i : Fin 4096) (h : Fin 4) (e : Fin 128) :
    (shapeCast S4x4096x512 (truncf FTy.bf16 A bitsLt_bf16_f32)
      shapeCasts_S4x4096x4x128_S4x4096x512 : FVec Ideal S4x4096x512 .bf16) (ix3 b i ⟨h.val * 128 + e.val, by omega⟩)
      = (A (ix4 b i h e) : EReal) := by
  pointwise

theorem arrQ_apply (b : Fin 4) (i : Fin 4096) (h : Fin 4) (k : Fin 2) (e : Fin 64) :
    arrQ m c (ix3 b i ⟨h.val * 128 + k.val * 64 + e.val, by omega⟩) = qA m c b i h k e * ((1 / 8 : ℝ) : EReal) := by
  rw [← bits_eighth]
  refine Eq.trans (congrFun ?_ _) (resh_q _ b i h k e)
  show StableHlo.after (List.flatten hostLines) (fun b => m (c, b)) main_v73 = _
  after_reads_simp
  rfl
theorem arrK_apply (b : Fin 4) (i : Fin 4096) (h : Fin 4) (k : Fin 2) (e : Fin 64) :
    arrK m c (ix3 b i ⟨h.val * 128 + k.val * 64 + e.val, by omega⟩) = kA m c b i h k e := by
  refine Eq.trans (congrFun ?_ _) (resh_k _ b i h k e)
  show StableHlo.after (List.flatten hostLines) (fun b => m (c, b)) main_v75 = _
  after_reads_simp
  rfl
theorem arrV_apply (b : Fin 4) (i : Fin 4096) (h : Fin 4) (e : Fin 128) :
    arrV m c (ix3 b i ⟨h.val * 128 + e.val, by omega⟩) = vA m c b i h e := by
  refine Eq.trans (congrFun ?_ _) (resh_v _ b i h e)
  show StableHlo.after (List.flatten hostLines) (fun b => m (c, b)) main_v77 = _
  after_reads_simp
  rfl

/-! ## The scalars -/

/-- The bucket of one distance, as the host computes it. -/
def bkt1 (n : IVec S1 32) : IVec S1 32 :=
  select (cmpi .slt n (broadcastInDim S1 ![] bcast_S_S1 (constantI S_ 32 16#32))) n
    (minsi (addi (broadcastInDim S1 ![] bcast_S_S1 (constantI S_ 32 16#32)) (fptosi 32 (mulf (Host.divf (Host.log (Host.divf
      (sitofp (F := Ideal) .f32 (maxsi n (broadcastInDim S1 ![] bcast_S_S1 (constantI S_ 32 1#32)))) (broadcastInDim S1 ![] bcast_S_S1 (constant S_ .f32 0x41800000#32))))
      (broadcastInDim S1 ![] bcast_S_S1 (constant S_ .f32 0x40051592#32))) (broadcastInDim S1 ![] bcast_S_S1 (constant S_ .f32 0x41800000#32)))))
      (broadcastInDim S1 ![] bcast_S_S1 (constantI S_ 32 31#32)))

/-- The bias of that distance, over the heads. -/
def col1 (tb : FVec Ideal S32x4 .f32) (w : BitVec 32) : FVec Ideal S4 .f32 :=
  shapeCast S4 (transpose S4x1 [1, 0] (Host.gather gather_S32x4_S1x1_S1x4_1_0_n_n_0_1_14 tb
    (broadcastInDim S1x1 ![0] bcast_S1_S1x1_0 (select (cmpi .slt (bkt1 (maxsi (broadcastInDim S1 ![] bcast_S_S1 (constantI S_ 32 w)) (broadcastInDim S1 ![] bcast_S_S1 (constantI S_ 32 0#32))))
        (broadcastInDim S1 ![] bcast_S_S1 (constantI S_ 32 0#32)))
      (addi (bkt1 (maxsi (broadcastInDim S1 ![] bcast_S_S1 (constantI S_ 32 w)) (broadcastInDim S1 ![] bcast_S_S1 (constantI S_ 32 0#32)))) (broadcastInDim S1 ![] bcast_S_S1 (constantI S_ 32 32#32)))
      (bkt1 (maxsi (broadcastInDim S1 ![] bcast_S_S1 (constantI S_ 32 w)) (broadcastInDim S1 ![] bcast_S_S1 (constantI S_ 32 0#32))))))) transposes_S1x4_S4x1_1_0) shapeCasts_S4x1_S4

/-- The weight, as a vector of one. -/
def lS : FVec Ideal S1 .f32 := fun _ => lA m c

theorem upto_37 : (StableHlo.upto (List.flatten hostLines) (fun b => m (c, b)) 96 (Proc.devRef .tc main_v37) : FVec Ideal S4 .f32) = col1 (m (c, main_arg7)) 128#32 := by
  after_reads_simp
  rfl
theorem upto_67 : (StableHlo.upto (List.flatten hostLines) (fun b => m (c, b)) 96 (Proc.devRef .tc main_v67) : FVec Ideal S4 .f32) = col1 (m (c, main_arg7)) 0#32 := by
  after_reads_simp
  rfl
theorem upto_68 : (StableHlo.upto (List.flatten hostLines) (fun b => m (c, b)) 96 (Proc.devRef .tc main_v68) : FVec Ideal S1 .f32) = lS m c := by
  after_reads_simp
  unfold lS lA lam
  funext i
  obtain ⟨i, rfl⟩ : ∃ j : Fin 1, i = ix1 j := ⟨i 0, funext fun a => by match a with | ⟨0, _⟩ => rfl⟩
  generalize m (c, Proc.tc.devRef main_arg3) = A3
  generalize m (c, Proc.tc.devRef main_arg4) = A4
  generalize m (c, Proc.tc.devRef main_arg5) = A5
  generalize m (c, Proc.tc.devRef main_arg6) = A6
  clean_types
  pointwise

/-- The scalars, laid end to end. -/
theorem arrS_eq : arrS m c = concatenate S9 0 [⟨S4, col1 (m (c, main_arg7)) 128#32⟩, ⟨S1, lS m c⟩, ⟨S4, col1 (m (c, main_arg7)) 0#32⟩] concatenates_S4_S1_S4_S9_d0 := by
  rw [← upto_37, ← upto_67, ← upto_68]
  show StableHlo.after (List.flatten hostLines) (fun b => m (c, b)) main_v69 = _
  after_reads_simp
  rfl

theorem cat9 (u w : FVec Ideal S4 .f32) (l : FVec Ideal S1 .f32) (h : Fin 4) :
    (concatenate S9 0 [⟨S4, u⟩, ⟨S1, l⟩, ⟨S4, w⟩] concatenates_S4_S1_S4_S9_d0 : FVec Ideal S9 .f32) (ix1 ⟨h.val, by omega⟩) = u (ix1 h)
    ∧ (concatenate S9 0 [⟨S4, u⟩, ⟨S1, l⟩, ⟨S4, w⟩] concatenates_S4_S1_S4_S9_d0 : FVec Ideal S9 .f32) (ix1 4) = l (ix1 0) := by
  constructor
  · pointwise
  · pointwise

theorem bkt1_apply (n : IVec S1 32) : bkt1 n (ix1 0) = bucketW (n (ix1 0)) := by
  unfold bkt1 bucketW
  pointwise

theorem maxsi_nat (n : ℕ) (h : n ≤ 4095) : IntOp.maxsi (BitVec.ofNat 32 n) 0#32 = BitVec.ofNat 32 n := by
  have : (BitVec.ofNat 32 n).toInt = n := WordArith.toInt_ofNat_small _ (by omega)
  simp only [IntOp.maxsi, BitVec.sle, BitVec.slt, this]
  simp
  rintro rfl
  rfl

theorem col1_apply (tb : FVec Ideal S32x4 .f32) (w : ℕ) (hw : w ≤ 4095) (h : Fin 4) : col1 tb (BitVec.ofNat 32 w) (ix1 h) = tb (ix2 (bk w) h) := by
  unfold col1
  pointwise
  refine Routing.gather_row gather_S32x4_S1x1_S1x4_1_0_n_n_0_1_14 rfl rfl rfl rfl rfl tb _ 0 h (bk w) ?_ (by norm_num)
  pointwise
  rw [bkt1_apply]
  pointwise
  rw [maxsi_nat w hw]
  exact bucketI_eq w hw

theorem arrS_far (h : Fin 4) : arrS m c (ix1 ⟨h.val, by omega⟩) = tA m c 31 h := by
  rw [arrS_eq, (cat9 _ _ _ h).1]
  refine (col1_apply _ 128 (by norm_num) h).trans ?_
  rw [bk_far 128 le_rfl]
  rfl

theorem arrS_lam : arrS m c (ix1 4) = lA m c := by
  rw [arrS_eq, (cat9 _ _ _ 0).2]
  rfl

/-! ## The tiles of the bias -/

/-- The relative position at each place of the vector a tile is cut from. -/
def relV (a b : BitVec 32) : IVec S1024 32 :=
  select (cmpi .slt (iotaInDim S1024 32 0) (broadcastInDim S1024 ![] bcast_S_S1024 (constantI S_ 32 512#32)))
    (subi (broadcastInDim S1024 ![] bcast_S_S1024 (constantI S_ 32 a)) (iotaInDim S1024 32 0))
    (subi (broadcastInDim S1024 ![] bcast_S_S1024 (constantI S_ 32 b)) (iotaInDim S1024 32 0))

/-- The bucket of each distance. -/
def bktV (n : IVec S1024 32) : IVec S1024 32 :=
  select (cmpi .slt n (broadcastInDim S1024 ![] bcast_S_S1024 (constantI S_ 32 16#32))) n
    (minsi (addi (broadcastInDim S1024 ![] bcast_S_S1024 (constantI S_ 32 16#32)) (fptosi 32 (mulf (Host.divf (Host.log (Host.divf
      (sitofp (F := Ideal) .f32 (maxsi n (broadcastInDim S1024 ![] bcast_S_S1024 (constantI S_ 32 1#32)))) (broadcastInDim S1024 ![] bcast_S_S1024 (constant S_ .f32 0x41800000#32))))
      (broadcastInDim S1024 ![] bcast_S_S1024 (constant S_ .f32 0x40051592#32))) (broadcastInDim S1024 ![] bcast_S_S1024 (constant S_ .f32 0x41800000#32)))))
      (broadcastInDim S1024 ![] bcast_S_S1024 (constantI S_ 32 31#32)))

/-- The vector of the bias, masked where the key comes after the query. -/
def vecV (tb : FVec Ideal S32x4 .f32) (rel : IVec S1024 32) : FVec Ideal S4x1024 .f32 :=
  select (broadcastInDim S4x1024 ![0, 1] bcast_S1x1024_S4x1024_0_1 (cmpi .sge (broadcastInDim S1x1024 ![1] bcast_S1024_S1x1024_1 rel) (broadcastInDim S1x1024 ![] bcast_S_S1x1024 (constantI S_ 32 0#32))))
    (transpose S4x1024 [1, 0] (Host.gather gather_S32x4_S1024x1_S1024x4_1_0_n_n_0_1_14 tb
      (broadcastInDim S1024x1 ![0] bcast_S1024_S1024x1_0 (select (cmpi .slt (bktV (maxsi rel (broadcastInDim S1024 ![] bcast_S_S1024 (constantI S_ 32 0#32))))
        (broadcastInDim S1024 ![] bcast_S_S1024 (constantI S_ 32 0#32)))
      (addi (bktV (maxsi rel (broadcastInDim S1024 ![] bcast_S_S1024 (constantI S_ 32 0#32)))) (broadcastInDim S1024 ![] bcast_S_S1024 (constantI S_ 32 32#32)))
      (bktV (maxsi rel (broadcastInDim S1024 ![] bcast_S_S1024 (constantI S_ 32 0#32))))))) transposes_S1024x4_S4x1024_1_0)
    (broadcastInDim S4x1024 ![] bcast_S_S4x1024 (id (constant S_ .f32 0xFF800000#32)))

/-- The tile cut from a vector: rows repeated, read one place earlier on each. -/
def toep (v : FVec Ideal S4x1024 .f32) : FVec Ideal S4x1x512x512 .f32 :=
  broadcastInDim S4x1x512x512 ![0, 2, 3] bcast_S4x512x512_S4x1x512x512_0_2_3
    (extractStridedSlice S4x512x512 ![0, 0, 0] (shapeCast S4x512x1023 (extractStridedSlice S4x523776 ![0, 0]
      (shapeCast S4x524288 (broadcastInDim S1x4x512x1024 ![0, 1, 2, 3] bcast_S1x4x1x1024_S1x4x512x1024_0_1_2_3
        (shapeCast S1x4x1x1024 v shapeCasts_S4x1024_S1x4x1x1024)) shapeCasts_S1x4x512x1024_S4x524288)
      slices_S4x524288_S4x523776_0_0) shapeCasts_S4x523776_S4x512x1023) slices_S4x512x1023_S4x512x512_0_0_0)

set_option maxHeartbeats 4000000 in
theorem upto_169 : (StableHlo.upto (List.flatten hostLines) (fun b => m (c, b)) 235 (Proc.devRef .tc main_v169) : FVec Ideal S4x1x512x512 .f32) = toep (vecV (m (c, main_arg7)) (relV 0#32 1024#32)) := by
  after_reads_simp
  unfold toep vecV bktV relV
  rfl
set_option maxHeartbeats 4000000 in
theorem upto_170 : (StableHlo.upto (List.flatten hostLines) (fun b => m (c, b)) 235 (Proc.devRef .tc main_v170) : FVec Ideal S4x1x512x512 .f32) = toep (vecV (m (c, main_arg7)) (relV 512#32 1536#32)) := by
  after_reads_simp
  unfold toep vecV bktV relV
  rfl

theorem arrB_eq : arrB m c = concatenate S4x2x512x512 1 [⟨S4x1x512x512, toep (vecV (m (c, main_arg7)) (relV 0#32 1024#32))⟩,
    ⟨S4x1x512x512, toep (vecV (m (c, main_arg7)) (relV 512#32 1536#32))⟩] concatenates_S4x1x512x512_S4x1x512x512_S4x2x512x512_d1 := by
  rw [← upto_169, ← upto_170]
  show StableHlo.after (List.flatten hostLines) (fun b => m (c, b)) main_v171 = _
  after_reads_simp

theorem toep_apply (v : FVec Ideal S4x1024 .f32) (h : Fin 4) (r x : Fin 512) :
    toep v (ix4 h 0 r x) = v (ix2 h ⟨(r.val * 1023 + x.val) % 1024, Nat.mod_lt _ (by norm_num)⟩) := by
  unfold toep
  pointwise

theorem bktV_apply (n : IVec S1024 32) (k : Fin 1024) : bktV n (ix1 k) = bucketW (n (ix1 k)) := by
  unfold bktV bucketW
  pointwise

theorem word_pos (n : ℕ) (h : n ≤ 4095) : IntOp.cmpi .sge (BitVec.ofNat 32 n) 0#32 = 1#1 ∧ IntOp.maxsi (BitVec.ofNat 32 n) 0#32 = BitVec.ofNat 32 n := by
  have : (BitVec.ofNat 32 n).toInt = n := WordArith.toInt_ofNat_small _ (by omega)
  refine ⟨?_, maxsi_nat n h⟩
  simp only [IntOp.cmpi, BitVec.sle, this]
  rw [decide_eq_true (by show (0#32 : BitVec 32).toInt ≤ (n : ℤ); rw [show (0#32 : BitVec 32).toInt = 0 from rfl]; omega)]
  rfl

theorem relV_apply (a b : BitVec 32) (k : Fin 1024) : relV a b (ix1 k) = Scalar.select (IntOp.cmpi .slt (BitVec.ofNat 32 k.val) 512#32)
    (IntOp.subi a (BitVec.ofNat 32 k.val)) (IntOp.subi b (BitVec.ofNat 32 k.val)) := by
  unfold relV
  pointwise

theorem vecV_pos (tb : FVec Ideal S32x4 .f32) (rel : IVec S1024 32) (h : Fin 4) (k : Fin 1024) (n : ℕ) (hn : n ≤ 4095)
    (hr : rel (ix1 k) = BitVec.ofNat 32 n) : vecV tb rel (ix2 h k) = tb (ix2 (bk n) h) := by
  unfold vecV
  pointwise
  rw [hr, (word_pos n hn).1]
  refine Eq.trans (show Scalar.select 1#1 _ _ = _ from rfl) ?_
  refine Routing.gather_row gather_S32x4_S1024x1_S1024x4_1_0_n_n_0_1_14 rfl rfl rfl rfl rfl tb _ k h (bk n) ?_ (by norm_num)
  pointwise
  rw [bktV_apply]
  pointwise
  rw [hr, maxsi_nat n hn]
  exact bucketI_eq n hn

theorem vecV_neg (tb : FVec Ideal S32x4 .f32) (rel : IVec S1024 32) (h : Fin 4) (k : Fin 1024)
    (hr : IntOp.cmpi .sge (rel (ix1 k)) 0#32 = 0#1) : vecV tb rel (ix2 h k) = (⊥ : EReal) := by
  unfold vecV
  pointwise
  rw [hr]
  exact bits_bot

/-- The word of a difference. -/
theorem sub_word (a k : ℕ) (hk : k ≤ a) (ha : a < 2 ^ 32) : IntOp.subi (BitVec.ofNat 32 a) (BitVec.ofNat 32 k) = BitVec.ofNat 32 (a - k) := by
  show BitVec.ofNat 32 a - BitVec.ofNat 32 k = _
  apply BitVec.eq_of_toNat_eq
  simp only [BitVec.toNat_sub, BitVec.toNat_ofNat]
  omega

theorem sub_neg (a k : ℕ) (hk : a < k) (h : k < 2 ^ 31) : IntOp.cmpi .sge (IntOp.subi (BitVec.ofNat 32 a) (BitVec.ofNat 32 k)) 0#32 = 0#1 := by
  have : (IntOp.subi (BitVec.ofNat 32 a) (BitVec.ofNat 32 k)).toInt = (a : ℤ) - k := by
    show (BitVec.ofNat 32 a - BitVec.ofNat 32 k).toInt = _
    rw [BitVec.toInt_sub, WordArith.toInt_ofNat_small _ (by omega), WordArith.toInt_ofNat_small _ (by omega)]
    apply Int.bmod_eq_of_le <;> omega
  simp only [IntOp.cmpi, BitVec.sle, this]
  rw [decide_eq_false (by show ¬((0#32 : BitVec 32).toInt ≤ (a : ℤ) - k); rw [show (0#32 : BitVec 32).toInt = 0 from rfl]; omega)]
  rfl

/-- The bias a near tile holds at a query `n = 512 δ + r` and a key `x`, both counted from the start of the key's tile. -/
def biasAt (tb : Fin 32 → EReal) (n x : ℕ) : EReal := if x ≤ n then tb (bk (n - x)) else ⊥

theorem near_apply (tb : FVec Ideal S32x4 .f32) (d : Fin 2) (h : Fin 4) (r x : Fin 512) :
    toep (vecV tb (relV (BitVec.ofNat 32 (512 * d.val)) (BitVec.ofNat 32 (512 * d.val + 1024)))) (ix4 h 0 r x)
      = biasAt (fun j => tb (ix2 j h)) (512 * d.val + r.val) x.val := by
  rw [toep_apply]
  have hr := r.isLt
  have hx := x.isLt
  have hd := d.isLt
  generalize hk : (⟨(r.val * 1023 + x.val) % 1024, Nat.mod_lt _ (by norm_num)⟩ : Fin 1024) = k
  have hk : (r.val * 1023 + x.val) % 1024 = k.val := congrArg Fin.val hk
  have hs := k.isLt
  have hki : (BitVec.ofNat 32 k.val).toInt = k.val := WordArith.toInt_ofNat_small _ (by omega)
  have hrel := relV_apply (BitVec.ofNat 32 (512 * d.val)) (BitVec.ofNat 32 (512 * d.val + 1024)) k
  unfold biasAt
  by_cases hc : k.val < 512
  · have hkx : k.val + r.val = x.val := by omega
    rw [show IntOp.cmpi .slt (BitVec.ofNat 32 k.val) 512#32 = 1#1 from by simp only [IntOp.cmpi, BitVec.slt, hki]; simp [hc]] at hrel
    replace hrel : relV (BitVec.ofNat 32 (512 * d.val)) (BitVec.ofNat 32 (512 * d.val + 1024)) (ix1 k) = IntOp.subi (BitVec.ofNat 32 (512 * d.val)) (BitVec.ofNat 32 k.val) := hrel
    by_cases hn : x.val ≤ 512 * d.val + r.val
    · rw [if_pos hn, vecV_pos tb _ h k (512 * d.val + r.val - x.val) (by omega)]
      rw [hrel, sub_word _ _ (by omega) (by omega)]
      congr 1; omega
    · rw [if_neg hn, vecV_neg]
      rw [hrel, sub_neg _ _ (by omega) (by omega)]
  · have hkx : k.val + r.val = x.val + 1024 := by omega
    rw [show IntOp.cmpi .slt (BitVec.ofNat 32 k.val) 512#32 = 0#1 from by simp only [IntOp.cmpi, BitVec.slt, hki]; simp [hc]] at hrel
    replace hrel : relV (BitVec.ofNat 32 (512 * d.val)) (BitVec.ofNat 32 (512 * d.val + 1024)) (ix1 k) = IntOp.subi (BitVec.ofNat 32 (512 * d.val + 1024)) (BitVec.ofNat 32 k.val) := hrel
    rw [if_pos (by omega), vecV_pos tb _ h k (512 * d.val + r.val - x.val) (by omega)]
    rw [hrel, sub_word _ _ (by omega) (by omega)]
    congr 1; omega

theorem cat_tiles (u w : FVec Ideal S4x1x512x512 .f32) (h : Fin 4) (r x : Fin 512) :
    (concatenate S4x2x512x512 1 [⟨S4x1x512x512, u⟩, ⟨S4x1x512x512, w⟩] concatenates_S4x1x512x512_S4x1x512x512_S4x2x512x512_d1 : FVec Ideal S4x2x512x512 .f32) (ix4 h 0 r x) = u (ix4 h 0 r x)
    ∧ (concatenate S4x2x512x512 1 [⟨S4x1x512x512, u⟩, ⟨S4x1x512x512, w⟩] concatenates_S4x1x512x512_S4x1x512x512_S4x2x512x512_d1 : FVec Ideal S4x2x512x512 .f32) (ix4 h 1 r x) = w (ix4 h 0 r x) := by
  constructor
  · pointwise
  · pointwise

theorem arrB_apply (h : Fin 4) (d : Fin 2) (r x : Fin 512) :
    arrB m c (ix4 h d r x) = biasAt (fun j => tA m c j h) (512 * d.val + r.val) x.val := by
  rw [arrB_eq]
  match d with
  | ⟨0, _⟩ => exact (cat_tiles _ _ h r x).1.trans (near_apply _ 0 h r x)
  | ⟨1, _⟩ => exact (cat_tiles _ _ h r x).2.trans (near_apply _ 1 h r x)

end Cert.KernelIdeal.Value

end
end
-- ==== Proof.Value.Blocks.lean ====
module

public import proofs.«01_k».proof.Proof.Value.Grid
public import proofs.«01_k».proof.Proof.Value.Math
public import proofs.«01_k».proof.Proof.Value.Arrays
public import Idealize.ShloMosaic.Lib.Pipeline.ValueKit

/-! The blocks a point reads, at an index of the arrays they are cut from. -/

@[expose] public section

set_option maxRecDepth 16384

noncomputable section

namespace Cert.KernelIdeal.Value

open Cert.KernelIdeal Cert.KernelIdeal.Gen Cert.KernelIdeal.Diff
open Idealize.ShloMosaic

open Cert.Attn

variable (m : (ℓ : Loc nD τ sig) → Buf (Elt Ideal) ℓ) (c : Dev nD) (t : Fin (cfgA Ideal).N)

theorem pnum : Num t.val := num t

/-- The point's batch, head, tile of queries and tile of keys. -/
def tB : Fin 4 := ⟨pB t.val, (pnum t).1⟩
def tH : Fin 4 := ⟨pH t.val, (pnum t).2.1⟩
def tI : Fin 8 := ⟨pI t.val, (pnum t).2.2.1⟩
def tJ : Fin 8 := ⟨pJ t.val, lt_of_le_of_lt (pnum t).2.2.2.1 (pnum t).2.2.1⟩

theorem blkQ (r : Fin 512) (k : Fin 2) (e : Fin 64) :
    iblk Ideal (entry m) c 1 t (ix3 0 r ⟨64 * k.val + e.val, by omega⟩)
      = qA m c (tB t) (key (tI t) r) (tH t) k e * ((1 / 8 : ℝ) : EReal) := by
  rw [← arrQ_apply]
  have e1 := (gridAt t).1
  unfold tB tI tH arrQ
  blk_ext [iblk, e1]
  show _ = 512 * pI t.val + r.val
  omega

theorem blkK (x : Fin 512) (k : Fin 2) (e : Fin 64) :
    iblk Ideal (entry m) c 2 t (ix3 0 x ⟨64 * k.val + e.val, by omega⟩)
      = kA m c (tB t) (key (tJ t) x) (tH t) k e := by
  rw [← arrK_apply]
  have e1 := (gridAt t).2.1
  unfold tB tJ tH arrK
  blk_ext [iblk, e1]
  show _ = 512 * pJ t.val + x.val
  omega

theorem blkV (x : Fin 512) (e : Fin 128) :
    iblk Ideal (entry m) c 3 t (ix3 0 x e) = vA m c (tB t) (key (tJ t) x) (tH t) e := by
  rw [← arrV_apply]
  have e1 := (gridAt t).2.2.1
  unfold tB tJ tH arrV
  blk_ext [iblk, e1]
  show _ = 512 * pJ t.val + x.val
  omega

theorem blkB (d : Fin 2) (r x : Fin 512) :
    iblk Ideal (entry m) c 4 t (ix4 0 d r x) = biasAt (fun j => tA m c j (tH t)) (512 * d.val + r.val) x.val := by
  rw [← arrB_apply]
  have e1 := (gridAt t).2.2.2.1
  unfold tH arrB
  blk_ext [iblk, e1]

theorem blkS (y : Fin 9) : iblk Ideal (entry m) c 0 t (ix1 y) = arrS m c (ix1 y) := by
  have e1 := (gridAt t).2.2.2.2.2.1
  unfold arrS
  blk_ext [iblk, e1]

end Cert.KernelIdeal.Value

end
-- ==== Proof.Value.Pieces.lean ====
module

public import proofs.«01_k».proof.Proof.Value.Chunk
public import proofs.«01_k».proof.Proof.Diff.Body

/-! The scratch buffers are written and read in four chunks of 256 rows: what a list of four such pieces leaves at a row,
and what a chunk's load reads. -/

@[expose] public section

set_option maxRecDepth 16384

noncomputable section

namespace Cert.KernelIdeal.Value

open Cert.KernelIdeal Cert.KernelIdeal.Gen Cert.KernelIdeal.Diff
open Idealize.ShloMosaic

/-- Row `r` of chunk `j`. -/
def row (j : Fin 4) (r : Fin 256) : Fin 1024 := ⟨256 * j.val + r.val, by omega⟩

theorem row_surj (R : Fin 1024) : ∃ j r, R = row j r :=
  ⟨⟨R.val / 256, by omega⟩, ⟨R.val % 256, by omega⟩, Fin.ext (by show R.val = 256 * (R.val / 256) + R.val % 256; omega)⟩

/-- Chunk `j` of a column of 1024 rows. -/
def ck1 (f : Vec Ideal S1024x1 .f32) (j : Fin 4) : Vec Ideal S256x1 .f32 := fun y => f (ix2 (row j (y 0)) 0)

/-- Chunk `j` of 1024 rows of 128 lanes. -/
def ck128 {e : EltTy} (f : Vec Ideal S1024x128 e) (j : Fin 4) : Vec Ideal S256x128 e := fun y => f (ix2 (row j (y 0)) (y 1))

/-- The four pieces of a column, the newest first, over the pieces written before. -/
def pcs1 (w : Fin 4 → Vec Ideal S256x1 .f32) (L : List (View.Piece (Elt Ideal) S1024x1 .f32)) : List (View.Piece (Elt Ideal) S1024x1 .f32) :=
  ⟨Rect.unit ![768, 0] S256x1.size inb_S1024x1_S256x1_768_0, w 3⟩ :: ⟨Rect.unit ![512, 0] S256x1.size inb_S1024x1_S256x1_512_0, w 2⟩ ::
    ⟨Rect.unit ![256, 0] S256x1.size inb_S1024x1_S256x1_256_0, w 1⟩ :: ⟨Rect.unit ![0, 0] S256x1.size inb_S1024x1_S256x1_0_0, w 0⟩ :: L

/-- The four pieces of 1024 rows of 128 lanes, the newest first, over the pieces written before. -/
def pcs128 (w : Fin 4 → Vec Ideal S256x128 .f32) (L : List (View.Piece (Elt Ideal) S1024x128 .f32)) : List (View.Piece (Elt Ideal) S1024x128 .f32) :=
  ⟨Rect.unit ![768, 0] S256x128.size inb_S1024x128_S256x128_768_0, w 3⟩ :: ⟨Rect.unit ![512, 0] S256x128.size inb_S1024x128_S256x128_512_0, w 2⟩ ::
    ⟨Rect.unit ![256, 0] S256x128.size inb_S1024x128_S256x128_256_0, w 1⟩ :: ⟨Rect.unit ![0, 0] S256x128.size inb_S1024x128_S256x128_0_0, w 0⟩ :: L

section
variable {κ : Kind} {sp : Space}

theorem read_pcs1 (v : View sig κ sp S1024x1 .f32) (f : v.ty.Contents (Elt Ideal)) (w : Fin 4 → Vec Ideal S256x1 .f32)
    (L : List (View.Piece (Elt Ideal) S1024x1 .f32)) (j : Fin 4) (r : Fin 256) :
    v.read (Elt Ideal) (v.writes (Elt Ideal) f (pcs1 w L)) (ix2 (row j r) 0) = w j (ix2 r 0) := by
  unfold pcs1
  have key : ∀ (o : ℕ) (off : Fin 2 → ℕ) (inb : ∀ a : Fin 2, off a + S256x1.size a ≤ S1024x1.size a) (u : Vec Ideal S256x1 .f32) (M : List (View.Piece (Elt Ideal) S1024x1 .f32)),
      off = ![o, 0] → (256 * j.val + r.val < o ∨ o + 256 ≤ 256 * j.val + r.val) →
      v.read (Elt Ideal) (v.writes (Elt Ideal) f (⟨Rect.unit off S256x1.size inb, u⟩ :: M)) (ix2 (row j r) 0)
        = v.read (Elt Ideal) (v.writes (Elt Ideal) f M) (ix2 (row j r) 0) :=
    fun o off inb u M h0 h => View.read_writes_cons_rows_of_not_mem (d := ![1024, 1]) v f inb u M (ix2 (row j r) 0) h0 rfl h
  have hit : ∀ (o : ℕ) (off : Fin 2 → ℕ) (inb : ∀ a : Fin 2, off a + S256x1.size a ≤ S1024x1.size a) (u : Vec Ideal S256x1 .f32) (M : List (View.Piece (Elt Ideal) S1024x1 .f32)),
      off = ![o, 0] → o = 256 * j.val →
      v.read (Elt Ideal) (v.writes (Elt Ideal) f (⟨Rect.unit off S256x1.size inb, u⟩ :: M)) (ix2 (row j r) 0) = u (ix2 r 0) :=
    fun o off inb u M h0 h => View.read_writes_cons_rows_of_mem (d := ![1024, 1]) v f inb u M (ix2 (row j r) 0) (ix2 r 0) h0
      (by subst h; rfl) rfl
  have hr := r.isLt
  fin_cases j
  · exact (key 768 _ _ _ _ rfl (by simp only; omega)).trans <| (key 512 _ _ _ _ rfl (by simp only; omega)).trans <|
      (key 256 _ _ _ _ rfl (by simp only; omega)).trans <| hit 0 _ _ _ _ rfl rfl
  · exact (key 768 _ _ _ _ rfl (by simp only; omega)).trans <| (key 512 _ _ _ _ rfl (by simp only; omega)).trans <| hit 256 _ _ _ _ rfl rfl
  · exact (key 768 _ _ _ _ rfl (by simp only; omega)).trans <| hit 512 _ _ _ _ rfl rfl
  · exact hit 768 _ _ _ _ rfl rfl

theorem read_pcs128 (v : View sig κ sp S1024x128 .f32) (f : v.ty.Contents (Elt Ideal)) (w : Fin 4 → Vec Ideal S256x128 .f32)
    (L : List (View.Piece (Elt Ideal) S1024x128 .f32)) (j : Fin 4) (r : Fin 256) (e : Fin 128) :
    v.read (Elt Ideal) (v.writes (Elt Ideal) f (pcs128 w L)) (ix2 (row j r) e) = w j (ix2 r e) := by
  unfold pcs128
  have key : ∀ (o : ℕ) (off : Fin 2 → ℕ) (inb : ∀ a : Fin 2, off a + S256x128.size a ≤ S1024x128.size a) (u : Vec Ideal S256x128 .f32) (M : List (View.Piece (Elt Ideal) S1024x128 .f32)),
      off = ![o, 0] → (256 * j.val + r.val < o ∨ o + 256 ≤ 256 * j.val + r.val) →
      v.read (Elt Ideal) (v.writes (Elt Ideal) f (⟨Rect.unit off S256x128.size inb, u⟩ :: M)) (ix2 (row j r) e)
        = v.read (Elt Ideal) (v.writes (Elt Ideal) f M) (ix2 (row j r) e) :=
    fun o off inb u M h0 h => View.read_writes_cons_rows_of_not_mem (d := ![1024, 128]) v f inb u M (ix2 (row j r) e) h0 rfl h
  have hit : ∀ (o : ℕ) (off : Fin 2 → ℕ) (inb : ∀ a : Fin 2, off a + S256x128.size a ≤ S1024x128.size a) (u : Vec Ideal S256x128 .f32) (M : List (View.Piece (Elt Ideal) S1024x128 .f32)),
      off = ![o, 0] → o = 256 * j.val →
      v.read (Elt Ideal) (v.writes (Elt Ideal) f (⟨Rect.unit off S256x128.size inb, u⟩ :: M)) (ix2 (row j r) e) = u (ix2 r e) :=
    fun o off inb u M h0 h => View.read_writes_cons_rows_of_mem (d := ![1024, 128]) v f inb u M (ix2 (row j r) e) (ix2 r e) h0
      (by subst h; rfl) rfl
  have hr := r.isLt
  fin_cases j
  · exact (key 768 _ _ _ _ rfl (by simp only; omega)).trans <| (key 512 _ _ _ _ rfl (by simp only; omega)).trans <|
      (key 256 _ _ _ _ rfl (by simp only; omega)).trans <| hit 0 _ _ _ _ rfl rfl
  · exact (key 768 _ _ _ _ rfl (by simp only; omega)).trans <| (key 512 _ _ _ _ rfl (by simp only; omega)).trans <| hit 256 _ _ _ _ rfl rfl
  · exact (key 768 _ _ _ _ rfl (by simp only; omega)).trans <| hit 512 _ _ _ _ rfl rfl
  · exact hit 768 _ _ _ _ rfl rfl

end

/-- The row of scores of chunk row `R`: the query row against the key tile, plus the row's biases. -/
def rowS (q : Vec Ideal S1024x128 .bf16) (k : Vec Ideal S1x512x128 .bf16) (b : Fin 1024 → Fin 512 → EReal) (R : Fin 1024) (x : Fin 512) : EReal :=
  (∑ e : Fin 128, q (ix2 R e) * k (ix3 0 x e)) + b R x

/-- The maxima, normalisers and accumulators after a tile, chunk by chunk. -/
def newM (q : Fin 4 → FVec Ideal S256x128 .bf16) (k : FVec Ideal S512x128 .bf16) (b : Fin 4 → FVec Ideal S256x512 .f32) (m : Fin 4 → Vec Ideal S256x1 .f32)
    (j : Fin 4) : Vec Ideal S256x1 .f32 := shapeCast S256x1 (chM (chS (q j) k (b j)) (m j)) shapeCasts_S256x1_S256x1
def newL (q : Fin 4 → FVec Ideal S256x128 .bf16) (k : FVec Ideal S512x128 .bf16) (b : Fin 4 → FVec Ideal S256x512 .f32) (m l : Fin 4 → Vec Ideal S256x1 .f32)
    (j : Fin 4) : Vec Ideal S256x1 .f32 :=
  shapeCast S256x1 (chL (chS (q j) k (b j)) (m j) (l j)) shapeCasts_S256x1_S256x1
def newA (q : Fin 4 → FVec Ideal S256x128 .bf16) (k v : FVec Ideal S512x128 .bf16) (b : Fin 4 → FVec Ideal S256x512 .f32) (m : Fin 4 → Vec Ideal S256x1 .f32)
    (a : Fin 4 → Vec Ideal S256x128 .f32) (j : Fin 4) : Vec Ideal S256x128 .f32 :=
  shapeCast S256x128 (chA (chS (q j) k (b j)) (m j) v (a j)) shapeCasts_S256x128_S256x128

/-- A tile's step: the new maximum, normaliser and accumulator of every row from the old ones and the row's scores. -/
def IsStep (q : Vec Ideal S1024x128 .bf16) (k v : Vec Ideal S1x512x128 .bf16) (b : Fin 1024 → Fin 512 → EReal)
    (m l : Vec Ideal S1024x1 .f32) (a : Vec Ideal S1024x128 .f32) (m' l' : Vec Ideal S1024x1 .f32) (a' : Vec Ideal S1024x128 .f32) : Prop :=
  (∀ R, m' (ix2 R 0) = rowM (rowS q k b R) (m (ix2 R 0))) ∧
  (∀ R, l' (ix2 R 0) = rowL (rowS q k b R) (m (ix2 R 0)) (l (ix2 R 0))) ∧
  ∀ R e, a' (ix2 R e) = rowA (rowS q k b R) (m (ix2 R 0)) (fun x => v (ix3 0 x e)) (a (ix2 R e))

theorem chS_row (q : Vec Ideal S1024x128 .bf16) (k : Vec Ideal S1x512x128 .bf16) (b4 : Fin 4 → FVec Ideal S256x512 .f32) (b : Fin 1024 → Fin 512 → EReal)
    (hb : ∀ j r x, b4 j (ix2 r x) = b (row j r) x) (j : Fin 4) (r : Fin 256) :
    (fun x => chS (ck128 q j) (flat k) (b4 j) (ix2 r x)) = rowS q k b (row j r) := by
  funext x
  rw [chS_apply, hb]
  unfold rowS
  simp only [flat_apply]
  rfl

/-- Four pieces per buffer make a step. -/
theorem isStep_of_pieces (q : Vec Ideal S1024x128 .bf16) (k v : Vec Ideal S1x512x128 .bf16) (b4 : Fin 4 → FVec Ideal S256x512 .f32) (b : Fin 1024 → Fin 512 → EReal)
    (hb : ∀ j r x, b4 j (ix2 r x) = b (row j r) x) (m l : Vec Ideal S1024x1 .f32) (a : Vec Ideal S1024x128 .f32)
    (L1 L2 : List (View.Piece (Elt Ideal) S1024x1 .f32)) (L3 : List (View.Piece (Elt Ideal) S1024x128 .f32)) :
    IsStep q k v b m l a
      (scM0_1.view.writes (Elt Ideal) scM0_1.view.junk (pcs1 (newM (ck128 q) (flat k) b4 (ck1 m)) L1))
      (scM0_2.view.writes (Elt Ideal) scM0_2.view.junk (pcs1 (newL (ck128 q) (flat k) b4 (ck1 m) (ck1 l)) L2))
      (scM0_3.view.writes (Elt Ideal) scM0_3.view.junk (pcs128 (newA (ck128 q) (flat k) (flat v) b4 (ck1 m) (ck128 a)) L3)) := by
  refine ⟨fun R => ?_, fun R => ?_, fun R e => ?_⟩ <;> obtain ⟨j, r, rfl⟩ := row_surj R <;> rw [← chS_row q k b4 b hb]
  · refine (read_pcs1 scM0_1.view _ _ _ j r).trans ?_
    rw [newM, shapeCast_id]; exact chM_apply _ _ _
  · refine (read_pcs1 scM0_2.view _ _ _ j r).trans ?_
    rw [newL, shapeCast_id]; exact chL_apply _ _ _ _
  · refine (read_pcs128 scM0_3.view _ _ _ j r e).trans ?_
    rw [newA, shapeCast_id]; refine (chA_apply _ _ _ _ _ _).trans ?_
    simp only [flat_apply]
    rfl

section
variable {κ : Kind} {sp : Space}

/-- The four chunks of a column as loads read them, each from its own contents. -/
def rd1 (v : View sig κ sp S1024x1 .f32) (f0 f1 f2 f3 : v.ty.Contents (Elt Ideal)) : Fin 4 → Vec Ideal S256x1 .f32 :=
  ![v.readAt (Elt Ideal) (Rect.unit (s := S1024x1) ![0, 0] S256x1.size inb_S1024x1_S256x1_0_0).toLoadRect f0,
    v.readAt (Elt Ideal) (Rect.unit (s := S1024x1) ![256, 0] S256x1.size inb_S1024x1_S256x1_256_0).toLoadRect f1,
    v.readAt (Elt Ideal) (Rect.unit (s := S1024x1) ![512, 0] S256x1.size inb_S1024x1_S256x1_512_0).toLoadRect f2,
    v.readAt (Elt Ideal) (Rect.unit (s := S1024x1) ![768, 0] S256x1.size inb_S1024x1_S256x1_768_0).toLoadRect f3]

/-- The four chunks of 1024 rows of 128 lanes as loads read them, each from its own contents. -/
def rd128 {e : EltTy} (v : View sig κ sp S1024x128 e) (f0 f1 f2 f3 : v.ty.Contents (Elt Ideal)) : Fin 4 → Vec Ideal S256x128 e :=
  ![v.readAt (Elt Ideal) (Rect.unit (s := S1024x128) ![0, 0] S256x128.size inb_S1024x128_S256x128_0_0).toLoadRect f0,
    v.readAt (Elt Ideal) (Rect.unit (s := S1024x128) ![256, 0] S256x128.size inb_S1024x128_S256x128_256_0).toLoadRect f1,
    v.readAt (Elt Ideal) (Rect.unit (s := S1024x128) ![512, 0] S256x128.size inb_S1024x128_S256x128_512_0).toLoadRect f2,
    v.readAt (Elt Ideal) (Rect.unit (s := S1024x128) ![768, 0] S256x128.size inb_S1024x128_S256x128_768_0).toLoadRect f3]

theorem rd1_eq (v : View sig κ sp S1024x1 .f32) (f0 f1 f2 f3 : v.ty.Contents (Elt Ideal)) (g : Vec Ideal S1024x1 .f32)
    (h0 : ∀ r, v.read (Elt Ideal) f0 (ix2 (row 0 r) 0) = g (ix2 (row 0 r) 0)) (h1 : ∀ r, v.read (Elt Ideal) f1 (ix2 (row 1 r) 0) = g (ix2 (row 1 r) 0))
    (h2 : ∀ r, v.read (Elt Ideal) f2 (ix2 (row 2 r) 0) = g (ix2 (row 2 r) 0)) (h3 : ∀ r, v.read (Elt Ideal) f3 (ix2 (row 3 r) 0) = g (ix2 (row 3 r) 0)) :
    rd1 v f0 f1 f2 f3 = ck1 g := by
  have ld : ∀ (o : ℕ) (off : Fin 2 → ℕ) (inb : ∀ a : Fin 2, off a + S256x1.size a ≤ S1024x1.size a) (f : v.ty.Contents (Elt Ideal)) (j : Fin 4),
      off = ![o, 0] → o = 256 * j.val → (∀ r, v.read (Elt Ideal) f (ix2 (row j r) 0) = g (ix2 (row j r) 0)) →
      v.readAt (Elt Ideal) (Rect.unit (s := S1024x1) off S256x1.size inb).toLoadRect f = ck1 g j := by
    rintro o off inb f j rfl rfl h
    funext y
    refine Eq.trans ?_ (h (y 0))
    rw [View.readAt_apply]
    refine congrArg _ (funext fun a => Fin.ext ?_)
    revert a
    refine Fin.forall_fin_two.mpr ⟨?_, ?_⟩
    · show 256 * j.val + 1 * (y 0).val = 256 * j.val + (y 0).val; omega
    · show 0 + 1 * (y 1).val = 0; have h1 : (y 1).val < 1 := (y 1).isLt; omega
  funext j
  fin_cases j
  · exact ld 0 _ _ f0 0 rfl rfl h0
  · exact ld 256 _ _ f1 1 rfl rfl h1
  · exact ld 512 _ _ f2 2 rfl rfl h2
  · exact ld 768 _ _ f3 3 rfl rfl h3

theorem rd128_eq {e : EltTy} (v : View sig κ sp S1024x128 e) (f0 f1 f2 f3 : v.ty.Contents (Elt Ideal)) (g : Vec Ideal S1024x128 e)
    (h0 : ∀ r c, v.read (Elt Ideal) f0 (ix2 (row 0 r) c) = g (ix2 (row 0 r) c)) (h1 : ∀ r c, v.read (Elt Ideal) f1 (ix2 (row 1 r) c) = g (ix2 (row 1 r) c))
    (h2 : ∀ r c, v.read (Elt Ideal) f2 (ix2 (row 2 r) c) = g (ix2 (row 2 r) c)) (h3 : ∀ r c, v.read (Elt Ideal) f3 (ix2 (row 3 r) c) = g (ix2 (row 3 r) c)) :
    rd128 v f0 f1 f2 f3 = ck128 g := by
  have ld : ∀ (o : ℕ) (off : Fin 2 → ℕ) (inb : ∀ a : Fin 2, off a + S256x128.size a ≤ S1024x128.size a) (f : v.ty.Contents (Elt Ideal)) (j : Fin 4),
      off = ![o, 0] → o = 256 * j.val → (∀ r c, v.read (Elt Ideal) f (ix2 (row j r) c) = g (ix2 (row j r) c)) →
      v.readAt (Elt Ideal) (Rect.unit (s := S1024x128) off S256x128.size inb).toLoadRect f = ck128 g j := by
    rintro o off inb f j rfl rfl h
    funext y
    refine Eq.trans ?_ (h (y 0) (y 1))
    rw [View.readAt_apply]
    refine congrArg _ (funext fun a => Fin.ext ?_)
    revert a
    refine Fin.forall_fin_two.mpr ⟨?_, ?_⟩
    · show 256 * j.val + 1 * (y 0).val = 256 * j.val + (y 0).val; omega
    · show 0 + 1 * (y 1).val = (y 1).val; omega
  funext j
  fin_cases j
  · exact ld 0 _ _ f0 0 rfl rfl h0
  · exact ld 256 _ _ f1 1 rfl rfl h1
  · exact ld 512 _ _ f2 2 rfl rfl h2
  · exact ld 768 _ _ f3 3 rfl rfl h3

end

end Cert.KernelIdeal.Value
end
end
-- ==== Proof.Value.Loads.lean ====
module

public import proofs.«01_k».proof.Proof.Value.Pieces
public import Idealize.ShloMosaic.Lib.VecWindow

/-! What the body's loads read: the tiles, the far bias, the near biases, and the chunks of the scratch buffers. -/

@[expose] public section

set_option maxRecDepth 16384

noncomputable section

namespace Cert.KernelIdeal.Value

open Cert.KernelIdeal Cert.KernelIdeal.Gen Cert.KernelIdeal.Diff
open Idealize.ShloMosaic

theorem ck1_self (f : scM0_1.view.ty.Contents (Elt Ideal)) : rd1 scM0_1.view f f f f = ck1 f := rd1_eq _ _ _ _ _ _ (fun _ => rfl) (fun _ => rfl) (fun _ => rfl) (fun _ => rfl)
theorem ck2_self (f : scM0_2.view.ty.Contents (Elt Ideal)) : rd1 scM0_2.view f f f f = ck1 f := rd1_eq _ _ _ _ _ _ (fun _ => rfl) (fun _ => rfl) (fun _ => rfl) (fun _ => rfl)
theorem ck0_self (f : scM0_0.view.ty.Contents (Elt Ideal)) : rd128 scM0_0.view f f f f = ck128 f := rd128_eq _ _ _ _ _ _ (fun _ _ => rfl) (fun _ _ => rfl) (fun _ _ => rfl) (fun _ _ => rfl)
theorem ck3_self (f : scM0_3.view.ty.Contents (Elt Ideal)) : rd128 scM0_3.view f f f f = ck128 f := rd128_eq _ _ _ _ _ _ (fun _ _ => rfl) (fun _ _ => rfl) (fun _ _ => rfl) (fun _ _ => rfl)

/-- A whole tile as a load reads it. -/
def tile (a : Memref sig .tc .vmem S1x512x128 .bf16) (x : Vec Ideal S1x512x128 .bf16) : Vec Ideal S1x512x128 .bf16 :=
  View.readAt (Elt Ideal) a.view (Rect.unit ![0, 0, 0] S1x512x128.size inb_S1x512x128_S1x512x128_0_0_0).toLoadRect (a.view.rep x)

theorem tile_eq (a : Memref sig .tc .vmem S1x512x128 .bf16) (x : Vec Ideal S1x512x128 .bf16) : tile a x = x := View.readAt_rep_full _ _ _

/-- The far bias, read from the scalars at head `i 1`. -/
def farBias (i : grid0.Coords) (x0 : Vec Ideal S9 .f32) : EReal := x0 (ix1 ⟨(i 1).val, by have : (i 1).val < 4 := (i 1).isLt; omega⟩)

/-- The far bias as a load reads it. -/
def farLd (i : grid0.Coords) (a : Memref sig .tc .smem S9 .f32) (x0 : Vec Ideal S9 .f32) : EReal :=
  View.readAt (Elt Ideal) a.view (Rect.unit (s := S9) (k0_off2 i) S1.size (k0_off2_inb i)).toLoadRect (a.view.rep x0) (Shape.Idx.first (numel1_S1.symm ▸ Nat.one_pos))

theorem farLd_eq (i : grid0.Coords) (a : Memref sig .tc .smem S9 .f32) (x0 : Vec Ideal S9 .f32) : farLd i a x0 = farBias i x0 := by
  unfold farLd farBias
  rw [View.readAt_rep]
  refine congrArg x0 ?_
  funext a
  apply Fin.ext
  revert a
  refine Fin.forall_fin_one.mpr ?_
  show k0_off2 i 0 + 1 * _ = _
  have e : k0_off2 i 0 = (i 1).val := by
    have h : (i 1).val < 4 := (i 1).isLt
    show (BitVec.ofNat 32 (i 1).val).toNat = _
    rw [BitVec.toNat_ofNat]; exact Nat.mod_eq_of_lt (by omega)
  rw [e]; rfl

/-- Lambda as a load reads it: the scalars' fifth. -/
def lamLd (a : Memref sig .tc .smem S9 .f32) (x0 : Vec Ideal S9 .f32) : EReal :=
  View.readAt (Elt Ideal) a.view (Rect.unit (s := S9) ![4] S1.size inb_S9_S1_4).toLoadRect (a.view.rep x0) (Shape.Idx.first (numel1_S1.symm ▸ Nat.one_pos))

theorem lamLd_eq (a : Memref sig .tc .smem S9 .f32) (x0 : Vec Ideal S9 .f32) : lamLd a x0 = x0 (ix1 4) := by
  unfold lamLd
  rw [View.readAt_rep]
  refine congrArg x0 ?_
  funext a
  apply Fin.ext
  revert a
  exact Fin.forall_fin_one.mpr rfl

/-- The near biases of chunk row `R` against key `x` of the tile. -/
def nearB (δ : Fin 2) (x4 : Vec Ideal S1x2x512x512 .f32) (R : Fin 1024) (x : Fin 512) : EReal := x4 (ix4 0 δ ⟨R.val % 512, by omega⟩ x)

/-- The four chunks of the diagonal tile's biases as loads read them. -/
def near0 (a : Memref sig .tc .vmem S1x2x512x512 .f32) (x4 : Vec Ideal S1x2x512x512 .f32) : Fin 4 → FVec Ideal S256x512 .f32 := fun j =>
  shapeCast S256x512 ((![
    View.readAt (Elt Ideal) a.view (Rect.unit (s := S1x2x512x512) ![0, 0, 0, 0] S1x1x256x512.size inb_S1x2x512x512_S1x1x256x512_0_0_0_0).toLoadRect (a.view.rep x4),
    View.readAt (Elt Ideal) a.view (Rect.unit (s := S1x2x512x512) ![0, 0, 256, 0] S1x1x256x512.size inb_S1x2x512x512_S1x1x256x512_0_0_256_0).toLoadRect (a.view.rep x4),
    View.readAt (Elt Ideal) a.view (Rect.unit (s := S1x2x512x512) ![0, 0, 0, 0] S1x1x256x512.size inb_S1x2x512x512_S1x1x256x512_0_0_0_0).toLoadRect (a.view.rep x4),
    View.readAt (Elt Ideal) a.view (Rect.unit (s := S1x2x512x512) ![0, 0, 256, 0] S1x1x256x512.size inb_S1x2x512x512_S1x1x256x512_0_0_256_0).toLoadRect (a.view.rep x4)] :
      Fin 4 → Vec Ideal S1x1x256x512 .f32) j) shapeCasts_S1x1x256x512_S256x512

/-- The four chunks of the biases of the tile before the diagonal as loads read them. -/
def near1 (a : Memref sig .tc .vmem S1x2x512x512 .f32) (x4 : Vec Ideal S1x2x512x512 .f32) : Fin 4 → FVec Ideal S256x512 .f32 := fun j =>
  shapeCast S256x512 ((![
    View.readAt (Elt Ideal) a.view (Rect.unit (s := S1x2x512x512) ![0, 1, 0, 0] S1x1x256x512.size inb_S1x2x512x512_S1x1x256x512_0_1_0_0).toLoadRect (a.view.rep x4),
    View.readAt (Elt Ideal) a.view (Rect.unit (s := S1x2x512x512) ![0, 1, 256, 0] S1x1x256x512.size inb_S1x2x512x512_S1x1x256x512_0_1_256_0).toLoadRect (a.view.rep x4),
    View.readAt (Elt Ideal) a.view (Rect.unit (s := S1x2x512x512) ![0, 1, 0, 0] S1x1x256x512.size inb_S1x2x512x512_S1x1x256x512_0_1_0_0).toLoadRect (a.view.rep x4),
    View.readAt (Elt Ideal) a.view (Rect.unit (s := S1x2x512x512) ![0, 1, 256, 0] S1x1x256x512.size inb_S1x2x512x512_S1x1x256x512_0_1_256_0).toLoadRect (a.view.rep x4)] :
      Fin 4 → Vec Ideal S1x1x256x512 .f32) j) shapeCasts_S1x1x256x512_S256x512

theorem drop2_apply (v : Vec Ideal S1x1x256x512 .f32) (r : Fin 256) (x : Fin 512) :
    (shapeCast S256x512 v shapeCasts_S1x1x256x512_S256x512 : FVec Ideal S256x512 .f32) (ix2 r x) = v (ix4 0 0 r x) := by pointwise

theorem bias_ld (a : Memref sig .tc .vmem S1x2x512x512 .f32) (x4 : Vec Ideal S1x2x512x512 .f32) (δ : Fin 2) (j : Fin 4) (r : Fin 256) (x : Fin 512) (off : Fin 4 → ℕ)
    (inb : ∀ b : Fin 4, off b + S1x1x256x512.size b ≤ S1x2x512x512.size b) (o : ℕ) (h : off = ![0, δ.val, o, 0]) (ho : o + r.val = (256 * j.val + r.val) % 512) :
    (View.readAt (Elt Ideal) a.view (Rect.unit (s := S1x2x512x512) off S1x1x256x512.size inb).toLoadRect (a.view.rep x4)) (ix4 0 0 r x)
      = nearB δ x4 (row j r) x := by
  subst h
  refine (congrFun (View.readAt_rep_unit a.view x4 inb rfl inb) _).trans ?_
  refine congrArg x4 ?_
  funext b
  apply Fin.ext
  have h0 : ∀ b : Fin 4, (![0, δ.val, o, 0] b) + ((ix4 (0 : Fin 1) (0 : Fin 1) r x) b).val = ((ix4 (0 : Fin 1) δ (⟨(row j r).val % 512, by omega⟩ : Fin 512) x) b).val := by
    intro b
    fin_cases b
    · rfl
    · rfl
    · exact ho
    · exact Nat.zero_add _
  have h1 := h0 b
  show ![0, δ.val, o, 0] b + 1 * ((ix4 (0 : Fin 1) (0 : Fin 1) r x) b).val = _
  omega

theorem near0_eq (a : Memref sig .tc .vmem S1x2x512x512 .f32) (x4 : Vec Ideal S1x2x512x512 .f32) (j : Fin 4) (r : Fin 256) (x : Fin 512) :
    near0 a x4 j (ix2 r x) = nearB 0 x4 (row j r) x := by
  have hr := r.isLt
  fin_cases j
  · exact (drop2_apply _ r x).trans <| bias_ld a x4 0 0 r x _ _ 0 rfl (by simp only [Fin.val_zero]; omega)
  · exact (drop2_apply _ r x).trans <| bias_ld a x4 0 1 r x _ _ 256 rfl (by show 256 + r.val = (256 * 1 + r.val) % 512; omega)
  · exact (drop2_apply _ r x).trans <| bias_ld a x4 0 2 r x _ _ 0 rfl (by show 0 + r.val = (256 * 2 + r.val) % 512; omega)
  · exact (drop2_apply _ r x).trans <| bias_ld a x4 0 3 r x _ _ 256 rfl (by show 256 + r.val = (256 * 3 + r.val) % 512; omega)

theorem near1_eq (a : Memref sig .tc .vmem S1x2x512x512 .f32) (x4 : Vec Ideal S1x2x512x512 .f32) (j : Fin 4) (r : Fin 256) (x : Fin 512) :
    near1 a x4 j (ix2 r x) = nearB 1 x4 (row j r) x := by
  have hr := r.isLt
  fin_cases j
  · exact (drop2_apply _ r x).trans <| bias_ld a x4 1 0 r x _ _ 0 rfl (by simp only [Fin.val_zero]; omega)
  · exact (drop2_apply _ r x).trans <| bias_ld a x4 1 1 r x _ _ 256 rfl (by show 256 + r.val = (256 * 1 + r.val) % 512; omega)
  · exact (drop2_apply _ r x).trans <| bias_ld a x4 1 2 r x _ _ 0 rfl (by show 0 + r.val = (256 * 2 + r.val) % 512; omega)
  · exact (drop2_apply _ r x).trans <| bias_ld a x4 1 3 r x _ _ 256 rfl (by show 256 + r.val = (256 * 3 + r.val) % 512; omega)

end Cert.KernelIdeal.Value
end
end
-- ==== Proof.Value.First.lean ====
module

public import proofs.«01_k».proof.Proof.Value.Loads

/-! A row block's first tile: the buffers' initial contents, and the step the tile makes of them. -/

@[expose] public section

set_option maxRecDepth 16384

noncomputable section

namespace Cert.KernelIdeal.Value

open Cert.KernelIdeal Cert.KernelIdeal.Gen Cert.KernelIdeal.Diff
open Idealize.ShloMosaic

variable (c : Dev nD) (i : grid0.Coords) (arg5 : Memref sig .tc .smem S9 .f32) (arg6 arg7 arg8 : Memref sig .tc .vmem S1x512x128 .bf16)
  (arg9 : Memref sig .tc .vmem S1x2x512x512 .f32) (x0 : Vec Ideal S9 .f32) (x1 x2 x3 : Vec Ideal S1x512x128 .bf16) (x4 : Vec Ideal S1x2x512x512 .f32)
  (xa0 : Vec Ideal S1024x128 .bf16) (xa1 xa2 : Vec Ideal S1024x1 .f32) (xa3 : Vec Ideal S1024x128 .f32)

/-- The initial contents: the query tile's two halves, the maxima, the normalisers and the accumulators. -/
def init0 : Vec Ideal S1024x128 .bf16 := scM0_0.view.writes (Elt Ideal) scM0_0.view.junk
  [⟨Rect.unit (s := S1024x128) ![512, 0] S512x128.size inb_S1024x128_S512x128_512_0, k0_pay4 (tile arg6 x1)⟩,
    ⟨Rect.unit (s := S1024x128) ![0, 0] S512x128.size inb_S1024x128_S512x128_0_0, k0_pay3 (tile arg6 x1)⟩]
abbrev in1 : List (View.Piece (Elt Ideal) S1024x1 .f32) := [⟨Rect.unit (s := S1024x1) ![0, 0] S1024x1.size inb_S1024x1_S1024x1_0_0, (k0_pay5 (F := Ideal))⟩]
abbrev in2 : List (View.Piece (Elt Ideal) S1024x1 .f32) := [⟨Rect.unit (s := S1024x1) ![0, 0] S1024x1.size inb_S1024x1_S1024x1_0_0, (k0_pay6 (F := Ideal))⟩]
abbrev in3 : List (View.Piece (Elt Ideal) S1024x128 .f32) := [⟨Rect.unit (s := S1024x128) ![0, 0] S1024x128.size inb_S1024x128_S1024x128_0_0, (k0_pay7 (F := Ideal))⟩]

theorem miss1 (v : View sig .tc .vmem S1024x1 .f32) (f : v.ty.Contents (Elt Ideal)) (o : ℕ) (off : Fin 2 → ℕ) (inb : ∀ a : Fin 2, off a + S256x1.size a ≤ S1024x1.size a)
    (u : Vec Ideal S256x1 .f32) (M : List (View.Piece (Elt Ideal) S1024x1 .f32)) (j : Fin 4) (h0 : off = ![o, 0]) (h : o + 256 ≤ 256 * j.val) (g : Vec Ideal S1024x1 .f32)
    (hg : ∀ r, v.read (Elt Ideal) (v.writes (Elt Ideal) f M) (ix2 (row j r) 0) = g (ix2 (row j r) 0)) (r : Fin 256) :
    v.read (Elt Ideal) (v.writes (Elt Ideal) f (⟨Rect.unit off S256x1.size inb, u⟩ :: M)) (ix2 (row j r) 0) = g (ix2 (row j r) 0) :=
  (View.read_writes_cons_rows_of_not_mem (d := ![1024, 1]) v f inb u M (ix2 (row j r) 0) h0 rfl (.inr (by show o + 256 ≤ 256 * j.val + r.val; omega))).trans (hg r)

theorem miss128 (v : View sig .tc .vmem S1024x128 .f32) (f : v.ty.Contents (Elt Ideal)) (o : ℕ) (off : Fin 2 → ℕ) (inb : ∀ a : Fin 2, off a + S256x128.size a ≤ S1024x128.size a)
    (u : Vec Ideal S256x128 .f32) (M : List (View.Piece (Elt Ideal) S1024x128 .f32)) (j : Fin 4) (h0 : off = ![o, 0]) (h : o + 256 ≤ 256 * j.val) (g : Vec Ideal S1024x128 .f32)
    (hg : ∀ r e, v.read (Elt Ideal) (v.writes (Elt Ideal) f M) (ix2 (row j r) e) = g (ix2 (row j r) e)) (r : Fin 256) (e : Fin 128) :
    v.read (Elt Ideal) (v.writes (Elt Ideal) f (⟨Rect.unit off S256x128.size inb, u⟩ :: M)) (ix2 (row j r) e) = g (ix2 (row j r) e) :=
  (View.read_writes_cons_rows_of_not_mem (d := ![1024, 128]) v f inb u M (ix2 (row j r) e) h0 rfl (.inr (by show o + 256 ≤ 256 * j.val + r.val; omega))).trans (hg r e)

theorem base1 (v : View sig .tc .vmem S1024x1 .f32) (g : Vec Ideal S1024x1 .f32) (y : S1024x1.Idx) :
    v.read (Elt Ideal) (v.writes (Elt Ideal) v.junk [⟨Rect.unit ![0, 0] S1024x1.size inb_S1024x1_S1024x1_0_0, g⟩]) y = g y :=
  congrFun (View.read_writes_full v v.junk inb_S1024x1_S1024x1_0_0 g []) y

theorem base128 (v : View sig .tc .vmem S1024x128 .f32) (g : Vec Ideal S1024x128 .f32) (y : S1024x128.Idx) :
    v.read (Elt Ideal) (v.writes (Elt Ideal) v.junk [⟨Rect.unit ![0, 0] S1024x128.size inb_S1024x128_S1024x128_0_0, g⟩]) y = g y :=
  congrFun (View.read_writes_full v v.junk inb_S1024x128_S1024x128_0_0 g []) y

/-- The chunks of a column as they stand when each is first read: nothing written there since the start. -/
theorem first1 (v : View sig .tc .vmem S1024x1 .f32) (g : Vec Ideal S1024x1 .f32) (u0 u1 u2 : Vec Ideal S256x1 .f32) :
    let b : List (View.Piece (Elt Ideal) S1024x1 .f32) := [⟨Rect.unit ![0, 0] S1024x1.size inb_S1024x1_S1024x1_0_0, g⟩]
    let b0 : List (View.Piece (Elt Ideal) S1024x1 .f32) := ⟨Rect.unit ![0, 0] S256x1.size inb_S1024x1_S256x1_0_0, u0⟩ :: b
    let b1 : List (View.Piece (Elt Ideal) S1024x1 .f32) := ⟨Rect.unit ![256, 0] S256x1.size inb_S1024x1_S256x1_256_0, u1⟩ :: b0
    let b2 : List (View.Piece (Elt Ideal) S1024x1 .f32) := ⟨Rect.unit ![512, 0] S256x1.size inb_S1024x1_S256x1_512_0, u2⟩ :: b1
    rd1 v (v.writes (Elt Ideal) v.junk b) (v.writes (Elt Ideal) v.junk b0) (v.writes (Elt Ideal) v.junk b1) (v.writes (Elt Ideal) v.junk b2) = ck1 g := by
  intro b b0 b1 b2
  refine rd1_eq v _ _ _ _ g (fun r => base1 v g _) (miss1 v _ 0 _ _ _ _ 1 rfl (by decide) g fun r => base1 v g _)
    (miss1 v _ 256 _ _ _ _ 2 rfl (by decide) g <| miss1 v _ 0 _ _ _ _ 2 rfl (by decide) g fun r => base1 v g _)
    (miss1 v _ 512 _ _ _ _ 3 rfl (by decide) g <| miss1 v _ 256 _ _ _ _ 3 rfl (by decide) g <| miss1 v _ 0 _ _ _ _ 3 rfl (by decide) g fun r => base1 v g _)

theorem first128 (v : View sig .tc .vmem S1024x128 .f32) (g : Vec Ideal S1024x128 .f32) (u0 u1 u2 : Vec Ideal S256x128 .f32) :
    let b : List (View.Piece (Elt Ideal) S1024x128 .f32) := [⟨Rect.unit ![0, 0] S1024x128.size inb_S1024x128_S1024x128_0_0, g⟩]
    let b0 : List (View.Piece (Elt Ideal) S1024x128 .f32) := ⟨Rect.unit ![0, 0] S256x128.size inb_S1024x128_S256x128_0_0, u0⟩ :: b
    let b1 : List (View.Piece (Elt Ideal) S1024x128 .f32) := ⟨Rect.unit ![256, 0] S256x128.size inb_S1024x128_S256x128_256_0, u1⟩ :: b0
    let b2 : List (View.Piece (Elt Ideal) S1024x128 .f32) := ⟨Rect.unit ![512, 0] S256x128.size inb_S1024x128_S256x128_512_0, u2⟩ :: b1
    rd128 v (v.writes (Elt Ideal) v.junk b) (v.writes (Elt Ideal) v.junk b0) (v.writes (Elt Ideal) v.junk b1) (v.writes (Elt Ideal) v.junk b2) = ck128 g := by
  intro b b0 b1 b2
  refine rd128_eq v _ _ _ _ g (fun r e => base128 v g _) (miss128 v _ 0 _ _ _ _ 1 rfl (by decide) g fun r e => base128 v g _)
    (miss128 v _ 256 _ _ _ _ 2 rfl (by decide) g <| miss128 v _ 0 _ _ _ _ 2 rfl (by decide) g fun r e => base128 v g _)
    (miss128 v _ 512 _ _ _ _ 3 rfl (by decide) g <| miss128 v _ 256 _ _ _ _ 3 rfl (by decide) g <| miss128 v _ 0 _ _ _ _ 3 rfl (by decide) g fun r e => base128 v g _)

theorem start0_A : (![kernelRun0_A.sl.v21 arg6 x1, kernelRun0_A.sl.v55 arg6 x1, kernelRun0_A.sl.v89 arg6 x1, kernelRun0_A.sl.v123 arg6 x1] : Fin 4 → FVec Ideal S256x128 .bf16) = ck128 (init0 arg6 x1) := ck0_self (init0 arg6 x1)
theorem start1_A : (![kernelRun0_A.sl.v26, kernelRun0_A.sl.v60 arg6 arg7 arg9 x1 x2 x4, kernelRun0_A.sl.v94 arg6 arg7 arg9 x1 x2 x4, kernelRun0_A.sl.v128 arg6 arg7 arg9 x1 x2 x4] : Fin 4 → Vec Ideal S256x1 .f32) = ck1 (k0_pay5 (F := Ideal)) := first1 scM0_1.view _ _ _ _
theorem start2_A : (![kernelRun0_A.sl.v35, kernelRun0_A.sl.v69 arg6 arg7 arg9 x1 x2 x4, kernelRun0_A.sl.v103 arg6 arg7 arg9 x1 x2 x4, kernelRun0_A.sl.v137 arg6 arg7 arg9 x1 x2 x4] : Fin 4 → Vec Ideal S256x1 .f32) = ck1 (k0_pay6 (F := Ideal)) := first1 scM0_2.view _ _ _ _
theorem start3_A : (![kernelRun0_A.sl.v43, kernelRun0_A.sl.v77 arg6 arg7 arg8 arg9 x1 x2 x3 x4, kernelRun0_A.sl.v111 arg6 arg7 arg8 arg9 x1 x2 x3 x4, kernelRun0_A.sl.v145 arg6 arg7 arg8 arg9 x1 x2 x3 x4] : Fin 4 → Vec Ideal S256x128 .f32) = ck128 (k0_pay7 (F := Ideal)) := first128 scM0_3.view _ _ _ _
theorem list1_A : kernelRun0_A.sl.HS1_5 arg6 arg7 arg9 x1 x2 x4 = pcs1 (newM (![kernelRun0_A.sl.v21 arg6 x1, kernelRun0_A.sl.v55 arg6 x1, kernelRun0_A.sl.v89 arg6 x1, kernelRun0_A.sl.v123 arg6 x1] : Fin 4 → FVec Ideal S256x128 .bf16) (flat (tile arg7 x2)) (near0 arg9 x4) (![kernelRun0_A.sl.v26, kernelRun0_A.sl.v60 arg6 arg7 arg9 x1 x2 x4, kernelRun0_A.sl.v94 arg6 arg7 arg9 x1 x2 x4, kernelRun0_A.sl.v128 arg6 arg7 arg9 x1 x2 x4] : Fin 4 → Vec Ideal S256x1 .f32)) in1 := by
  simp only [pcs1, newM, Matrix.cons_val]; rfl
theorem list2_A : kernelRun0_A.sl.HS2_5 arg6 arg7 arg9 x1 x2 x4 = pcs1 (newL (![kernelRun0_A.sl.v21 arg6 x1, kernelRun0_A.sl.v55 arg6 x1, kernelRun0_A.sl.v89 arg6 x1, kernelRun0_A.sl.v123 arg6 x1] : Fin 4 → FVec Ideal S256x128 .bf16) (flat (tile arg7 x2)) (near0 arg9 x4) (![kernelRun0_A.sl.v26, kernelRun0_A.sl.v60 arg6 arg7 arg9 x1 x2 x4, kernelRun0_A.sl.v94 arg6 arg7 arg9 x1 x2 x4, kernelRun0_A.sl.v128 arg6 arg7 arg9 x1 x2 x4] : Fin 4 → Vec Ideal S256x1 .f32) (![kernelRun0_A.sl.v35, kernelRun0_A.sl.v69 arg6 arg7 arg9 x1 x2 x4, kernelRun0_A.sl.v103 arg6 arg7 arg9 x1 x2 x4, kernelRun0_A.sl.v137 arg6 arg7 arg9 x1 x2 x4] : Fin 4 → Vec Ideal S256x1 .f32)) in2 := by
  simp only [pcs1, newL, Matrix.cons_val]; rfl
theorem list3_A : kernelRun0_A.sl.HS3_5 arg6 arg7 arg8 arg9 x1 x2 x3 x4 = pcs128 (newA (![kernelRun0_A.sl.v21 arg6 x1, kernelRun0_A.sl.v55 arg6 x1, kernelRun0_A.sl.v89 arg6 x1, kernelRun0_A.sl.v123 arg6 x1] : Fin 4 → FVec Ideal S256x128 .bf16) (flat (tile arg7 x2)) (flat (tile arg8 x3)) (near0 arg9 x4) (![kernelRun0_A.sl.v26, kernelRun0_A.sl.v60 arg6 arg7 arg9 x1 x2 x4, kernelRun0_A.sl.v94 arg6 arg7 arg9 x1 x2 x4, kernelRun0_A.sl.v128 arg6 arg7 arg9 x1 x2 x4] : Fin 4 → Vec Ideal S256x1 .f32) (![kernelRun0_A.sl.v43, kernelRun0_A.sl.v77 arg6 arg7 arg8 arg9 x1 x2 x3 x4, kernelRun0_A.sl.v111 arg6 arg7 arg8 arg9 x1 x2 x3 x4, kernelRun0_A.sl.v145 arg6 arg7 arg8 arg9 x1 x2 x3 x4] : Fin 4 → Vec Ideal S256x128 .f32)) in3 := by
  simp only [pcs128, newA, Matrix.cons_val]; rfl

theorem step_A : IsStep (init0 arg6 x1) x2 x3 (nearB 0 x4) (k0_pay5 (F := Ideal)) (k0_pay6 (F := Ideal)) (k0_pay7 (F := Ideal))
    (scM0_1.view.writes (Elt Ideal) scM0_1.view.junk (kernelRun0_A.sl.HS1_5 arg6 arg7 arg9 x1 x2 x4))
    (scM0_2.view.writes (Elt Ideal) scM0_2.view.junk (kernelRun0_A.sl.HS2_5 arg6 arg7 arg9 x1 x2 x4))
    (scM0_3.view.writes (Elt Ideal) scM0_3.view.junk (kernelRun0_A.sl.HS3_5 arg6 arg7 arg8 arg9 x1 x2 x3 x4)) := by
  rw [list1_A, list2_A, list3_A, start0_A, start1_A, start2_A, start3_A, tile_eq, tile_eq]
  exact isStep_of_pieces _ _ _ _ _ (near0_eq arg9 x4) _ _ _ _ _ _

theorem start0_B : (![kernelRun0_B.sl.v21 arg6 x1, kernelRun0_B.sl.v55 arg6 x1, kernelRun0_B.sl.v89 arg6 x1, kernelRun0_B.sl.v123 arg6 x1] : Fin 4 → FVec Ideal S256x128 .bf16) = ck128 (init0 arg6 x1) := ck0_self (init0 arg6 x1)
theorem start1_B : (![kernelRun0_B.sl.v26, kernelRun0_B.sl.v60 arg6 arg7 arg9 x1 x2 x4, kernelRun0_B.sl.v94 arg6 arg7 arg9 x1 x2 x4, kernelRun0_B.sl.v128 arg6 arg7 arg9 x1 x2 x4] : Fin 4 → Vec Ideal S256x1 .f32) = ck1 (k0_pay5 (F := Ideal)) := first1 scM0_1.view _ _ _ _
theorem start2_B : (![kernelRun0_B.sl.v35, kernelRun0_B.sl.v69 arg6 arg7 arg9 x1 x2 x4, kernelRun0_B.sl.v103 arg6 arg7 arg9 x1 x2 x4, kernelRun0_B.sl.v137 arg6 arg7 arg9 x1 x2 x4] : Fin 4 → Vec Ideal S256x1 .f32) = ck1 (k0_pay6 (F := Ideal)) := first1 scM0_2.view _ _ _ _
theorem start3_B : (![kernelRun0_B.sl.v43, kernelRun0_B.sl.v77 arg6 arg7 arg8 arg9 x1 x2 x3 x4, kernelRun0_B.sl.v111 arg6 arg7 arg8 arg9 x1 x2 x3 x4, kernelRun0_B.sl.v145 arg6 arg7 arg8 arg9 x1 x2 x3 x4] : Fin 4 → Vec Ideal S256x128 .f32) = ck128 (k0_pay7 (F := Ideal)) := first128 scM0_3.view _ _ _ _
theorem list1_B : kernelRun0_B.sl.HS1_5 arg6 arg7 arg9 x1 x2 x4 = pcs1 (newM (![kernelRun0_B.sl.v21 arg6 x1, kernelRun0_B.sl.v55 arg6 x1, kernelRun0_B.sl.v89 arg6 x1, kernelRun0_B.sl.v123 arg6 x1] : Fin 4 → FVec Ideal S256x128 .bf16) (flat (tile arg7 x2)) (near1 arg9 x4) (![kernelRun0_B.sl.v26, kernelRun0_B.sl.v60 arg6 arg7 arg9 x1 x2 x4, kernelRun0_B.sl.v94 arg6 arg7 arg9 x1 x2 x4, kernelRun0_B.sl.v128 arg6 arg7 arg9 x1 x2 x4] : Fin 4 → Vec Ideal S256x1 .f32)) in1 := by
  simp only [pcs1, newM, Matrix.cons_val]; rfl
theorem list2_B : kernelRun0_B.sl.HS2_5 arg6 arg7 arg9 x1 x2 x4 = pcs1 (newL (![kernelRun0_B.sl.v21 arg6 x1, kernelRun0_B.sl.v55 arg6 x1, kernelRun0_B.sl.v89 arg6 x1, kernelRun0_B.sl.v123 arg6 x1] : Fin 4 → FVec Ideal S256x128 .bf16) (flat (tile arg7 x2)) (near1 arg9 x4) (![kernelRun0_B.sl.v26, kernelRun0_B.sl.v60 arg6 arg7 arg9 x1 x2 x4, kernelRun0_B.sl.v94 arg6 arg7 arg9 x1 x2 x4, kernelRun0_B.sl.v128 arg6 arg7 arg9 x1 x2 x4] : Fin 4 → Vec Ideal S256x1 .f32) (![kernelRun0_B.sl.v35, kernelRun0_B.sl.v69 arg6 arg7 arg9 x1 x2 x4, kernelRun0_B.sl.v103 arg6 arg7 arg9 x1 x2 x4, kernelRun0_B.sl.v137 arg6 arg7 arg9 x1 x2 x4] : Fin 4 → Vec Ideal S256x1 .f32)) in2 := by
  simp only [pcs1, newL, Matrix.cons_val]; rfl
theorem list3_B : kernelRun0_B.sl.HS3_5 arg6 arg7 arg8 arg9 x1 x2 x3 x4 = pcs128 (newA (![kernelRun0_B.sl.v21 arg6 x1, kernelRun0_B.sl.v55 arg6 x1, kernelRun0_B.sl.v89 arg6 x1, kernelRun0_B.sl.v123 arg6 x1] : Fin 4 → FVec Ideal S256x128 .bf16) (flat (tile arg7 x2)) (flat (tile arg8 x3)) (near1 arg9 x4) (![kernelRun0_B.sl.v26, kernelRun0_B.sl.v60 arg6 arg7 arg9 x1 x2 x4, kernelRun0_B.sl.v94 arg6 arg7 arg9 x1 x2 x4, kernelRun0_B.sl.v128 arg6 arg7 arg9 x1 x2 x4] : Fin 4 → Vec Ideal S256x1 .f32) (![kernelRun0_B.sl.v43, kernelRun0_B.sl.v77 arg6 arg7 arg8 arg9 x1 x2 x3 x4, kernelRun0_B.sl.v111 arg6 arg7 arg8 arg9 x1 x2 x3 x4, kernelRun0_B.sl.v145 arg6 arg7 arg8 arg9 x1 x2 x3 x4] : Fin 4 → Vec Ideal S256x128 .f32)) in3 := by
  simp only [pcs128, newA, Matrix.cons_val]; rfl

theorem step_B : IsStep (init0 arg6 x1) x2 x3 (nearB 1 x4) (k0_pay5 (F := Ideal)) (k0_pay6 (F := Ideal)) (k0_pay7 (F := Ideal))
    (scM0_1.view.writes (Elt Ideal) scM0_1.view.junk (kernelRun0_B.sl.HS1_5 arg6 arg7 arg9 x1 x2 x4))
    (scM0_2.view.writes (Elt Ideal) scM0_2.view.junk (kernelRun0_B.sl.HS2_5 arg6 arg7 arg9 x1 x2 x4))
    (scM0_3.view.writes (Elt Ideal) scM0_3.view.junk (kernelRun0_B.sl.HS3_5 arg6 arg7 arg8 arg9 x1 x2 x3 x4)) := by
  rw [list1_B, list2_B, list3_B, start0_B, start1_B, start2_B, start3_B, tile_eq, tile_eq]
  exact isStep_of_pieces _ _ _ _ _ (near1_eq arg9 x4) _ _ _ _ _ _

theorem start0_D : (![kernelRun0_D.sl.v23 arg6 x1, kernelRun0_D.sl.v56 arg6 x1, kernelRun0_D.sl.v89 arg6 x1, kernelRun0_D.sl.v122 arg6 x1] : Fin 4 → FVec Ideal S256x128 .bf16) = ck128 (init0 arg6 x1) := ck0_self (init0 arg6 x1)
theorem start1_D : (![kernelRun0_D.sl.v27, kernelRun0_D.sl.v60 i arg5 arg6 arg7 x0 x1 x2, kernelRun0_D.sl.v93 i arg5 arg6 arg7 x0 x1 x2, kernelRun0_D.sl.v126 i arg5 arg6 arg7 x0 x1 x2] : Fin 4 → Vec Ideal S256x1 .f32) = ck1 (k0_pay5 (F := Ideal)) := first1 scM0_1.view _ _ _ _
theorem start2_D : (![kernelRun0_D.sl.v36, kernelRun0_D.sl.v69 i arg5 arg6 arg7 x0 x1 x2, kernelRun0_D.sl.v102 i arg5 arg6 arg7 x0 x1 x2, kernelRun0_D.sl.v135 i arg5 arg6 arg7 x0 x1 x2] : Fin 4 → Vec Ideal S256x1 .f32) = ck1 (k0_pay6 (F := Ideal)) := first1 scM0_2.view _ _ _ _
theorem start3_D : (![kernelRun0_D.sl.v44, kernelRun0_D.sl.v77 i arg5 arg6 arg7 arg8 x0 x1 x2 x3, kernelRun0_D.sl.v110 i arg5 arg6 arg7 arg8 x0 x1 x2 x3, kernelRun0_D.sl.v143 i arg5 arg6 arg7 arg8 x0 x1 x2 x3] : Fin 4 → Vec Ideal S256x128 .f32) = ck128 (k0_pay7 (F := Ideal)) := first128 scM0_3.view _ _ _ _
theorem list1_D : kernelRun0_D.sl.HS1_5 i arg5 arg6 arg7 x0 x1 x2 = pcs1 (newM (![kernelRun0_D.sl.v23 arg6 x1, kernelRun0_D.sl.v56 arg6 x1, kernelRun0_D.sl.v89 arg6 x1, kernelRun0_D.sl.v122 arg6 x1] : Fin 4 → FVec Ideal S256x128 .bf16) (flat (tile arg7 x2)) (fun _ => broadcast S256x512 (farLd i arg5 x0)) (![kernelRun0_D.sl.v27, kernelRun0_D.sl.v60 i arg5 arg6 arg7 x0 x1 x2, kernelRun0_D.sl.v93 i arg5 arg6 arg7 x0 x1 x2, kernelRun0_D.sl.v126 i arg5 arg6 arg7 x0 x1 x2] : Fin 4 → Vec Ideal S256x1 .f32)) in1 := by
  simp only [pcs1, newM, Matrix.cons_val]; rfl
theorem list2_D : kernelRun0_D.sl.HS2_5 i arg5 arg6 arg7 x0 x1 x2 = pcs1 (newL (![kernelRun0_D.sl.v23 arg6 x1, kernelRun0_D.sl.v56 arg6 x1, kernelRun0_D.sl.v89 arg6 x1, kernelRun0_D.sl.v122 arg6 x1] : Fin 4 → FVec Ideal S256x128 .bf16) (flat (tile arg7 x2)) (fun _ => broadcast S256x512 (farLd i arg5 x0)) (![kernelRun0_D.sl.v27, kernelRun0_D.sl.v60 i arg5 arg6 arg7 x0 x1 x2, kernelRun0_D.sl.v93 i arg5 arg6 arg7 x0 x1 x2, kernelRun0_D.sl.v126 i arg5 arg6 arg7 x0 x1 x2] : Fin 4 → Vec Ideal S256x1 .f32) (![kernelRun0_D.sl.v36, kernelRun0_D.sl.v69 i arg5 arg6 arg7 x0 x1 x2, kernelRun0_D.sl.v102 i arg5 arg6 arg7 x0 x1 x2, kernelRun0_D.sl.v135 i arg5 arg6 arg7 x0 x1 x2] : Fin 4 → Vec Ideal S256x1 .f32)) in2 := by
  simp only [pcs1, newL, Matrix.cons_val]; rfl
theorem list3_D : kernelRun0_D.sl.HS3_5 i arg5 arg6 arg7 arg8 x0 x1 x2 x3 = pcs128 (newA (![kernelRun0_D.sl.v23 arg6 x1, kernelRun0_D.sl.v56 arg6 x1, kernelRun0_D.sl.v89 arg6 x1, kernelRun0_D.sl.v122 arg6 x1] : Fin 4 → FVec Ideal S256x128 .bf16) (flat (tile arg7 x2)) (flat (tile arg8 x3)) (fun _ => broadcast S256x512 (farLd i arg5 x0)) (![kernelRun0_D.sl.v27, kernelRun0_D.sl.v60 i arg5 arg6 arg7 x0 x1 x2, kernelRun0_D.sl.v93 i arg5 arg6 arg7 x0 x1 x2, kernelRun0_D.sl.v126 i arg5 arg6 arg7 x0 x1 x2] : Fin 4 → Vec Ideal S256x1 .f32) (![kernelRun0_D.sl.v44, kernelRun0_D.sl.v77 i arg5 arg6 arg7 arg8 x0 x1 x2 x3, kernelRun0_D.sl.v110 i arg5 arg6 arg7 arg8 x0 x1 x2 x3, kernelRun0_D.sl.v143 i arg5 arg6 arg7 arg8 x0 x1 x2 x3] : Fin 4 → Vec Ideal S256x128 .f32)) in3 := by
  simp only [pcs128, newA, Matrix.cons_val]; rfl

theorem step_D : IsStep (init0 arg6 x1) x2 x3 (fun _ _ => farBias i x0) (k0_pay5 (F := Ideal)) (k0_pay6 (F := Ideal)) (k0_pay7 (F := Ideal))
    (scM0_1.view.writes (Elt Ideal) scM0_1.view.junk (kernelRun0_D.sl.HS1_5 i arg5 arg6 arg7 x0 x1 x2))
    (scM0_2.view.writes (Elt Ideal) scM0_2.view.junk (kernelRun0_D.sl.HS2_5 i arg5 arg6 arg7 x0 x1 x2))
    (scM0_3.view.writes (Elt Ideal) scM0_3.view.junk (kernelRun0_D.sl.HS3_5 i arg5 arg6 arg7 arg8 x0 x1 x2 x3)) := by
  rw [list1_D, list2_D, list3_D, start0_D, start1_D, start2_D, start3_D, tile_eq, tile_eq, farLd_eq]
  exact isStep_of_pieces _ _ _ _ _ (fun _ _ _ => rfl) _ _ _ _ _ _

end Cert.KernelIdeal.Value
end
end
-- ==== Proof.Value.Late.lean ====
module

public import proofs.«01_k».proof.Proof.Value.Loads

/-! A tile after a row block's first: the step it makes of the scratch buffers. -/

@[expose] public section

set_option maxRecDepth 16384

noncomputable section

namespace Cert.KernelIdeal.Value

open Cert.KernelIdeal Cert.KernelIdeal.Gen Cert.KernelIdeal.Diff
open Idealize.ShloMosaic

variable (c : Dev nD) (i : grid0.Coords) (arg5 : Memref sig .tc .smem S9 .f32) (arg6 arg7 arg8 : Memref sig .tc .vmem S1x512x128 .bf16)
  (arg9 : Memref sig .tc .vmem S1x2x512x512 .f32) (x0 : Vec Ideal S9 .f32) (x1 x2 x3 : Vec Ideal S1x512x128 .bf16) (x4 : Vec Ideal S1x2x512x512 .f32)
  (xa0 : Vec Ideal S1024x128 .bf16) (xa1 xa2 : Vec Ideal S1024x1 .f32) (xa3 : Vec Ideal S1024x128 .f32)

theorem list1_F : kernelRun0_F.sl.HS1_4 c i arg5 arg7 x0 x2 xa0 xa1 = pcs1 (newM (rd128 scM0_0.view xa0 xa0 xa0 xa0) (flat (tile arg7 x2)) (fun _ => broadcast S256x512 (farLd i arg5 x0)) (rd1 scM0_1.view xa1 xa1 xa1 xa1)) [] := rfl
theorem list2_F : kernelRun0_F.sl.HS2_4 c i arg5 arg7 x0 x2 xa0 xa1 xa2 = pcs1 (newL (rd128 scM0_0.view xa0 xa0 xa0 xa0) (flat (tile arg7 x2)) (fun _ => broadcast S256x512 (farLd i arg5 x0)) (rd1 scM0_1.view xa1 xa1 xa1 xa1) (rd1 scM0_2.view xa2 xa2 xa2 xa2)) [] := rfl
theorem list3_F : kernelRun0_F.sl.HS3_4 c i arg5 arg7 arg8 x0 x2 x3 xa0 xa1 xa3 = pcs128 (newA (rd128 scM0_0.view xa0 xa0 xa0 xa0) (flat (tile arg7 x2)) (flat (tile arg8 x3)) (fun _ => broadcast S256x512 (farLd i arg5 x0)) (rd1 scM0_1.view xa1 xa1 xa1 xa1) (rd128 scM0_3.view xa3 xa3 xa3 xa3)) [] := rfl

theorem step_F : IsStep xa0 x2 x3 (fun _ _ => farBias i x0) xa1 xa2 xa3
    (scM0_1.view.writes (Elt Ideal) scM0_1.view.junk (kernelRun0_F.sl.HS1_4 c i arg5 arg7 x0 x2 xa0 xa1))
    (scM0_2.view.writes (Elt Ideal) scM0_2.view.junk (kernelRun0_F.sl.HS2_4 c i arg5 arg7 x0 x2 xa0 xa1 xa2))
    (scM0_3.view.writes (Elt Ideal) scM0_3.view.junk (kernelRun0_F.sl.HS3_4 c i arg5 arg7 arg8 x0 x2 x3 xa0 xa1 xa3)) := by
  rw [list1_F, list2_F, list3_F, ck0_self, ck1_self, ck2_self, ck3_self, tile_eq, tile_eq, farLd_eq]
  exact isStep_of_pieces _ _ _ _ _ (fun _ _ _ => rfl) _ _ _ _ _ _

theorem list1_C : kernelRun0_C.sl.HS1_4 c arg7 arg9 x2 x4 xa0 xa1 = pcs1 (newM (rd128 scM0_0.view xa0 xa0 xa0 xa0) (flat (tile arg7 x2)) (near0 arg9 x4) (rd1 scM0_1.view xa1 xa1 xa1 xa1)) [] := rfl
theorem list2_C : kernelRun0_C.sl.HS2_4 c arg7 arg9 x2 x4 xa0 xa1 xa2 = pcs1 (newL (rd128 scM0_0.view xa0 xa0 xa0 xa0) (flat (tile arg7 x2)) (near0 arg9 x4) (rd1 scM0_1.view xa1 xa1 xa1 xa1) (rd1 scM0_2.view xa2 xa2 xa2 xa2)) [] := rfl
theorem list3_C : kernelRun0_C.sl.HS3_4 c arg7 arg8 arg9 x2 x3 x4 xa0 xa1 xa3 = pcs128 (newA (rd128 scM0_0.view xa0 xa0 xa0 xa0) (flat (tile arg7 x2)) (flat (tile arg8 x3)) (near0 arg9 x4) (rd1 scM0_1.view xa1 xa1 xa1 xa1) (rd128 scM0_3.view xa3 xa3 xa3 xa3)) [] := rfl

theorem step_C : IsStep xa0 x2 x3 (nearB 0 x4) xa1 xa2 xa3
    (scM0_1.view.writes (Elt Ideal) scM0_1.view.junk (kernelRun0_C.sl.HS1_4 c arg7 arg9 x2 x4 xa0 xa1))
    (scM0_2.view.writes (Elt Ideal) scM0_2.view.junk (kernelRun0_C.sl.HS2_4 c arg7 arg9 x2 x4 xa0 xa1 xa2))
    (scM0_3.view.writes (Elt Ideal) scM0_3.view.junk (kernelRun0_C.sl.HS3_4 c arg7 arg8 arg9 x2 x3 x4 xa0 xa1 xa3)) := by
  rw [list1_C, list2_C, list3_C, ck0_self, ck1_self, ck2_self, ck3_self, tile_eq, tile_eq]
  exact isStep_of_pieces _ _ _ _ _ (near0_eq arg9 x4) _ _ _ _ _ _

theorem list1_E : kernelRun0_E.sl.HS1_4 c arg7 arg9 x2 x4 xa0 xa1 = pcs1 (newM (rd128 scM0_0.view xa0 xa0 xa0 xa0) (flat (tile arg7 x2)) (near1 arg9 x4) (rd1 scM0_1.view xa1 xa1 xa1 xa1)) [] := rfl
theorem list2_E : kernelRun0_E.sl.HS2_4 c arg7 arg9 x2 x4 xa0 xa1 xa2 = pcs1 (newL (rd128 scM0_0.view xa0 xa0 xa0 xa0) (flat (tile arg7 x2)) (near1 arg9 x4) (rd1 scM0_1.view xa1 xa1 xa1 xa1) (rd1 scM0_2.view xa2 xa2 xa2 xa2)) [] := rfl
theorem list3_E : kernelRun0_E.sl.HS3_4 c arg7 arg8 arg9 x2 x3 x4 xa0 xa1 xa3 = pcs128 (newA (rd128 scM0_0.view xa0 xa0 xa0 xa0) (flat (tile arg7 x2)) (flat (tile arg8 x3)) (near1 arg9 x4) (rd1 scM0_1.view xa1 xa1 xa1 xa1) (rd128 scM0_3.view xa3 xa3 xa3 xa3)) [] := rfl

theorem step_E : IsStep xa0 x2 x3 (nearB 1 x4) xa1 xa2 xa3
    (scM0_1.view.writes (Elt Ideal) scM0_1.view.junk (kernelRun0_E.sl.HS1_4 c arg7 arg9 x2 x4 xa0 xa1))
    (scM0_2.view.writes (Elt Ideal) scM0_2.view.junk (kernelRun0_E.sl.HS2_4 c arg7 arg9 x2 x4 xa0 xa1 xa2))
    (scM0_3.view.writes (Elt Ideal) scM0_3.view.junk (kernelRun0_E.sl.HS3_4 c arg7 arg8 arg9 x2 x3 x4 xa0 xa1 xa3)) := by
  rw [list1_E, list2_E, list3_E, ck0_self, ck1_self, ck2_self, ck3_self, tile_eq, tile_eq]
  exact isStep_of_pieces _ _ _ _ _ (near1_eq arg9 x4) _ _ _ _ _ _

end Cert.KernelIdeal.Value
end
end
-- ==== Proof.Value.Steps.lean ====
module

public import proofs.«01_k».proof.Proof.Diff.Body
public import proofs.«01_k».proof.Proof.Value.First
public import proofs.«01_k».proof.Proof.Value.Late

/-! What a step leaves in the scratch buffers and in the output's buffer, by path. -/

@[expose] public section

set_option maxRecDepth 16384

noncomputable section

namespace Cert.KernelIdeal.Value

open Cert.KernelIdeal Cert.KernelIdeal.Gen Cert.KernelIdeal.Diff
open Idealize.ShloMosaic

variable (V : (c : Dev nD) → (b : Ref sig .tc) → Buf (Elt Ideal) ((c.tc : Thread nD τ).loc b)) (c : Dev nD) (t : Fin (cfgA Ideal).N)
  (prev : (S1x512x128.Idx → Elt Ideal .bf16) × Buf (Elt Ideal) ((c.tc : Thread nD τ).loc cc0_scratch0) × Buf (Elt Ideal) ((c.tc : Thread nD τ).loc cc0_scratch1) × Buf (Elt Ideal) ((c.tc : Thread nD τ).loc cc0_scratch2) × Buf (Elt Ideal) ((c.tc : Thread nD τ).loc cc0_scratch3))

theorem full5 (w : Vec Ideal S1x512x128 .bf16) :
    VO0_5.read (Elt Ideal) (VO0_5.writes (Elt Ideal) VO0_5.junk [⟨Rect.unit (s := S1x512x128) ![0, 0, 0] S1x512x128.size inb_S1x512x128_S1x512x128_0_0_0, w⟩]) = w :=
  View.read_writes_full (Val := Elt Ideal) VO0_5 VO0_5.junk inb_S1x512x128_S1x512x128_0_0_0 w []
theorem cov3 (L : List (View.Piece (Elt Ideal) S1024x128 .f32)) :
    scM0_3.view.readCov L (Rect.unit (s := S1024x128) ![0, 0] S1024x128.size inb_S1024x128_S1024x128_0_0).toLoadRect = scM0_3.view.writes (Elt Ideal) scM0_3.view.junk L :=
  View.readAt_full scM0_3.view (scM0_3.view.writes (Elt Ideal) scM0_3.view.junk L) inb_S1024x128_S1024x128_0_0
theorem cov2 (L : List (View.Piece (Elt Ideal) S1024x1 .f32)) :
    scM0_2.view.readCov L (Rect.unit (s := S1024x1) ![0, 0] S1024x1.size inb_S1024x1_S1024x1_0_0).toLoadRect = scM0_2.view.writes (Elt Ideal) scM0_2.view.junk L :=
  View.readAt_full scM0_2.view (scM0_2.view.writes (Elt Ideal) scM0_2.view.junk L) inb_S1024x1_S1024x1_0_0

theorem s0_A (q0 : P0_0 Ideal t) (q1 : ¬P0_1 Ideal t) (q2 : ¬P0_2 Ideal t) : (step0 Ideal V c t prev).2.1 = init0 (ms0_1 Ideal t) (iblk Ideal V c (1 : Fin 6) t) := by
  rw [step0_A Ideal V c t prev q0 q1 q2]; rfl
theorem s1_A (q0 : P0_0 Ideal t) (q1 : ¬P0_1 Ideal t) (q2 : ¬P0_2 Ideal t) : (step0 Ideal V c t prev).2.2.1 = scM0_1.view.writes (Elt Ideal) scM0_1.view.junk (kernelRun0_A.sl.HS1_5 (ms0_1 Ideal t) (ms0_2 Ideal t) (ms0_4 Ideal t) (iblk Ideal V c (1 : Fin 6) t) (iblk Ideal V c (2 : Fin 6) t) (iblk Ideal V c (4 : Fin 6) t)) := by
  rw [step0_A Ideal V c t prev q0 q1 q2]; rfl
theorem s2_A (q0 : P0_0 Ideal t) (q1 : ¬P0_1 Ideal t) (q2 : ¬P0_2 Ideal t) : (step0 Ideal V c t prev).2.2.2.1 = scM0_2.view.writes (Elt Ideal) scM0_2.view.junk (kernelRun0_A.sl.HS2_5 (ms0_1 Ideal t) (ms0_2 Ideal t) (ms0_4 Ideal t) (iblk Ideal V c (1 : Fin 6) t) (iblk Ideal V c (2 : Fin 6) t) (iblk Ideal V c (4 : Fin 6) t)) := by
  rw [step0_A Ideal V c t prev q0 q1 q2]; rfl
theorem s3_A (q0 : P0_0 Ideal t) (q1 : ¬P0_1 Ideal t) (q2 : ¬P0_2 Ideal t) : (step0 Ideal V c t prev).2.2.2.2 = scM0_3.view.writes (Elt Ideal) scM0_3.view.junk (kernelRun0_A.sl.HS3_5 (ms0_1 Ideal t) (ms0_2 Ideal t) (ms0_3 Ideal t) (ms0_4 Ideal t) (iblk Ideal V c (1 : Fin 6) t) (iblk Ideal V c (2 : Fin 6) t) (iblk Ideal V c (3 : Fin 6) t) (iblk Ideal V c (4 : Fin 6) t)) := by
  rw [step0_A Ideal V c t prev q0 q1 q2]; rfl
theorem is_A (q0 : P0_0 Ideal t) (q1 : ¬P0_1 Ideal t) (q2 : ¬P0_2 Ideal t) : IsStep (init0 (ms0_1 Ideal t) (iblk Ideal V c (1 : Fin 6) t)) (iblk Ideal V c (2 : Fin 6) t) (iblk Ideal V c (3 : Fin 6) t) (nearB 0 (iblk Ideal V c (4 : Fin 6) t))  (k0_pay5 (F := Ideal)) (k0_pay6 (F := Ideal)) (k0_pay7 (F := Ideal)) ((step0 Ideal V c t prev).2.2.1) ((step0 Ideal V c t prev).2.2.2.1) ((step0 Ideal V c t prev).2.2.2.2) := by
  rw [s1_A V c t prev q0 q1 q2, s2_A V c t prev q0 q1 q2, s3_A V c t prev q0 q1 q2]
  apply step_A
theorem o0_A (q0 : P0_0 Ideal t) (q1 : ¬P0_1 Ideal t) (q2 : ¬P0_2 Ideal t) : (step0 Ideal V c t prev).1 = VO0_5.read (Elt Ideal) (VO0_5.writes (Elt Ideal) VO0_5.junk (kernelRun0_A.sl.HO5_1 (ms0_0 Ideal t) (ms0_1 Ideal t) (ms0_2 Ideal t) (ms0_3 Ideal t) (ms0_4 Ideal t) (iblk Ideal V c (0 : Fin 6) t) (iblk Ideal V c (1 : Fin 6) t) (iblk Ideal V c (2 : Fin 6) t) (iblk Ideal V c (3 : Fin 6) t) (iblk Ideal V c (4 : Fin 6) t))) := by
  rw [step0_A Ideal V c t prev q0 q1 q2]
  dsimp only
  unfold out0_A_5
  refine congrArg (fun L => VO0_5.read (Elt Ideal) (VO0_5.writes (Elt Ideal) VO0_5.junk L)) ?_
  rfl
theorem o1_A : kernelRun0_A.sl.HO5_1 (ms0_0 Ideal t) (ms0_1 Ideal t) (ms0_2 Ideal t) (ms0_3 Ideal t) (ms0_4 Ideal t) (iblk Ideal V c (0 : Fin 6) t) (iblk Ideal V c (1 : Fin 6) t) (iblk Ideal V c (2 : Fin 6) t) (iblk Ideal V c (3 : Fin 6) t) (iblk Ideal V c (4 : Fin 6) t) = [⟨Rect.unit (s := S1x512x128) ![0, 0, 0] S1x512x128.size inb_S1x512x128_S1x512x128_0_0_0, k0_pay17 (F := Ideal) (lamLd (ms0_0 Ideal t) (iblk Ideal V c (0 : Fin 6) t)) (kernelRun0_A.sl.v158 (ms0_1 Ideal t) (ms0_2 Ideal t) (ms0_3 Ideal t) (ms0_4 Ideal t) (iblk Ideal V c (1 : Fin 6) t) (iblk Ideal V c (2 : Fin 6) t) (iblk Ideal V c (3 : Fin 6) t) (iblk Ideal V c (4 : Fin 6) t)) (kernelRun0_A.sl.v159 (ms0_1 Ideal t) (ms0_2 Ideal t) (ms0_4 Ideal t) (iblk Ideal V c (1 : Fin 6) t) (iblk Ideal V c (2 : Fin 6) t) (iblk Ideal V c (4 : Fin 6) t))⟩] := rfl
theorem o2_A : kernelRun0_A.sl.v158 (ms0_1 Ideal t) (ms0_2 Ideal t) (ms0_3 Ideal t) (ms0_4 Ideal t) (iblk Ideal V c (1 : Fin 6) t) (iblk Ideal V c (2 : Fin 6) t) (iblk Ideal V c (3 : Fin 6) t) (iblk Ideal V c (4 : Fin 6) t) = scM0_3.view.writes (Elt Ideal) scM0_3.view.junk (kernelRun0_A.sl.HS3_5 (ms0_1 Ideal t) (ms0_2 Ideal t) (ms0_3 Ideal t) (ms0_4 Ideal t) (iblk Ideal V c (1 : Fin 6) t) (iblk Ideal V c (2 : Fin 6) t) (iblk Ideal V c (3 : Fin 6) t) (iblk Ideal V c (4 : Fin 6) t)) := cov3 _
theorem o3_A : kernelRun0_A.sl.v159 (ms0_1 Ideal t) (ms0_2 Ideal t) (ms0_4 Ideal t) (iblk Ideal V c (1 : Fin 6) t) (iblk Ideal V c (2 : Fin 6) t) (iblk Ideal V c (4 : Fin 6) t) = scM0_2.view.writes (Elt Ideal) scM0_2.view.junk (kernelRun0_A.sl.HS2_5 (ms0_1 Ideal t) (ms0_2 Ideal t) (ms0_4 Ideal t) (iblk Ideal V c (1 : Fin 6) t) (iblk Ideal V c (2 : Fin 6) t) (iblk Ideal V c (4 : Fin 6) t)) := cov2 _
theorem o_A (q0 : P0_0 Ideal t) (q1 : ¬P0_1 Ideal t) (q2 : ¬P0_2 Ideal t) : (step0 Ideal V c t prev).1 = k0_pay17 (F := Ideal) (lamLd (ms0_0 Ideal t) (iblk Ideal V c (0 : Fin 6) t)) ((step0 Ideal V c t prev).2.2.2.2) ((step0 Ideal V c t prev).2.2.2.1) := by
  exact (o0_A V c t prev q0 q1 q2).trans ((congrArg (fun L => VO0_5.read (Elt Ideal) (VO0_5.writes (Elt Ideal) VO0_5.junk L)) (o1_A V c t)).trans
    ((full5 _).trans (congrArg₂ (k0_pay17 (F := Ideal) (lamLd (ms0_0 Ideal t) (iblk Ideal V c (0 : Fin 6) t)))
      ((o2_A V c t).trans (s3_A V c t prev q0 q1 q2).symm) ((o3_A V c t).trans (s2_A V c t prev q0 q1 q2).symm))))

theorem s0_B (q0 : P0_0 Ideal t) (q1 : ¬P0_1 Ideal t) (q2 : P0_2 Ideal t) : (step0 Ideal V c t prev).2.1 = init0 (ms0_1 Ideal t) (iblk Ideal V c (1 : Fin 6) t) := by
  rw [step0_B Ideal V c t prev q0 q1 q2]; rfl
theorem s1_B (q0 : P0_0 Ideal t) (q1 : ¬P0_1 Ideal t) (q2 : P0_2 Ideal t) : (step0 Ideal V c t prev).2.2.1 = scM0_1.view.writes (Elt Ideal) scM0_1.view.junk (kernelRun0_B.sl.HS1_5 (ms0_1 Ideal t) (ms0_2 Ideal t) (ms0_4 Ideal t) (iblk Ideal V c (1 : Fin 6) t) (iblk Ideal V c (2 : Fin 6) t) (iblk Ideal V c (4 : Fin 6) t)) := by
  rw [step0_B Ideal V c t prev q0 q1 q2]; rfl
theorem s2_B (q0 : P0_0 Ideal t) (q1 : ¬P0_1 Ideal t) (q2 : P0_2 Ideal t) : (step0 Ideal V c t prev).2.2.2.1 = scM0_2.view.writes (Elt Ideal) scM0_2.view.junk (kernelRun0_B.sl.HS2_5 (ms0_1 Ideal t) (ms0_2 Ideal t) (ms0_4 Ideal t) (iblk Ideal V c (1 : Fin 6) t) (iblk Ideal V c (2 : Fin 6) t) (iblk Ideal V c (4 : Fin 6) t)) := by
  rw [step0_B Ideal V c t prev q0 q1 q2]; rfl
theorem s3_B (q0 : P0_0 Ideal t) (q1 : ¬P0_1 Ideal t) (q2 : P0_2 Ideal t) : (step0 Ideal V c t prev).2.2.2.2 = scM0_3.view.writes (Elt Ideal) scM0_3.view.junk (kernelRun0_B.sl.HS3_5 (ms0_1 Ideal t) (ms0_2 Ideal t) (ms0_3 Ideal t) (ms0_4 Ideal t) (iblk Ideal V c (1 : Fin 6) t) (iblk Ideal V c (2 : Fin 6) t) (iblk Ideal V c (3 : Fin 6) t) (iblk Ideal V c (4 : Fin 6) t)) := by
  rw [step0_B Ideal V c t prev q0 q1 q2]; rfl
theorem is_B (q0 : P0_0 Ideal t) (q1 : ¬P0_1 Ideal t) (q2 : P0_2 Ideal t) : IsStep (init0 (ms0_1 Ideal t) (iblk Ideal V c (1 : Fin 6) t)) (iblk Ideal V c (2 : Fin 6) t) (iblk Ideal V c (3 : Fin 6) t) (nearB 1 (iblk Ideal V c (4 : Fin 6) t))  (k0_pay5 (F := Ideal)) (k0_pay6 (F := Ideal)) (k0_pay7 (F := Ideal)) ((step0 Ideal V c t prev).2.2.1) ((step0 Ideal V c t prev).2.2.2.1) ((step0 Ideal V c t prev).2.2.2.2) := by
  rw [s1_B V c t prev q0 q1 q2, s2_B V c t prev q0 q1 q2, s3_B V c t prev q0 q1 q2]
  apply step_B

theorem s0_C (q0 : ¬P0_0 Ideal t) (q1 : ¬P0_1 Ideal t) (q2 : ¬P0_2 Ideal t) : (step0 Ideal V c t prev).2.1 = prev.2.1 := by
  rw [step0_C Ideal V c t prev q0 q1 q2]; rfl
theorem s1_C (q0 : ¬P0_0 Ideal t) (q1 : ¬P0_1 Ideal t) (q2 : ¬P0_2 Ideal t) : (step0 Ideal V c t prev).2.2.1 = scM0_1.view.writes (Elt Ideal) scM0_1.view.junk (kernelRun0_C.sl.HS1_4 c (ms0_2 Ideal t) (ms0_4 Ideal t) (iblk Ideal V c (2 : Fin 6) t) (iblk Ideal V c (4 : Fin 6) t) prev.2.1 prev.2.2.1) := by
  rw [step0_C Ideal V c t prev q0 q1 q2]; rfl
theorem s2_C (q0 : ¬P0_0 Ideal t) (q1 : ¬P0_1 Ideal t) (q2 : ¬P0_2 Ideal t) : (step0 Ideal V c t prev).2.2.2.1 = scM0_2.view.writes (Elt Ideal) scM0_2.view.junk (kernelRun0_C.sl.HS2_4 c (ms0_2 Ideal t) (ms0_4 Ideal t) (iblk Ideal V c (2 : Fin 6) t) (iblk Ideal V c (4 : Fin 6) t) prev.2.1 prev.2.2.1 prev.2.2.2.1) := by
  rw [step0_C Ideal V c t prev q0 q1 q2]; rfl
theorem s3_C (q0 : ¬P0_0 Ideal t) (q1 : ¬P0_1 Ideal t) (q2 : ¬P0_2 Ideal t) : (step0 Ideal V c t prev).2.2.2.2 = scM0_3.view.writes (Elt Ideal) scM0_3.view.junk (kernelRun0_C.sl.HS3_4 c (ms0_2 Ideal t) (ms0_3 Ideal t) (ms0_4 Ideal t) (iblk Ideal V c (2 : Fin 6) t) (iblk Ideal V c (3 : Fin 6) t) (iblk Ideal V c (4 : Fin 6) t) prev.2.1 prev.2.2.1 prev.2.2.2.2) := by
  rw [step0_C Ideal V c t prev q0 q1 q2]; rfl
theorem is_C (q0 : ¬P0_0 Ideal t) (q1 : ¬P0_1 Ideal t) (q2 : ¬P0_2 Ideal t) : IsStep prev.2.1 (iblk Ideal V c (2 : Fin 6) t) (iblk Ideal V c (3 : Fin 6) t) (nearB 0 (iblk Ideal V c (4 : Fin 6) t))  prev.2.2.1 prev.2.2.2.1 prev.2.2.2.2 ((step0 Ideal V c t prev).2.2.1) ((step0 Ideal V c t prev).2.2.2.1) ((step0 Ideal V c t prev).2.2.2.2) := by
  rw [s1_C V c t prev q0 q1 q2, s2_C V c t prev q0 q1 q2, s3_C V c t prev q0 q1 q2]
  apply step_C
theorem o0_C (q0 : ¬P0_0 Ideal t) (q1 : ¬P0_1 Ideal t) (q2 : ¬P0_2 Ideal t) : (step0 Ideal V c t prev).1 = VO0_5.read (Elt Ideal) (VO0_5.writes (Elt Ideal) VO0_5.junk (kernelRun0_C.sl.HO5_1 c (ms0_0 Ideal t) (ms0_2 Ideal t) (ms0_3 Ideal t) (ms0_4 Ideal t) (iblk Ideal V c (0 : Fin 6) t) (iblk Ideal V c (2 : Fin 6) t) (iblk Ideal V c (3 : Fin 6) t) (iblk Ideal V c (4 : Fin 6) t) prev.2.1 prev.2.2.1 prev.2.2.2.1 prev.2.2.2.2)) := by
  rw [step0_C Ideal V c t prev q0 q1 q2]
  dsimp only
  unfold out0_C_5
  refine congrArg (fun L => VO0_5.read (Elt Ideal) (VO0_5.writes (Elt Ideal) VO0_5.junk L)) ?_
  rfl
theorem o1_C : kernelRun0_C.sl.HO5_1 c (ms0_0 Ideal t) (ms0_2 Ideal t) (ms0_3 Ideal t) (ms0_4 Ideal t) (iblk Ideal V c (0 : Fin 6) t) (iblk Ideal V c (2 : Fin 6) t) (iblk Ideal V c (3 : Fin 6) t) (iblk Ideal V c (4 : Fin 6) t) prev.2.1 prev.2.2.1 prev.2.2.2.1 prev.2.2.2.2 = [⟨Rect.unit (s := S1x512x128) ![0, 0, 0] S1x512x128.size inb_S1x512x128_S1x512x128_0_0_0, k0_pay17 (F := Ideal) (lamLd (ms0_0 Ideal t) (iblk Ideal V c (0 : Fin 6) t)) (kernelRun0_C.sl.v158 c (ms0_2 Ideal t) (ms0_3 Ideal t) (ms0_4 Ideal t) (iblk Ideal V c (2 : Fin 6) t) (iblk Ideal V c (3 : Fin 6) t) (iblk Ideal V c (4 : Fin 6) t) prev.2.1 prev.2.2.1 prev.2.2.2.2) (kernelRun0_C.sl.v159 c (ms0_2 Ideal t) (ms0_4 Ideal t) (iblk Ideal V c (2 : Fin 6) t) (iblk Ideal V c (4 : Fin 6) t) prev.2.1 prev.2.2.1 prev.2.2.2.1)⟩] := rfl
theorem o2_C : kernelRun0_C.sl.v158 c (ms0_2 Ideal t) (ms0_3 Ideal t) (ms0_4 Ideal t) (iblk Ideal V c (2 : Fin 6) t) (iblk Ideal V c (3 : Fin 6) t) (iblk Ideal V c (4 : Fin 6) t) prev.2.1 prev.2.2.1 prev.2.2.2.2 = scM0_3.view.writes (Elt Ideal) scM0_3.view.junk (kernelRun0_C.sl.HS3_4 c (ms0_2 Ideal t) (ms0_3 Ideal t) (ms0_4 Ideal t) (iblk Ideal V c (2 : Fin 6) t) (iblk Ideal V c (3 : Fin 6) t) (iblk Ideal V c (4 : Fin 6) t) prev.2.1 prev.2.2.1 prev.2.2.2.2) := cov3 _
theorem o3_C : kernelRun0_C.sl.v159 c (ms0_2 Ideal t) (ms0_4 Ideal t) (iblk Ideal V c (2 : Fin 6) t) (iblk Ideal V c (4 : Fin 6) t) prev.2.1 prev.2.2.1 prev.2.2.2.1 = scM0_2.view.writes (Elt Ideal) scM0_2.view.junk (kernelRun0_C.sl.HS2_4 c (ms0_2 Ideal t) (ms0_4 Ideal t) (iblk Ideal V c (2 : Fin 6) t) (iblk Ideal V c (4 : Fin 6) t) prev.2.1 prev.2.2.1 prev.2.2.2.1) := cov2 _
theorem o_C (q0 : ¬P0_0 Ideal t) (q1 : ¬P0_1 Ideal t) (q2 : ¬P0_2 Ideal t) : (step0 Ideal V c t prev).1 = k0_pay17 (F := Ideal) (lamLd (ms0_0 Ideal t) (iblk Ideal V c (0 : Fin 6) t)) ((step0 Ideal V c t prev).2.2.2.2) ((step0 Ideal V c t prev).2.2.2.1) := by
  exact (o0_C V c t prev q0 q1 q2).trans ((congrArg (fun L => VO0_5.read (Elt Ideal) (VO0_5.writes (Elt Ideal) VO0_5.junk L)) (o1_C V c t prev)).trans
    ((full5 _).trans (congrArg₂ (k0_pay17 (F := Ideal) (lamLd (ms0_0 Ideal t) (iblk Ideal V c (0 : Fin 6) t)))
      ((o2_C V c t prev).trans (s3_C V c t prev q0 q1 q2).symm) ((o3_C V c t prev).trans (s2_C V c t prev q0 q1 q2).symm))))

theorem s0_D (q0 : P0_0 Ideal t) (q1 : P0_1 Ideal t) : (step0 Ideal V c t prev).2.1 = init0 (ms0_1 Ideal t) (iblk Ideal V c (1 : Fin 6) t) := by
  rw [step0_D Ideal V c t prev q0 q1]; rfl
theorem s1_D (q0 : P0_0 Ideal t) (q1 : P0_1 Ideal t) : (step0 Ideal V c t prev).2.2.1 = scM0_1.view.writes (Elt Ideal) scM0_1.view.junk (kernelRun0_D.sl.HS1_5 (crd Ideal t) (ms0_0 Ideal t) (ms0_1 Ideal t) (ms0_2 Ideal t) (iblk Ideal V c (0 : Fin 6) t) (iblk Ideal V c (1 : Fin 6) t) (iblk Ideal V c (2 : Fin 6) t)) := by
  rw [step0_D Ideal V c t prev q0 q1]; rfl
theorem s2_D (q0 : P0_0 Ideal t) (q1 : P0_1 Ideal t) : (step0 Ideal V c t prev).2.2.2.1 = scM0_2.view.writes (Elt Ideal) scM0_2.view.junk (kernelRun0_D.sl.HS2_5 (crd Ideal t) (ms0_0 Ideal t) (ms0_1 Ideal t) (ms0_2 Ideal t) (iblk Ideal V c (0 : Fin 6) t) (iblk Ideal V c (1 : Fin 6) t) (iblk Ideal V c (2 : Fin 6) t)) := by
  rw [step0_D Ideal V c t prev q0 q1]; rfl
theorem s3_D (q0 : P0_0 Ideal t) (q1 : P0_1 Ideal t) : (step0 Ideal V c t prev).2.2.2.2 = scM0_3.view.writes (Elt Ideal) scM0_3.view.junk (kernelRun0_D.sl.HS3_5 (crd Ideal t) (ms0_0 Ideal t) (ms0_1 Ideal t) (ms0_2 Ideal t) (ms0_3 Ideal t) (iblk Ideal V c (0 : Fin 6) t) (iblk Ideal V c (1 : Fin 6) t) (iblk Ideal V c (2 : Fin 6) t) (iblk Ideal V c (3 : Fin 6) t)) := by
  rw [step0_D Ideal V c t prev q0 q1]; rfl
theorem is_D (q0 : P0_0 Ideal t) (q1 : P0_1 Ideal t) : IsStep (init0 (ms0_1 Ideal t) (iblk Ideal V c (1 : Fin 6) t)) (iblk Ideal V c (2 : Fin 6) t) (iblk Ideal V c (3 : Fin 6) t) (fun _ _ => farBias (crd Ideal t) (iblk Ideal V c (0 : Fin 6) t))  (k0_pay5 (F := Ideal)) (k0_pay6 (F := Ideal)) (k0_pay7 (F := Ideal)) ((step0 Ideal V c t prev).2.2.1) ((step0 Ideal V c t prev).2.2.2.1) ((step0 Ideal V c t prev).2.2.2.2) := by
  rw [s1_D V c t prev q0 q1, s2_D V c t prev q0 q1, s3_D V c t prev q0 q1]
  apply step_D

theorem s0_E (q0 : ¬P0_0 Ideal t) (q1 : ¬P0_1 Ideal t) (q2 : P0_2 Ideal t) : (step0 Ideal V c t prev).2.1 = prev.2.1 := by
  rw [step0_E Ideal V c t prev q0 q1 q2]; rfl
theorem s1_E (q0 : ¬P0_0 Ideal t) (q1 : ¬P0_1 Ideal t) (q2 : P0_2 Ideal t) : (step0 Ideal V c t prev).2.2.1 = scM0_1.view.writes (Elt Ideal) scM0_1.view.junk (kernelRun0_E.sl.HS1_4 c (ms0_2 Ideal t) (ms0_4 Ideal t) (iblk Ideal V c (2 : Fin 6) t) (iblk Ideal V c (4 : Fin 6) t) prev.2.1 prev.2.2.1) := by
  rw [step0_E Ideal V c t prev q0 q1 q2]; rfl
theorem s2_E (q0 : ¬P0_0 Ideal t) (q1 : ¬P0_1 Ideal t) (q2 : P0_2 Ideal t) : (step0 Ideal V c t prev).2.2.2.1 = scM0_2.view.writes (Elt Ideal) scM0_2.view.junk (kernelRun0_E.sl.HS2_4 c (ms0_2 Ideal t) (ms0_4 Ideal t) (iblk Ideal V c (2 : Fin 6) t) (iblk Ideal V c (4 : Fin 6) t) prev.2.1 prev.2.2.1 prev.2.2.2.1) := by
  rw [step0_E Ideal V c t prev q0 q1 q2]; rfl
theorem s3_E (q0 : ¬P0_0 Ideal t) (q1 : ¬P0_1 Ideal t) (q2 : P0_2 Ideal t) : (step0 Ideal V c t prev).2.2.2.2 = scM0_3.view.writes (Elt Ideal) scM0_3.view.junk (kernelRun0_E.sl.HS3_4 c (ms0_2 Ideal t) (ms0_3 Ideal t) (ms0_4 Ideal t) (iblk Ideal V c (2 : Fin 6) t) (iblk Ideal V c (3 : Fin 6) t) (iblk Ideal V c (4 : Fin 6) t) prev.2.1 prev.2.2.1 prev.2.2.2.2) := by
  rw [step0_E Ideal V c t prev q0 q1 q2]; rfl
theorem is_E (q0 : ¬P0_0 Ideal t) (q1 : ¬P0_1 Ideal t) (q2 : P0_2 Ideal t) : IsStep prev.2.1 (iblk Ideal V c (2 : Fin 6) t) (iblk Ideal V c (3 : Fin 6) t) (nearB 1 (iblk Ideal V c (4 : Fin 6) t))  prev.2.2.1 prev.2.2.2.1 prev.2.2.2.2 ((step0 Ideal V c t prev).2.2.1) ((step0 Ideal V c t prev).2.2.2.1) ((step0 Ideal V c t prev).2.2.2.2) := by
  rw [s1_E V c t prev q0 q1 q2, s2_E V c t prev q0 q1 q2, s3_E V c t prev q0 q1 q2]
  apply step_E

theorem s0_F (q0 : ¬P0_0 Ideal t) (q1 : P0_1 Ideal t) : (step0 Ideal V c t prev).2.1 = prev.2.1 := by
  rw [step0_F Ideal V c t prev q0 q1]; rfl
theorem s1_F (q0 : ¬P0_0 Ideal t) (q1 : P0_1 Ideal t) : (step0 Ideal V c t prev).2.2.1 = scM0_1.view.writes (Elt Ideal) scM0_1.view.junk (kernelRun0_F.sl.HS1_4 c (crd Ideal t) (ms0_0 Ideal t) (ms0_2 Ideal t) (iblk Ideal V c (0 : Fin 6) t) (iblk Ideal V c (2 : Fin 6) t) prev.2.1 prev.2.2.1) := by
  rw [step0_F Ideal V c t prev q0 q1]; rfl
theorem s2_F (q0 : ¬P0_0 Ideal t) (q1 : P0_1 Ideal t) : (step0 Ideal V c t prev).2.2.2.1 = scM0_2.view.writes (Elt Ideal) scM0_2.view.junk (kernelRun0_F.sl.HS2_4 c (crd Ideal t) (ms0_0 Ideal t) (ms0_2 Ideal t) (iblk Ideal V c (0 : Fin 6) t) (iblk Ideal V c (2 : Fin 6) t) prev.2.1 prev.2.2.1 prev.2.2.2.1) := by
  rw [step0_F Ideal V c t prev q0 q1]; rfl
theorem s3_F (q0 : ¬P0_0 Ideal t) (q1 : P0_1 Ideal t) : (step0 Ideal V c t prev).2.2.2.2 = scM0_3.view.writes (Elt Ideal) scM0_3.view.junk (kernelRun0_F.sl.HS3_4 c (crd Ideal t) (ms0_0 Ideal t) (ms0_2 Ideal t) (ms0_3 Ideal t) (iblk Ideal V c (0 : Fin 6) t) (iblk Ideal V c (2 : Fin 6) t) (iblk Ideal V c (3 : Fin 6) t) prev.2.1 prev.2.2.1 prev.2.2.2.2) := by
  rw [step0_F Ideal V c t prev q0 q1]; rfl
theorem is_F (q0 : ¬P0_0 Ideal t) (q1 : P0_1 Ideal t) : IsStep prev.2.1 (iblk Ideal V c (2 : Fin 6) t) (iblk Ideal V c (3 : Fin 6) t) (fun _ _ => farBias (crd Ideal t) (iblk Ideal V c (0 : Fin 6) t))  prev.2.2.1 prev.2.2.2.1 prev.2.2.2.2 ((step0 Ideal V c t prev).2.2.1) ((step0 Ideal V c t prev).2.2.2.1) ((step0 Ideal V c t prev).2.2.2.2) := by
  rw [s1_F V c t prev q0 q1, s2_F V c t prev q0 q1, s3_F V c t prev q0 q1]
  apply step_F

end Cert.KernelIdeal.Value

end
-- ==== Proof.Value.Ends.lean ====
module

public import proofs.«01_k».proof.Proof.Value.First
public import proofs.«01_k».proof.Proof.Value.Final
public import Idealize.ShloMosaic.Lib.Pointwise

/-! What the buffers hold at first, and what the last tile's output is, at an index. -/

@[expose] public section

set_option maxRecDepth 16384

noncomputable section

namespace Cert.KernelIdeal.Value

open Cert.KernelIdeal Cert.KernelIdeal.Gen Cert.KernelIdeal.Diff
open Idealize.ShloMosaic

theorem lane_lt : ∀ e : Fin 128, IntOp.cmpi CmpIPredicate.slt (BitVec.ofNat 32 e.val) 64#32 = if e.val < 64 then 1#1 else 0#1 := by
  decide +kernel

theorem pay3_apply (x : Vec Ideal S1x512x128 .bf16) (r : Fin 512) (e : Fin 128) :
    k0_pay3 x (ix2 r e) = if e.val < 64 then x (ix3 0 r e) else 0 := by
  unfold k0_pay3 k0_pay1 k0_pay2
  pointwise
  rw [lane_lt]
  split <;> rfl

theorem pay4_apply (x : Vec Ideal S1x512x128 .bf16) (r : Fin 512) (e : Fin 128) :
    k0_pay4 x (ix2 r e) = if e.val < 64 then 0 else x (ix3 0 r e) := by
  unfold k0_pay4 k0_pay1 k0_pay2
  pointwise
  rw [lane_lt]
  split <;> rfl

theorem pay5_apply (R : Fin 1024) : k0_pay5 (F := Ideal) (ix2 R 0) = Scalar.ofBits (F := Ideal) .f32 0xF149F2CA#32 := by
  unfold k0_pay5; pointwise
theorem pay6_apply (R : Fin 1024) : k0_pay6 (F := Ideal) (ix2 R 0) = (0 : EReal) := by
  unfold k0_pay6; pointwise
theorem pay7_apply (R : Fin 1024) (e : Fin 128) : k0_pay7 (F := Ideal) (ix2 R e) = (0 : EReal) := by
  unfold k0_pay7; pointwise

theorem pay17_apply (l : EReal) (a : Vec Ideal S1024x128 .f32) (s : Vec Ideal S1024x1 .f32) (r : Fin 512) (e : Fin 128) :
    k0_pay17 (F := Ideal) l a s (ix3 0 r e)
      = nrm (Scalar.ofBits (F := Ideal) .f32 0x43000000#32) (Scalar.ofBits (F := Ideal) .f32 0x358637BD#32)
          (fun e => Ideal.div (a (ix2 ⟨r.val, by omega⟩ e)) (s (ix2 ⟨r.val, by omega⟩ 0))
            - l * Ideal.div (a (ix2 ⟨512 + r.val, by omega⟩ e)) (s (ix2 ⟨512 + r.val, by omega⟩ 0))) e
        * Scalar.ofBits (F := Ideal) .f32 0x3F4CCCCD#32 := by
  unfold k0_pay17 nrm
  pointwise

/-- The query tile doubled: the first half of the rows holds the first map's lanes, the second half the second's. -/
theorem init0_apply (arg6 : Memref sig .tc .vmem S1x512x128 .bf16) (x : Vec Ideal S1x512x128 .bf16) (k : Fin 2) (r : Fin 512) (e : Fin 128) :
    init0 arg6 x (ix2 ⟨512 * k.val + r.val, by omega⟩ e) = if e.val / 64 = k.val then x (ix3 0 r e) else 0 := by
  show scM0_0.view.read (Elt Ideal) (init0 arg6 x) (ix2 ⟨512 * k.val + r.val, by omega⟩ e) = _
  unfold init0
  rw [tile_eq]
  match k with
  | ⟨0, _⟩ =>
    refine (View.read_writes_cons_rows_of_not_mem (d := ![1024, 128]) scM0_0.view _ _ _ _ _ rfl rfl (.inl ?_)).trans
      ((View.read_writes_cons_rows_of_mem (d := ![1024, 128]) scM0_0.view _ _ _ _ _ (ix2 r e) rfl ?_ ?_).trans ?_)
    · show 512 * 0 + r.val < 512
      omega
    · show 512 * 0 + r.val = 0 + r.val
      omega
    · rfl
    · rw [pay3_apply]
      exact if_congr (by show e.val < 64 ↔ e.val / 64 = 0; omega) rfl rfl
  | ⟨1, _⟩ =>
    refine (View.read_writes_cons_rows_of_mem (d := ![1024, 128]) scM0_0.view _ _ _ _ _ (ix2 r e) rfl ?_ ?_).trans ?_
    · show 512 * 1 + r.val = 512 + r.val
      omega
    · rfl
    · rw [pay4_apply]
      by_cases h : e.val < 64
      · rw [if_pos h, if_neg (by show ¬ e.val / 64 = 1; omega)]
      · rw [if_neg h, if_pos (by show e.val / 64 = 1; omega)]

end Cert.KernelIdeal.Value

end
-- ==== Proof.Value.Score.lean ====
module

public import proofs.«01_k».proof.Proof.Value.Blocks
public import proofs.«01_k».proof.Proof.Value.Steps
public import proofs.«01_k».proof.Proof.Value.Ends
public import proofs.«01_k».proof.Proof.Value.Spec

/-! A row's scores against a tile of keys: the tile's dot products and biases are the specification's scores. -/

@[expose] public section

set_option maxRecDepth 16384

noncomputable section

namespace Cert.KernelIdeal.Value

open Cert.KernelIdeal Cert.KernelIdeal.Gen Cert.KernelIdeal.Diff
open Idealize.ShloMosaic

open Cert.Attn

variable (m : (ℓ : Loc nD τ sig) → Buf (Elt Ideal) ℓ) (c : Dev nD) (t : Fin (cfgA Ideal).N)

/-- A row's scores, by its map and its place in the tile of queries. -/
def sc (k : Fin 2) (r : Fin 512) (x : Fin 4096) : EReal := S (qA m c) (kA m c) (tA m c) (tB t) (tH t) k (key (tI t) r) x

/-- The row of the doubled tile. -/
abbrev rw2 (k : Fin 2) (r : Fin 512) : Fin 1024 := ⟨512 * k.val + r.val, by omega⟩

/-- What the doubled tile of queries holds. -/
def IsQ (q : Vec Ideal S1024x128 .bf16) : Prop :=
  ∀ (k : Fin 2) (r : Fin 512) (k' : Fin 2) (e : Fin 64), q (ix2 (rw2 k r) ⟨64 * k'.val + e.val, by omega⟩)
    = if k' = k then qA m c (tB t) (key (tI t) r) (tH t) k e * ((1 / 8 : ℝ) : EReal) else 0

theorem isQ_init (arg6 : Memref sig .tc .vmem S1x512x128 .bf16) : IsQ m c t (init0 arg6 (iblk Ideal (entry m) c (1 : Fin 6) t)) := by
  intro k r k' e
  rw [init0_apply]
  by_cases h : k' = k
  · rw [if_pos h, if_pos (by subst h; show (64 * k'.val + e.val) / 64 = k'.val; omega), blkQ, h]
  · rw [if_neg h, if_neg (by
      intro h'
      replace h' : (64 * k'.val + e.val) / 64 = k.val := h'
      exact h (Fin.ext (by omega)))]

theorem sum_lanes (f : Fin 128 → EReal) : ∑ e, f e = ∑ k : Fin 2, ∑ e : Fin 64, f ⟨64 * k.val + e.val, by omega⟩ := by
  rw [Fin.sum_univ_two]
  refine (Fin.sum_univ_add (a := 64) (b := 64) f).trans (congrArg₂ (· + ·) ?_ ?_)
  · exact Finset.sum_congr rfl fun e _ => congrArg f (Fin.ext (by show e.val = 64 * 0 + e.val; omega))
  · rfl

theorem dot_eq (q : Vec Ideal S1024x128 .bf16) (hq : IsQ m c t q) (k : Fin 2) (r x : Fin 512) :
    (∑ e : Fin 128, q (ix2 (rw2 k r) e) * iblk Ideal (entry m) c (2 : Fin 6) t (ix3 0 x e))
      = (∑ e : Fin 64, qA m c (tB t) (key (tI t) r) (tH t) k e * kA m c (tB t) (key (tJ t) x) (tH t) k e) * ((1 / 8 : ℝ) : EReal) := by
  rw [sum_lanes, Finset.sum_eq_single k]
  · refine Eq.trans ?_ ((mul_sum_of_nonneg ((1 / 8 : ℝ) : EReal) (by exact_mod_cast (by norm_num : (0 : ℝ) ≤ 1 / 8)) (EReal.coe_ne_top _) _ _).symm.trans (mul_comm _ _))
    refine Finset.sum_congr rfl fun e _ => ?_
    rw [hq k r k e, if_pos rfl, blkK, mul_comm _ ((1 / 8 : ℝ) : EReal), mul_assoc]
  · intro k' _ hk
    refine Finset.sum_eq_zero fun e _ => ?_
    rw [hq k r k' e, if_neg hk, zero_mul]
  · exact fun h => absurd (Finset.mem_univ _) h

theorem row_near (q : Vec Ideal S1024x128 .bf16) (hq : IsQ m c t q) (d : Fin 2) (hd : pI t.val = pJ t.val + d.val) (k : Fin 2) (r : Fin 512) :
    rowS q (iblk Ideal (entry m) c (2 : Fin 6) t) (nearB d (iblk Ideal (entry m) c (4 : Fin 6) t)) (rw2 k r) = fun x => sc m c t k r (key (tJ t) x) := by
  funext x
  have hb : nearB d (iblk Ideal (entry m) c (4 : Fin 6) t) (rw2 k r) x = biasAt (fun j => tA m c j (tH t)) (512 * d.val + r.val) x.val := by
    rw [← blkB]
    unfold nearB
    have e : (⟨(rw2 k r).val % 512, by omega⟩ : Fin 512) = r := Fin.ext (by show (512 * k.val + r.val) % 512 = r.val; omega)
    rw [e]
  unfold rowS
  rw [dot_eq m c t q hq, hb]
  unfold sc S score biasAt
  have hi : (key (tI t) r).val = 512 * pI t.val + r.val := rfl
  have hx : (key (tJ t) x).val = 512 * pJ t.val + x.val := rfl
  rw [hi, hx, hd]
  by_cases h : x.val ≤ 512 * d.val + r.val
  · rw [if_pos h, if_pos (by omega), show 512 * (pJ t.val + d.val) + r.val - (512 * pJ t.val + x.val) = 512 * d.val + r.val - x.val by omega]
  · rw [if_neg h, if_neg (by omega), EReal.add_bot]

theorem row_far (q : Vec Ideal S1024x128 .bf16) (hq : IsQ m c t q) (hd : pJ t.val + 2 ≤ pI t.val) (k : Fin 2) (r : Fin 512) :
    rowS q (iblk Ideal (entry m) c (2 : Fin 6) t) (fun _ _ => farBias (crd Ideal t) (iblk Ideal (entry m) c (0 : Fin 6) t)) (rw2 k r) = fun x => sc m c t k r (key (tJ t) x) := by
  funext x
  have hb : farBias (crd Ideal t) (iblk Ideal (entry m) c (0 : Fin 6) t) = tA m c 31 (tH t) := by
    have hh : ((crd Ideal t) 1).val = pH t.val := (gridAt t).2.2.2.2.2.2.2.2.2.1
    refine Eq.trans ?_ ((blkS m c t _).trans (arrS_far m c (tH t)))
    unfold farBias
    exact congrArg (fun y : Fin 9 => iblk Ideal (entry m) c (0 : Fin 6) t (ix1 y)) (Fin.ext hh)
  unfold rowS
  rw [dot_eq m c t q hq, hb]
  unfold sc S score
  have hi : (key (tI t) r).val = 512 * pI t.val + r.val := rfl
  have hx : (key (tJ t) x).val = 512 * pJ t.val + x.val := rfl
  rw [hi, hx, if_pos (by omega), bk_far _ (by omega)]

end Cert.KernelIdeal.Value

end
-- ==== Proof.Value.Traj.lean ====
module

public import proofs.«01_k».proof.Proof.Value.Score

/-! The buffers along the grid: after each point they hold the maxima, normalisers and accumulators over the keys so far, and the
output's block after a row's last tile is the specification's. -/

@[expose] public section

set_option maxRecDepth 16384

noncomputable section

namespace Cert.KernelIdeal.Value

open Cert.KernelIdeal Cert.KernelIdeal.Gen Cert.KernelIdeal.Diff
open Idealize.ShloMosaic

open Cert.Attn

variable (m : (ℓ : Loc nD τ sig) → Buf (Elt Ideal) ℓ) (c : Dev nD) (t : Fin (cfgA Ideal).N)

/-- The maxima's initial value. -/
def low : ℝ := Classical.choose bits_low
theorem low_eq : Scalar.ofBits (F := Ideal) .f32 0xF149F2CA#32 = (low : EReal) := Classical.choose_spec bits_low

/-- The values at one lane of the point's head. -/
def vl (e : Fin 128) (x : Fin 4096) : EReal := vA m c (tB t) x (tH t) e

/-- What the maxima, normalisers and accumulators hold once the first `n` tiles of keys are in. -/
def At (n : ℕ) (mm ll : Vec Ideal S1024x1 .f32) (aa : Vec Ideal S1024x128 .f32) : Prop :=
  ∀ (k : Fin 2) (r : Fin 512), mm (ix2 (rw2 k r) 0) = rm low (sc m c t k r) (below n) ∧ ll (ix2 (rw2 k r) 0) = rl low (sc m c t k r) (below n) ∧
    ∀ e, aa (ix2 (rw2 k r) e) = ra low (sc m c t k r) (vl m c t e) (below n)

theorem at_zero : At m c t 0 (k0_pay5 (F := Ideal)) (k0_pay6 (F := Ideal)) (k0_pay7 (F := Ideal)) := by
  intro k r
  refine ⟨?_, ?_, fun e => ?_⟩
  · rw [pay5_apply, rm_zero, low_eq]
  · rw [pay6_apply, rl_zero]
  · rw [pay7_apply, ra_zero]

theorem at_step (q : Vec Ideal S1024x128 .bf16) (b : Fin 1024 → Fin 512 → EReal)
    (hb : ∀ k r, rowS q (iblk Ideal (entry m) c (2 : Fin 6) t) b (rw2 k r) = fun x => sc m c t k r (key (tJ t) x))
    (mm ll : Vec Ideal S1024x1 .f32) (aa : Vec Ideal S1024x128 .f32) (mm' ll' : Vec Ideal S1024x1 .f32) (aa' : Vec Ideal S1024x128 .f32)
    (hs : IsStep q (iblk Ideal (entry m) c (2 : Fin 6) t) (iblk Ideal (entry m) c (3 : Fin 6) t) b mm ll aa mm' ll' aa')
    (h : At m c t (pJ t.val) mm ll aa) : At m c t (pJ t.val + 1) mm' ll' aa' := by
  intro k r
  obtain ⟨h1, h2, h3⟩ := h k r
  refine ⟨?_, ?_, fun e => ?_⟩
  · rw [hs.1, hb, h1]
    exact (rm_succ low (sc m c t k r) (tJ t)).symm
  · rw [hs.2.1, hb, h1, h2]
    exact (rl_succ low (sc m c t k r) (tJ t)).symm
  · rw [hs.2.2, hb, h1, h3]
    refine Eq.trans ?_ (ra_succ low (sc m c t k r) (vl m c t e) (tJ t)).symm
    exact congrArg (fun f => rowA _ _ f _) (funext fun x => blkV m c t x e)

/-- What the buffers hold after a point. -/
def Inv (st : (S1x512x128.Idx → Elt Ideal .bf16) × Buf (Elt Ideal) ((c.tc : Thread nD τ).loc cc0_scratch0) × Buf (Elt Ideal) ((c.tc : Thread nD τ).loc cc0_scratch1) × Buf (Elt Ideal) ((c.tc : Thread nD τ).loc cc0_scratch2) × Buf (Elt Ideal) ((c.tc : Thread nD τ).loc cc0_scratch3)) : Prop :=
  IsQ m c t st.2.1 ∧ At m c t (pJ t.val + 1) st.2.2.1 st.2.2.2.1 st.2.2.2.2

theorem inv_first (prev) (h : pJ t.val = 0) : Inv m c t (step0 Ideal (entry m) c t prev) := by
  have q0 : P0_0 Ideal t := (gridAt t).2.2.2.2.2.2.1.2 h
  have e1 := (gridAt t).2.2.2.2.2.2.2.1
  have e2 := (gridAt t).2.2.2.2.2.2.2.2.1
  have hJI := (pnum t).2.2.2.1
  have z : At m c t (pJ t.val) (k0_pay5 (F := Ideal)) (k0_pay6 (F := Ideal)) (k0_pay7 (F := Ideal)) := h ▸ at_zero m c t
  have hq := isQ_init m c t (ms0_1 Ideal t)
  unfold Inv
  by_cases q1 : P0_1 Ideal t
  · exact ⟨(s0_D (entry m) c t prev q0 q1).symm ▸ hq, at_step m c t _ _ (row_far m c t _ hq (e1.1 q1)) _ _ _ _ _ _ (is_D (entry m) c t prev q0 q1) z⟩
  by_cases q2 : P0_2 Ideal t
  · exact ⟨(s0_B (entry m) c t prev q0 q1 q2).symm ▸ hq, at_step m c t _ _ (row_near m c t _ hq 1 (e2.1 q2)) _ _ _ _ _ _ (is_B (entry m) c t prev q0 q1 q2) z⟩
  · have hd : pI t.val = pJ t.val + (0 : Fin 2).val := by
      have n1 : ¬pJ t.val + 2 ≤ pI t.val := fun x => q1 (e1.2 x)
      have n2 : ¬pI t.val = pJ t.val + 1 := fun x => q2 (e2.2 x)
      show pI t.val = pJ t.val + 0
      omega
    exact ⟨(s0_A (entry m) c t prev q0 q1 q2).symm ▸ hq, at_step m c t _ _ (row_near m c t _ hq 0 hd) _ _ _ _ _ _ (is_A (entry m) c t prev q0 q1 q2) z⟩

theorem inv_late (prev) (h : pJ t.val ≠ 0) (hq : IsQ m c t prev.2.1) (z : At m c t (pJ t.val) prev.2.2.1 prev.2.2.2.1 prev.2.2.2.2) :
    Inv m c t (step0 Ideal (entry m) c t prev) := by
  have q0 : ¬P0_0 Ideal t := fun q => h ((gridAt t).2.2.2.2.2.2.1.1 q)
  have e1 := (gridAt t).2.2.2.2.2.2.2.1
  have e2 := (gridAt t).2.2.2.2.2.2.2.2.1
  have hJI := (pnum t).2.2.2.1
  unfold Inv
  by_cases q1 : P0_1 Ideal t
  · exact ⟨(s0_F (entry m) c t prev q0 q1).symm ▸ hq, at_step m c t _ _ (row_far m c t _ hq (e1.1 q1)) _ _ _ _ _ _ (is_F (entry m) c t prev q0 q1) z⟩
  by_cases q2 : P0_2 Ideal t
  · exact ⟨(s0_E (entry m) c t prev q0 q1 q2).symm ▸ hq, at_step m c t _ _ (row_near m c t _ hq 1 (e2.1 q2)) _ _ _ _ _ _ (is_E (entry m) c t prev q0 q1 q2) z⟩
  · have hd : pI t.val = pJ t.val + (0 : Fin 2).val := by
      have n1 : ¬pJ t.val + 2 ≤ pI t.val := fun x => q1 (e1.2 x)
      have n2 : ¬pI t.val = pJ t.val + 1 := fun x => q2 (e2.2 x)
      show pI t.val = pJ t.val + 0
      omega
    exact ⟨(s0_C (entry m) c t prev q0 q1 q2).symm ▸ hq, at_step m c t _ _ (row_near m c t _ hq 0 hd) _ _ _ _ _ _ (is_C (entry m) c t prev q0 q1 q2) z⟩

theorem inv (n : ℕ) (hn : n < (cfgA Ideal).N) : Inv m c ⟨n, hn⟩ (traj0 Ideal (entry m) c n hn) := by
  induction n with
  | zero => exact inv_first m c ⟨0, hn⟩ _ (show pJ 0 = 0 by decide)
  | succ n ih =>
    by_cases h : pJ (n + 1) = 0
    · exact inv_first m c ⟨n + 1, hn⟩ _ h
    · obtain ⟨-, hB, hH, hI, hJ⟩ := (pnum ⟨n + 1, hn⟩).2.2.2.2 h
      have hi := ih (Nat.lt_of_succ_lt hn)
      have eB : tB ⟨n, Nat.lt_of_succ_lt hn⟩ = tB ⟨n + 1, hn⟩ := Fin.ext hB
      have eH : tH ⟨n, Nat.lt_of_succ_lt hn⟩ = tH ⟨n + 1, hn⟩ := Fin.ext hH
      have eI : tI ⟨n, Nat.lt_of_succ_lt hn⟩ = tI ⟨n + 1, hn⟩ := Fin.ext hI
      refine inv_late m c ⟨n + 1, hn⟩ _ h ?_ ?_
      · have := hi.1
        unfold IsQ at this ⊢
        rw [eB, eH, eI] at this
        exact this
      · have := hi.2
        have hJ' : pJ n + 1 = pJ (n + 1) := hJ
        unfold At sc vl at this ⊢
        dsimp only at this ⊢
        rw [eB, eH, eI, hJ'] at this
        exact this

/-- The output's block after a row's last tile of keys. -/
theorem out_block (Vr : Fin 4 → Fin 4096 → Fin 4 → Fin 128 → ℝ) (hV : ∀ b x h e, vA m c b x h e = (Vr b x h e : EReal)) (l : ℝ) (hl : lA m c = (l : EReal))
    (h : pJ t.val = pI t.val) (r : Fin 512) (e : Fin 128) :
    (traj0 Ideal (entry m) c t.val t.isLt).1 (ix3 0 r e)
      = out (qA m c) (kA m c) (vA m c) (tA m c) (lA m c) (tB t) (key (tI t) r) ⟨128 * (tH t).val + e.val, by omega⟩ := by
  have hi := (inv m c t.val t.isLt).2
  have q1 : ¬P0_1 Ideal t := fun q => by have := (gridAt t).2.2.2.2.2.2.2.1.1 q; omega
  have q2 : ¬P0_2 Ideal t := fun q => by have := (gridAt t).2.2.2.2.2.2.2.2.1.1 q; omega
  have hlam : lamLd (ms0_0 Ideal t) (iblk Ideal (entry m) c (0 : Fin 6) t) = (l : EReal) := by
    rw [lamLd_eq, ← hl, ← arrS_lam]; exact blkS m c t 4
  have ho : (traj0 Ideal (entry m) c t.val t.isLt).1 = k0_pay17 (F := Ideal) (l : EReal) (traj0 Ideal (entry m) c t.val t.isLt).2.2.2.2 (traj0 Ideal (entry m) c t.val t.isLt).2.2.2.1 := by
    rw [← hlam, traj0_eq]
    by_cases q0 : P0_0 Ideal t
    · exact o_A (entry m) c t _ q0 q1 q2
    · exact o_C (entry m) c t _ q0 q1 q2
  have hbot : ∀ (k : Fin 2) (x : Fin 4096), x ∉ below (pJ t.val + 1) → sc m c t k r x = ⊥ := by
    intro k x hx
    have hx' : ¬x.val < 512 * (pJ t.val + 1) := fun h' => hx (Finset.mem_filter.2 ⟨Finset.mem_univ _, h'⟩)
    have hk : (key (tI t) r).val = 512 * pI t.val + r.val := rfl
    unfold sc S score
    rw [if_neg (by rw [hk]; omega)]
  have ea : ∀ (k : Fin 2) (e : Fin 128), (traj0 Ideal (entry m) c t.val t.isLt).2.2.2.2 (ix2 (rw2 k r) e) = ra low (sc m c t k r) (fun x => ((Vr (tB t) x (tH t) e : ℝ) : EReal)) Finset.univ := by
    intro k e
    rw [(hi k r).2.2 e, ra_all low (sc m c t k r) (vl m c t e) _ (hbot k)]
    exact congrArg (fun f => ra low (sc m c t k r) f Finset.univ) (funext fun x => hV _ _ _ _)
  have el : ∀ k : Fin 2, (traj0 Ideal (entry m) c t.val t.isLt).2.2.2.1 (ix2 (rw2 k r) 0) = rl low (sc m c t k r) Finset.univ := by
    intro k
    rw [(hi k r).2.1, rl_all low (sc m c t k r) _ (hbot k)]
  obtain ⟨eps, heps⟩ := bits_eps
  have hn : Scalar.ofBits (F := Ideal) .f32 0x43000000#32 = ((128 : ℝ) : EReal) := bits_128
  have he : Scalar.ofBits (F := Ideal) .f32 0x358637BD#32 = (eps : EReal) := heps
  have r0 : ∀ e : Fin 128, (ix2 (⟨r.val, by omega⟩ : Fin 1024) e : S1024x128.Idx) = ix2 (rw2 0 r) e := fun e =>
    congrArg (fun R : Fin 1024 => (ix2 R e : S1024x128.Idx)) (Fin.ext (by show r.val = 512 * 0 + r.val; omega))
  have r0' : (ix2 (⟨r.val, by omega⟩ : Fin 1024) (0 : Fin 1) : S1024x1.Idx) = ix2 (rw2 0 r) 0 :=
    congrArg (fun R : Fin 1024 => (ix2 R (0 : Fin 1) : S1024x1.Idx)) (Fin.ext (by show r.val = 512 * 0 + r.val; omega))
  have r1 : ∀ e : Fin 128, (ix2 (⟨512 + r.val, by omega⟩ : Fin 1024) e : S1024x128.Idx) = ix2 (rw2 1 r) e := fun e =>
    congrArg (fun R : Fin 1024 => (ix2 R e : S1024x128.Idx)) (Fin.ext (by show 512 + r.val = 512 * 1 + r.val; omega))
  have r1' : (ix2 (⟨512 + r.val, by omega⟩ : Fin 1024) (0 : Fin 1) : S1024x1.Idx) = ix2 (rw2 1 r) 0 :=
    congrArg (fun R : Fin 1024 => (ix2 R (0 : Fin 1) : S1024x1.Idx)) (Fin.ext (by show 512 + r.val = 512 * 1 + r.val; omega))
  have hfin : (fun e' : Fin 128 => Ideal.div ((traj0 Ideal (entry m) c t.val t.isLt).2.2.2.2 (ix2 ⟨r.val, by omega⟩ e')) ((traj0 Ideal (entry m) c t.val t.isLt).2.2.2.1 (ix2 ⟨r.val, by omega⟩ 0))
            - (l : EReal) * Ideal.div ((traj0 Ideal (entry m) c t.val t.isLt).2.2.2.2 (ix2 ⟨512 + r.val, by omega⟩ e')) ((traj0 Ideal (entry m) c t.val t.isLt).2.2.2.1 (ix2 ⟨512 + r.val, by omega⟩ 0)))
      = fun e' : Fin 128 => Ideal.div (ra low (sc m c t 0 r) (fun x => ((Vr (tB t) x (tH t) e' : ℝ) : EReal)) Finset.univ) (rl low (sc m c t 0 r) Finset.univ)
            - (l : EReal) * Ideal.div (ra low (sc m c t 1 r) (fun x => ((Vr (tB t) x (tH t) e' : ℝ) : EReal)) Finset.univ) (rl low (sc m c t 1 r) Finset.univ) := by
    funext e'
    rw [r0, r0', r1, r1', ea 0, ea 1, el 0, el 1]
  rw [ho, pay17_apply, hfin, hn, he, out_eq low 128 eps (by norm_num) (sc m c t 0 r) (sc m c t 1 r) (Vr (tB t) · (tH t) ·) l e]
  unfold out
  have hn' : Ideal.ofBits .f32 0x43000000#32 = ((128 : ℝ) : EReal) := bits_128
  rw [hn', heps]
  have y1 : (⟨(128 * (tH t).val + e.val) / 128, by omega⟩ : Fin 4) = tH t := Fin.ext (by show (128 * (tH t).val + e.val) / 128 = (tH t).val; omega)
  have y2 : (⟨(128 * (tH t).val + e.val) % 128, by omega⟩ : Fin 128) = e := Fin.ext (by show (128 * (tH t).val + e.val) % 128 = e.val; omega)
  dsimp only
  rw [y1, y2]
  refine congrArg (fun f => nrm ((128 : ℝ) : EReal) (eps : EReal) f e * _) (funext fun e' => ?_)
  unfold mixed
  refine Finset.sum_congr rfl fun x _ => ?_
  rw [hV, hl]
  rfl

end Cert.KernelIdeal.Value

end
-- ==== Proof.Value.Result.lean ====
module

public import proofs.«01_k».proof.Proof.Value.Traj
public import proofs.«01_k».proof.Proof.Diff.Run

/-! The output array after the run. -/

@[expose] public section

set_option maxRecDepth 16384

noncomputable section

namespace Cert.KernelIdeal.Value

open Cert.KernelIdeal Cert.KernelIdeal.Gen Cert.KernelIdeal.Diff
open Idealize.ShloMosaic

open Cert.Attn
open Idealize.SL.Sem

variable (m : (ℓ : Loc nD τ sig) → Buf (Elt Ideal) ℓ) (c : Dev nD)

theorem covers5 : ((cfgA Bits).win 5).Covers := by decide +kernel

/-- The specification's output of the launch's arguments. -/
def outArr : Buf (Elt Ideal) ((c.tc : Thread nD τ).loc main_v172) := fun y : S4x4096x512.Idx =>
  out (qA m c) (kA m c) (vA m c) (tA m c) (lA m c) (y 0) (y 1) (y 2)

theorem arr_out (Vr : Fin 4 → Fin 4096 → Fin 4 → Fin 128 → ℝ) (hV : ∀ b x h e, vA m c b x h e = (Vr b x h e : EReal)) (l : ℝ) (hl : lA m c = (l : EReal)) :
    (dats Ideal (entry m) 0 c).arrAt (5 : Fin 6) (cfgA Ideal).N = outArr m c := by
  refine (dats Ideal (entry m) 0 c).arrAt_eq_of_covers (5 : Fin 6) _ covers5 fun t hf y => ?_
  have hJ : pJ t.val = pI t.val := (gridAt t).2.2.2.2.2.2.2.2.2.2 hf
  have e5 := (gridAt t).2.2.2.2.1
  blk_simp
  rw [after0_5]
  have hy : (y : S1x512x128.Idx) = ix3 0 (y 1) (y 2) := by
    funext a
    match a with
    | ⟨0, _⟩ => exact Subsingleton.elim (α := Fin 1) _ _
    | ⟨1, _⟩ => rfl
    | ⟨2, _⟩ => rfl
  refine (congrArg (traj0 Ideal (entry m) c t.val t.isLt).1 hy).trans ((out_block m c t Vr hV l hl hJ (y 1) (y 2)).trans ?_)
  unfold outArr
  dsimp only
  congr 1
  · apply Fin.ext
    blk_simp [e5]
    rfl
  · apply Fin.ext
    blk_simp [e5]
    exact congrArg (· + (y 1).val) (Nat.mul_comm 512 (pI t.val))
  · apply Fin.ext
    blk_simp [e5]
    exact congrArg (· + (y 2).val) (Nat.mul_comm 128 (pH t.val))

/-- The run, with the output array's value, on real values and a real lambda. -/
theorem run_value (ρ : Dev nD → PrngReg) (Vr : Dev nD → Fin 4 → Fin 4096 → Fin 4 → Fin 128 → ℝ) (hV : ∀ c b x h e, vA m c b x h e = (Vr c b x h e : EReal))
    (l : Dev nD → ℝ) (hl : ∀ c, lA m c = (l c : EReal)) :
    θ_run (defs (F := Ideal)) (onTc (τ := τ) (main (F := Ideal))) ⟨m, fun _ => 0, ρ⟩ (fun r => ∀ c : Dev nD,
      r.2.mem ((c.tc : Thread nD τ).loc main_v172) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_main_quiescent Ideal m ρ)
  have hr := (h.1 c).2
  exact ⟨((h.1 c).1 (5 : Fin 6)).trans (arr_out m c (Vr c) (hV c) (l c) (hl c)),
    (hr _ (by decide)).trans (entry_arg0 m c), (hr _ (by decide)).trans (entry_arg1 m c), (hr _ (by decide)).trans (entry_arg2 m c),
    (hr _ (by decide)).trans (entry_arg3 m c), (hr _ (by decide)).trans (entry_arg4 m c), (hr _ (by decide)).trans (entry_arg5 m c),
    (hr _ (by decide)).trans (entry_arg6 m c), (hr _ (by decide)).trans (entry_arg7 m c)⟩

end Cert.KernelIdeal.Value

end
-- ==== Proof.Value.Pre.lean ====
module

public import proofs.«01_k».proof.Pre_finite
public import proofs.«01_k».proof.Proof.Value.Arrays
public import proofs.«01_k».proof.Proof.Value.Spec
public import Idealize.ShloMosaic.Lib.ReduceAll
public import Idealize.ShloMosaic.Lib.Pointwise

/-! The precondition: what it says of the values and of the vectors of lambda. -/

@[expose] public section

noncomputable section

namespace Cert.Pre_finite

open Idealize.ShloMosaic

instance facts : Facts where
  bcast_S_S4x4096x4x128 := by decide
  reducesTo_S4x4096x4x128_S_d0_1_2_3 := by decide
  h_S_ := by decide
  bcast_S_S64 := by decide
  reducesTo_S64_S_d0 := by decide

open Facts

theorem real_of_lt (x : EReal) (h : BitVec.ofBool (decide (max x (-x) < Ideal.ofBits .f32 0x7F800000#32)) = 1#1) : ∃ r : ℝ, x = (r : EReal) := by
  rw [Cert.Attn.bits_top] at h
  have h' : max x (-x) < ⊤ := by
    by_contra hn
    rw [decide_eq_false hn] at h
    exact absurd h (by decide)
  have ht : x ≠ ⊤ := fun e => by rw [e, max_top_left] at h'; exact lt_irrefl _ h'
  have hb : x ≠ ⊥ := fun e => by rw [e, EReal.neg_bot, max_top_right] at h'; exact lt_irrefl _ h'
  exact ⟨x.toReal, (EReal.coe_toReal ht hb).symm⟩

/-- What the precondition says of the values. -/
theorem real4 (x : FVec Ideal S4x4096x4x128 .f32)
    (h : Host.reduce IntOp.andi (cmpf .olt (Host.absf x) (broadcastInDim S4x4096x4x128 ![] bcast_S_S4x4096x4x128 (constant S_ .f32 0x7F800000#32))) (constantI S_ 1 1#1)
      reducesTo_S4x4096x4x128_S_d0_1_2_3 h_S_ ix0 = 1#1) (b : Fin 4) (i : Fin 4096) (k : Fin 4) (e : Fin 128) : ∃ r : ℝ, (x (ix4 b i k e) : EReal) = (r : EReal) := by
  haveI : Subsingleton S_.Idx := ⟨fun a b => funext fun i => i.elim0⟩
  have h1 := Host.reduce_andi_all _ _ _ _ _ h (ix4 b i k e)
  clear h
  pointwise at h1
  exact real_of_lt _ h1

/-- What it says of a vector of lambda. -/
theorem real1 (x : FVec Ideal S64 .f32)
    (h : Host.reduce IntOp.andi (cmpf .olt (Host.absf x) (broadcastInDim S64 ![] bcast_S_S64 (constant S_ .f32 0x7F800000#32))) (constantI S_ 1 1#1)
      reducesTo_S64_S_d0 h_S_ ix0 = 1#1) (e : Fin 64) : ∃ r : ℝ, (x (ix1 e) : EReal) = (r : EReal) := by
  haveI : Subsingleton S_.Idx := ⟨fun a b => funext fun i => i.elim0⟩
  have h1 := Host.reduce_andi_all _ _ _ _ _ h (ix1 e)
  clear h
  pointwise at h1
  exact real_of_lt _ h1

theorem andi_one (a b : IVec S_ 1) (h : andi a b ix0 = 1#1) : a ix0 = 1#1 ∧ b ix0 = 1#1 := by
  have h' : (a ix0 : BitVec 1) &&& b ix0 = 1#1 := h
  generalize a ix0 = u at h' ⊢
  generalize b ix0 = w at h' ⊢
  revert u w
  decide

/-- What the precondition says of its arguments. -/
theorem fn_real (x0 x1 : FVec Ideal S4x4096x4x2x64 .f32) (x2 : FVec Ideal S4x4096x4x128 .f32) (x3 x4 x5 x6 : FVec Ideal S64 .f32) (x7 : FVec Ideal S32x4 .f32)
    (h : fn (F := Ideal) x0 x1 x2 x3 x4 x5 x6 x7 = fun _ => 1#1) :
    (∀ b i k e, ∃ r : ℝ, (x2 (ix4 b i k e) : EReal) = (r : EReal)) ∧ (∀ e, ∃ r : ℝ, (x3 (ix1 e) : EReal) = (r : EReal)) ∧ (∀ e, ∃ r : ℝ, (x4 (ix1 e) : EReal) = (r : EReal)) ∧
      (∀ e, ∃ r : ℝ, (x5 (ix1 e) : EReal) = (r : EReal)) ∧ ∀ e, ∃ r : ℝ, (x6 (ix1 e) : EReal) = (r : EReal) := by
  have h := congrFun h ix0
  dsimp only [fn, fn_part1] at h
  obtain ⟨h, h6⟩ := andi_one _ _ h
  obtain ⟨h, h5⟩ := andi_one _ _ h
  obtain ⟨h, h4⟩ := andi_one _ _ h
  obtain ⟨h2, h3⟩ := andi_one _ _ h
  exact ⟨real4 x2 h2, real1 x3 h3, real1 x4 h4, real1 x5 h5, real1 x6 h6⟩

/-- Lambda of real vectors is real. -/
theorem lam_real (l3 l4 l5 l6 : Fin 64 → EReal) (h3 : ∀ e, ∃ r : ℝ, l3 e = (r : EReal)) (h4 : ∀ e, ∃ r : ℝ, l4 e = (r : EReal))
    (h5 : ∀ e, ∃ r : ℝ, l5 e = (r : EReal)) (h6 : ∀ e, ∃ r : ℝ, l6 e = (r : EReal)) : ∃ l : ℝ, Cert.Attn.lam l3 l4 l5 l6 = (l : EReal) := by
  choose r3 h3 using h3
  choose r4 h4 using h4
  choose r5 h5 using h5
  choose r6 h6 using h6
  obtain ⟨w, hw⟩ := Cert.Attn.bits_lam
  have dot : ∀ (a b : Fin 64 → EReal) (ra rb : Fin 64 → ℝ), (∀ e, a e = (ra e : EReal)) → (∀ e, b e = (rb e : EReal)) →
      Ideal.exp (∑ e, a e * b e) = ((Real.exp (∑ e, ra e * rb e) : ℝ) : EReal) := by
    intro a b ra rb ha hb
    have hs : (∑ e, a e * b e) = ((∑ e, ra e * rb e : ℝ) : EReal) := by
      rw [← Cert.KernelIdeal.Value.sum_coe]
      exact Finset.sum_congr rfl fun e _ => by rw [ha, hb, EReal.coe_mul]
    rw [hs]; rfl
  unfold Cert.Attn.lam
  rw [dot l3 l4 r3 r4 h3 h4, dot l5 l6 r5 r6 h5 h6, hw]
  exact ⟨Real.exp (∑ e, r3 e * r4 e) - Real.exp (∑ e, r5 e * r6 e) + w, by rw [EReal.coe_add, EReal.coe_sub]⟩

end Cert.Pre_finite

end
-- ==== Proof.Value.Ref.lean ====
module

public import proofs.«01_k».proof.Proof.Gen.ReferenceIdeal.Run
public import proofs.«01_k».proof.Proof.Value.Spec
public import Idealize.ShloMosaic.Lib.Pointwise
public import Idealize.ShloMosaic.Lib.Tactic.CleanTypes

/-! The reference's result read at an index. -/

@[expose] public section

set_option maxRecDepth 16384

noncomputable section

namespace Cert.ReferenceIdeal.Read

open Cert.ReferenceIdeal Cert.ReferenceIdeal.Gen Cert.ReferenceIdeal.Value Cert.Attn
open Cert.KernelIdeal.Value (nrm sm se sw)
open Idealize.ShloMosaic Idealize.ShloMosaic.TcCoe Idealize.ShloMosaic.StableHlo

variable (V0 : Valuation τ sig (Elt Ideal))

/-! ## The bias -/

theorem v13_apply (i x : Fin 4096) : (res_main_v13 V0 : IVec S4096x4096 32) (ix2 i x) = IntOp.subi (BitVec.ofNat 32 i.val) (BitVec.ofNat 32 x.val) := by
  unfold res_main_v13 res_main_v8
  clean_types
  pointwise

theorem v33_apply (i x : Fin 4096) : (res_main_v33 V0 : IVec S4096x4096 32) (ix2 i x) = bucketW (IntOp.maxsi ((res_main_v13 V0 : IVec S4096x4096 32) (ix2 i x)) 0#32) := by
  unfold res_main_v33 res_main_v15 bucketW
  clean_types
  pointwise

/-- `table[idx]` over a square of indices. -/
theorem gather_sq (x : FVec Ideal S32x4 .f32) (idx : IVec S4096x4096x1 32) (i j : Fin 4096) (h : Fin 4) (b : Fin 32)
    (hb : idx (ix3 i j (0 : Fin 1)) = BitVec.ofNat 32 b.val) :
    Host.gather gather_S32x4_S4096x4096x1_S4096x4096x4_2_0_n_n_0_2_14 x idx (ix3 i j h) = x (ix2 b h) := by
  unfold Host.gather
  refine congrArg x (funext fun a => Fin.ext ?_)
  match a with
  | ⟨0, _⟩ =>
    show GatherDims.start _ (ix3 i j h) idx 0 + GatherDims.batchCoord _ (ix3 i j h) 0 + GatherDims.offCoord _ (ix3 i j h) 0 = b.val
    have h1 : GatherDims.batchCoord gather_S32x4_S4096x4096x1_S4096x4096x4_2_0_n_n_0_2_14 (ix3 i j h) 0 = 0 := rfl
    have h2 : GatherDims.offCoord gather_S32x4_S4096x4096x1_S4096x4096x4_2_0_n_n_0_2_14 (ix3 i j h) 0 = 0 := rfl
    have h3 : GatherDims.start gather_S32x4_S4096x4096x1_S4096x4096x4_2_0_n_n_0_2_14 (ix3 i j h) idx 0 = min (idx (ix3 i j (0 : Fin 1))).toInt.toNat 31 := by
      unfold GatherDims.start
      rw [dif_pos (by decide)]
      congr 4
      funext a
      match a with
      | ⟨0, _⟩ => rfl
      | ⟨1, _⟩ => rfl
      | ⟨2, _⟩ => rfl
    rw [h1, h2, h3, hb, WordArith.toInt_ofNat_small _ (by omega)]
    omega
  | ⟨1, _⟩ =>
    show GatherDims.start _ (ix3 i j h) idx 1 + GatherDims.batchCoord _ (ix3 i j h) 1 + GatherDims.offCoord _ (ix3 i j h) 1 = h.val
    have h1 : GatherDims.batchCoord gather_S32x4_S4096x4096x1_S4096x4096x4_2_0_n_n_0_2_14 (ix3 i j h) 1 = 0 := rfl
    have h2 : GatherDims.offCoord gather_S32x4_S4096x4096x1_S4096x4096x4_2_0_n_n_0_2_14 (ix3 i j h) 1 = h.val := rfl
    have h3 : GatherDims.start gather_S32x4_S4096x4096x1_S4096x4096x4_2_0_n_n_0_2_14 (ix3 i j h) idx 1 = 0 := by
      unfold GatherDims.start
      rw [dif_neg (by decide)]
    rw [h1, h2, h3]
    omega

/-- The arguments at their coordinates. -/
def qA (b : Fin 4) (i : Fin 4096) (h : Fin 4) (c : Fin 2) (e : Fin 64) : EReal := (V0 (Proc.devRef .tc main_arg0) : FVec Ideal S4x4096x4x2x64 .f32) (ix5 b i h c e)
def kA (b : Fin 4) (i : Fin 4096) (h : Fin 4) (c : Fin 2) (e : Fin 64) : EReal := (V0 (Proc.devRef .tc main_arg1) : FVec Ideal S4x4096x4x2x64 .f32) (ix5 b i h c e)
def vA (b : Fin 4) (i : Fin 4096) (h : Fin 4) (e : Fin 128) : EReal := (V0 (Proc.devRef .tc main_arg2) : FVec Ideal S4x4096x4x128 .f32) (ix4 b i h e)
def tA (j : Fin 32) (h : Fin 4) : EReal := (V0 (Proc.devRef .tc main_arg7) : FVec Ideal S32x4 .f32) (ix2 j h)
def lA : EReal :=
  lam (fun e => (V0 (Proc.devRef .tc main_arg3) : FVec Ideal S64 .f32) (ix1 e)) (fun e => (V0 (Proc.devRef .tc main_arg4) : FVec Ideal S64 .f32) (ix1 e))
    (fun e => (V0 (Proc.devRef .tc main_arg5) : FVec Ideal S64 .f32) (ix1 e)) (fun e => (V0 (Proc.devRef .tc main_arg6) : FVec Ideal S64 .f32) (ix1 e))

theorem word_sub (i x : Fin 4096) (h : x.val ≤ i.val) : IntOp.subi (BitVec.ofNat 32 i.val) (BitVec.ofNat 32 x.val) = BitVec.ofNat 32 (i.val - x.val) := by
  show BitVec.ofNat 32 i.val - BitVec.ofNat 32 x.val = _
  apply BitVec.eq_of_toNat_eq
  simp only [BitVec.toNat_sub, BitVec.toNat_ofNat]
  omega

theorem word_neg (i x : Fin 4096) (h : ¬x.val ≤ i.val) : IntOp.cmpi .sge (IntOp.subi (BitVec.ofNat 32 i.val) (BitVec.ofNat 32 x.val)) 0#32 = 0#1 := by
  have hi := i.isLt
  have hx := x.isLt
  have : (IntOp.subi (BitVec.ofNat 32 i.val) (BitVec.ofNat 32 x.val)).toInt = (i.val : ℤ) - x.val := by
    show (BitVec.ofNat 32 i.val - BitVec.ofNat 32 x.val).toInt = _
    rw [BitVec.toInt_sub, WordArith.toInt_ofNat_small _ (by omega), WordArith.toInt_ofNat_small _ (by omega)]
    apply Int.bmod_eq_of_le <;> omega
  simp only [IntOp.cmpi, BitVec.sle, this]
  rw [decide_eq_false (by show ¬((0#32 : BitVec 32).toInt ≤ (i.val : ℤ) - x.val); rw [show (0#32 : BitVec 32).toInt = 0 from rfl]; omega)]
  rfl

theorem word_pos (n : ℕ) (h : n ≤ 4095) : IntOp.cmpi .sge (BitVec.ofNat 32 n) 0#32 = 1#1 ∧ IntOp.maxsi (BitVec.ofNat 32 n) 0#32 = BitVec.ofNat 32 n := by
  have : (BitVec.ofNat 32 n).toInt = n := WordArith.toInt_ofNat_small _ (by omega)
  constructor
  · simp only [IntOp.cmpi, BitVec.sle, this]
    rw [decide_eq_true (by show (0#32 : BitVec 32).toInt ≤ (n : ℤ); rw [show (0#32 : BitVec 32).toInt = 0 from rfl]; omega)]
    rfl
  · simp only [IntOp.maxsi, BitVec.sle, BitVec.slt, this]
    simp
    rintro rfl
    rfl

theorem v51_apply (b h : Fin 4) (c : Fin 2) (i x : Fin 4096) : (res_main_v51 V0 : FVec Ideal S4x4x2x4096x4096 .f32) (ix5 b h c i x) = S (qA V0) (kA V0) (tA V0) b h c i x := by
  unfold res_main_v51
  clean_types
  pointwise
  rw [v13_apply]
  unfold S score qA kA tA
  by_cases hx : x.val ≤ i.val
  · rw [if_pos hx, word_sub i x hx, (word_pos _ (by omega)).1, gather_sq (b := bk (i.val - x.val))]
    · rw [show ∀ a b : EReal, Scalar.select 1#1 a b = a from fun _ _ => rfl]
      rw [show Ideal.ofBits FTy.f32 1040187392#32 = _ from bits_eighth]
    · pointwise
      rw [v33_apply, v13_apply, word_sub i x hx, (word_pos _ (by omega)).2]
      exact bucketI_eq _ (by omega)
  · rw [if_neg hx, word_neg i x hx]
    exact bits_bot

/-! ## The softmax -/

theorem reduce_max (X : FVec Ideal S4x4x2x4096x4096 .f32) (b h : Fin 4) (c : Fin 2) (i : Fin 4096) :
    (Host.reduce FloatOps.maximumf X (constant S_ .f32 0xFF800000#32) reducesTo_S4x4x2x4096x4096_S4x4x2x4096_d4 h_S_ : FVec Ideal S4x4x2x4096 .f32) (ix4 b h c i)
      = Finset.univ.fold max (Ideal.ofBits .f32 0xFF800000#32) (fun y : Fin 4096 => (X (ix5 b h c i y) : EReal)) := by
  pointwise

theorem exp_sub (X : FVec Ideal S4x4x2x4096x4096 .f32) (M : FVec Ideal S4x4x2x4096 .f32) (b h : Fin 4) (c : Fin 2) (i x : Fin 4096) :
    (Host.exp (subf X (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (maximumf (broadcastInDim S4x4x2x4096 ![] bcast_S_S4x4x2x4096 (constant S_ .f32 0xFF800000#32)) M)))) : FVec Ideal S4x4x2x4096x4096 .f32) (ix5 b h c i x)
      = Ideal.exp (X (ix5 b h c i x) - max (Ideal.ofBits .f32 0xFF800000#32) (M (ix4 b h c i))) := by
  pointwise

theorem v58_apply (b h : Fin 4) (c : Fin 2) (i x : Fin 4096) : (res_main_v58 V0 : FVec Ideal S4x4x2x4096x4096 .f32) (ix5 b h c i x) = se (S (qA V0) (kA V0) (tA V0) b h c i) x := by
  unfold res_main_v58
  refine (exp_sub _ _ b h c i x).trans ?_
  rw [reduce_max, v51_apply, bits_bot, max_eq_right bot_le]
  unfold se sm
  congr 3
  funext y
  exact v51_apply V0 b h c i y

theorem v62_apply (b h : Fin 4) (c : Fin 2) (i x : Fin 4096) : (res_main_v62 V0 : FVec Ideal S4x4x2x4096x4096 .f32) (ix5 b h c i x) = sw (S (qA V0) (kA V0) (tA V0) b h c i) x := by
  unfold res_main_v62
  clean_types
  pointwise
  unfold sw
  simp only [v58_apply]

/-! ## The weighted sum -/

theorem mix (W : FVec Ideal S4x4x2x4096x4096 .f32) (v : FVec Ideal S4x4096x4x128 .f32) (l : FVec Ideal S_ .f32) (b h : Fin 4) (i : Fin 4096) (e : Fin 128) :
    (transpose S4x4096x4x128 [0, 3, 1, 2] (Host.dotGeneral dot_S4x4096x4x128_S4x4x4096x4096_S4x4x128x4096_1_3_3_2_02_01 none v (subf (shapeCast _ (extractStridedSlice S4x4x1x4096x4096 ![0, 0, 0, 0, 0] W slices_S4x4x2x4096x4096_S4x4x1x4096x4096_0_0_0_0_0) shapeCasts_S4x4x1x4096x4096_S4x4x4096x4096) (mulf (broadcastInDim S4x4x4096x4096 ![] bcast_S_S4x4x4096x4096 l) (shapeCast _ (extractStridedSlice S4x4x1x4096x4096 ![0, 0, 1, 0, 0] W slices_S4x4x2x4096x4096_S4x4x1x4096x4096_0_0_1_0_0) shapeCasts_S4x4x1x4096x4096_S4x4x4096x4096)))) transposes_S4x4x128x4096_S4x4096x4x128_0_3_1_2 : FVec Ideal S4x4096x4x128 .f32) (ix4 b i h e)
      = ∑ x : Fin 4096, (v (ix4 b x h e) : EReal) * (W (ix5 b h 0 i x) - l ix0 * W (ix5 b h 1 i x)) := by
  pointwise

theorem v71_apply (b h : Fin 4) (i : Fin 4096) (e : Fin 128) : (res_main_v71 V0 : FVec Ideal S4x4096x4x128 .f32) (ix4 b i h e)
    = mixed (qA V0) (kA V0) (vA V0) (tA V0) (lA V0) b h i e := by
  unfold res_main_v71
  refine (mix _ _ _ b h i e).trans ?_
  unfold mixed vA
  refine Finset.sum_congr rfl fun x _ => ?_
  rw [v62_apply, v62_apply]
  congr 3
  unfold lA lam
  clean_types
  pointwise

theorem norm_apply (Y : FVec Ideal S4x4096x4x128 .f32) (b : Fin 4) (i : Fin 4096) (l : Fin 512) :
    (truncf .bf16 (mulf (shapeCast _ (mulf Y (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf Y Y) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) shapeCasts_S4x4096x4x128_S4x4096x512) (broadcastInDim S4x4096x512 ![] bcast_S_S4x4096x512 (constant S_ .f32 0x3F4CCCCD#32))) bitsLt_bf16_f32 : FVec Ideal S4x4096x512 .bf16) (ix3 b i l)
      = nrm (Ideal.ofBits .f32 0x43000000#32) (Ideal.ofBits .f32 0x358637BD#32) (fun e => Y (ix4 b i ⟨l.val / 128, by omega⟩ e)) ⟨l.val % 128, by omega⟩ * Ideal.ofBits .f32 0x3F4CCCCD#32 := by
  unfold nrm
  pointwise

/-- The reference's result. -/
theorem result_apply (b : Fin 4) (i : Fin 4096) (y : Fin 512) :
    (truncf .bf16 (mulf (shapeCast _ (mulf (res_main_v71 V0) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (res_main_v71 V0) (res_main_v71 V0)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) shapeCasts_S4x4096x4x128_S4x4096x512) (broadcastInDim S4x4096x512 ![] bcast_S_S4x4096x512 (constant S_ .f32 0x3F4CCCCD#32))) bitsLt_bf16_f32 : FVec Ideal S4x4096x512 .bf16) (ix3 b i y)
      = out (qA V0) (kA V0) (vA V0) (tA V0) (lA V0) b i y := by
  refine (norm_apply _ b i y).trans ?_
  unfold out
  congr 2
  funext e
  exact v71_apply V0 b _ i e

end Cert.ReferenceIdeal.Read

end
end
-- ==== Proof.lean ====
module

public import proofs.«01_k».proof.Proof.Gen.Kernel2
public import proofs.«01_k».proof.Proof.Gen.Kernel2.Frame
public import proofs.«01_k».proof.Proof.Gen.Kernel3
public import proofs.«01_k».proof.Proof.Gen.Kernel4.Frame
public import proofs.«01_k».proof.Proof.Gen.Reference4Ideal.Run
public import proofs.«01_k».proof.Proof.Gen.Kernel4Ideal.Value
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Proj.InRef
public import proofs.«01_k».proof.Proof.Proj.Mem
public import proofs.«01_k».proof.Proof.Mix.Ref
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Diff.Run
public import proofs.«01_k».proof.Proof.Diff.Same
public import proofs.«01_k».proof.Proof.Value.Result
public import proofs.«01_k».proof.Proof.Value.Pre
public import proofs.«01_k».proof.Proof.Value.Ref
public import Idealize.ShloMosaic.Adequacy
public import Idealize.ShloMosaic.Init
public import Idealize.ShloMosaic.Lib.Quiescent

/-! The claims about the differential attention, the in-projection, the memory's keys and values, and the output projection with the cross attention, assembled. -/

@[expose] public section

noncomputable section

namespace Cert.Proof

open Idealize.ShloMosaic Idealize.SL.Sem

/-- The kernel's frame at machine floats. The two kernel programs have the same text, so the one run serves both. -/
theorem frame_kernel : Cert.quiescent_Kernel (hKernel := Cert.Kernel.Gen.facts) := fun m ρ _ =>
  Cert.KernelIdeal.Diff.run_transfer _ _ (Cert.KernelIdeal.Diff.run_frame Bits m ρ)

/-- The kernel's frame over the extended reals. -/
theorem frame_kernelIdeal : Cert.quiescent_KernelIdeal (hKernelIdeal := Cert.KernelIdeal.Gen.facts) := fun m ρ _ =>
  (θ_run Cert.KernelIdeal.defs _ _).mono (fun _ h => h) (Cert.KernelIdeal.Diff.run_frame Ideal m ρ)

/-- The reference's frame. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel's output is the reference's, on finite values and finite vectors of lambda. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  have hp := fun c => Cert.Pre_finite.fn_real _ _ _ _ _ _ _ _ (hpre c)
  have hl : ∀ c, ∃ l : ℝ, Cert.KernelIdeal.Value.lA m c = (l : EReal) := fun c =>
    Cert.Pre_finite.lam_real _ _ _ _ (hp c).2.1 (hp c).2.2.1 (hp c).2.2.2.1 (hp c).2.2.2.2
  choose l hl using hl
  have hV : ∀ c b x h e, ∃ r : ℝ, Cert.KernelIdeal.Value.vA m c b x h e = (r : EReal) := fun c b x h e => (hp c).1 b x h e
  choose Vr hV using hV
  refine ⟨fun c => Cert.KernelIdeal.Value.outArr m c, Cert.KernelIdeal.Value.run_value m g Vr hV l hl, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6, h7⟩ := hargs c
  have eq : Cert.ReferenceIdeal.Read.qA (StableHlo.launchContents m' c) = Cert.KernelIdeal.Value.qA m c := by
    funext b i h k e; exact congrFun h0 (ix5 b i h k e)
  have ek : Cert.ReferenceIdeal.Read.kA (StableHlo.launchContents m' c) = Cert.KernelIdeal.Value.kA m c := by
    funext b i h k e; exact congrFun h1 (ix5 b i h k e)
  have ev : Cert.ReferenceIdeal.Read.vA (StableHlo.launchContents m' c) = Cert.KernelIdeal.Value.vA m c := by
    funext b i h e; exact congrFun h2 (ix4 b i h e)
  have et : Cert.ReferenceIdeal.Read.tA (StableHlo.launchContents m' c) = Cert.KernelIdeal.Value.tA m c := by
    funext j h; exact congrFun h7 (ix2 j h)
  have el : Cert.ReferenceIdeal.Read.lA (StableHlo.launchContents m' c) = Cert.KernelIdeal.Value.lA m c := by
    unfold Cert.ReferenceIdeal.Read.lA Cert.KernelIdeal.Value.lA
    congr 1
    · funext e; exact congrFun h3 (ix1 e)
    · funext e; exact congrFun h4 (ix1 e)
    · funext e; exact congrFun h5 (ix1 e)
    · funext e; exact congrFun h6 (ix1 e)
  funext y
  have hy : (y : Cert.KernelIdeal.S4x4096x512.Idx) = ix3 (y 0) (y 1) (y 2) := by
    funext a
    match a with
    | ⟨0, _⟩ => rfl
    | ⟨1, _⟩ => rfl
    | ⟨2, _⟩ => rfl
  rw [hy]
  refine (Cert.ReferenceIdeal.Read.result_apply (StableHlo.launchContents m' c) (y 0) (y 1) (y 2)).trans ?_
  rw [eq, ek, ev, et, el]
  rfl

/-! ## The in-projection -/

theorem frame_kernel2 : Cert.quiescent_Kernel2 (hKernel2 := Cert.Kernel2.Gen.facts) := fun m ρ _ => Cert.Kernel2.Gen.frame m ρ
theorem frame_kernel2Ideal : Cert.quiescent_Kernel2Ideal (hKernel2Ideal := Cert.Kernel2Ideal.Gen.facts) := fun m ρ _ => Cert.Kernel2Ideal.Gen.frame m ρ
theorem frame_reference2Ideal : Cert.quiescent_Reference2Ideal (hReference2Ideal := Cert.Reference2Ideal.Gen.facts) := fun m ρ _ =>
  (θ_run Cert.Reference2Ideal.defs _ _).mono (fun r h => ⟨fun c => (h c).2.2.2.2.2.2.2.2.2, sem_eq_zero_of_no_sems rfl r.2⟩)
    (Cert.Reference2Ideal.Value.run (F := Ideal) m ρ)

/-- The call's nine arrays are the reference's. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => fun y => Cert.Kernel2Ideal.In.rotArr m c 0 (by norm_num) y * Ideal.ofBits .f32 0x3DB504F3#32,
    fun c => fun y => Cert.Kernel2Ideal.In.rotArr m c 512 (by norm_num) y,
    fun c => fun y => Cert.Kernel2Ideal.In.projArr m c 1024 (by norm_num) y,
    fun c => fun y => Cert.Kernel2Ideal.In.projArr m c 1536 (by norm_num) y,
    fun c => fun y => Cert.Kernel2Ideal.In.projArr m c 2048 (by norm_num) y * Ideal.ofBits .f32 0x3E000000#32,
    fun c => fun y => Cert.Kernel2Ideal.In.projArr m c 2560 (by norm_num) y,
    fun c => fun y => Cert.Kernel2Ideal.In.projArr m c 3072 (by norm_num) y,
    fun c => fun y => Cert.Kernel2Ideal.In.projArr m c 2560 (by norm_num) y,
    fun c => fun y => Cert.Kernel2Ideal.In.projArr m c 3072 (by norm_num) y, Cert.Kernel2Ideal.In.run_value m g, ?_⟩
  refine (θ_run Cert.Reference2Ideal.defs _ _).mono (fun r h c => ?_) (Cert.Reference2Ideal.Value.run (F := Ideal) m' g')
  obtain ⟨h0, h1, h2⟩ := hargs c
  have hX : ∀ b i k, (m' ((c.tc : Thread Cert.Reference2Ideal.nD Cert.Reference2Ideal.τ).loc Cert.Reference2Ideal.main_arg0) : FVec Ideal Cert.Reference2Ideal.S4x4096x1024 .f32) (ix3 b i k)
      = Cert.Kernel2Ideal.In.xA m c b i k := fun b i k => congrFun h0 (ix3 b i k)
  have hG : ∀ k, (m' ((c.tc : Thread Cert.Reference2Ideal.nD Cert.Reference2Ideal.τ).loc Cert.Reference2Ideal.main_arg1) : FVec Ideal Cert.Reference2Ideal.S1024 .f32) (ix1 k)
      = Cert.Kernel2Ideal.In.gA m c k := fun k => congrFun h1 (ix1 k)
  have hW : ∀ k e, (m' ((c.tc : Thread Cert.Reference2Ideal.nD Cert.Reference2Ideal.τ).loc Cert.Reference2Ideal.main_arg2) : FVec Ideal Cert.Reference2Ideal.S1024x3584 .f32) (ix2 k e)
      = Cert.Kernel2Ideal.In.wA m c k e := fun k e => congrFun h2 (ix2 k e)
  obtain ⟨r0, r1, r2, r3, r4, r5, r6, r7, r8, ra⟩ := h c
  exact ⟨r0.trans (Cert.Reference2Ideal.In.res82_eq m c _ _ _ hX hG hW), r1.trans (Cert.Reference2Ideal.In.res83_eq m c _ _ _ hX hG hW),
    r2.trans (Cert.Reference2Ideal.In.res1024_eq m c _ _ _ hX hG hW), r3.trans (Cert.Reference2Ideal.In.res1536_eq m c _ _ _ hX hG hW),
    r4.trans (Cert.Reference2Ideal.In.res86_eq m c _ _ _ hX hG hW), r5.trans (Cert.Reference2Ideal.In.res2560_eq m c _ _ _ hX hG hW),
    r6.trans (Cert.Reference2Ideal.In.res3072_eq m c _ _ _ hX hG hW), r7.trans (Cert.Reference2Ideal.In.res2560_eq m c _ _ _ hX hG hW),
    r8.trans (Cert.Reference2Ideal.In.res3072_eq m c _ _ _ hX hG hW), ra⟩

/-! ## The memory's keys and values -/

theorem frame_kernel3 : Cert.quiescent_Kernel3 (hKernel3 := Cert.Kernel3.Gen.facts) := fun m ρ _ => Cert.Kernel3.Gen.frame m ρ
theorem frame_kernel3Ideal : Cert.quiescent_Kernel3Ideal (hKernel3Ideal := Cert.Kernel3Ideal.Gen.facts) := fun m ρ _ => Cert.Kernel3Ideal.Gen.frame m ρ
theorem frame_reference3Ideal : Cert.quiescent_Reference3Ideal (hReference3Ideal := Cert.Reference3Ideal.Gen.facts) := fun m ρ _ =>
  (θ_run Cert.Reference3Ideal.defs _ _).mono (fun r h => ⟨fun c => (h c).2.2.2.2, sem_eq_zero_of_no_sems rfl r.2⟩)
    (Cert.Reference3Ideal.Value.run (F := Ideal) m ρ)

theorem mem_idx (y : Cert.Kernel3Ideal.S1024x1024.Idx) : y = ix2 ⟨(y 0).val / 256 * 256 + (y 0).val % 256, by have h : (y 0).val < 1024 := (y 0).isLt; omega⟩ (y 1) := by
  funext a
  match a with
  | ⟨0, _⟩ => exact Fin.ext (by show (y 0).val = (y 0).val / 256 * 256 + (y 0).val % 256; omega)
  | ⟨1, _⟩ => rfl

/-- The call's four arrays are the reference's. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => fun y => Cert.Kernel3Ideal.Mem.keyAt m c y, fun c => fun y => Cert.Kernel3Ideal.Mem.valAt m c y,
    fun c => fun y => Cert.Kernel3Ideal.Mem.keyAt m c y, fun c => fun y => Cert.Kernel3Ideal.Mem.valAt m c y, Cert.Kernel3Ideal.Mem.run_value m g, ?_⟩
  refine (θ_run Cert.Reference3Ideal.defs _ _).mono (fun r h c => ?_) (Cert.Reference3Ideal.Value.run (F := Ideal) m' g')
  obtain ⟨h0, h1, h2, h3⟩ := hargs c
  obtain ⟨r0, r1, r2, r3, ra⟩ := h c
  rw [h0, h1, h2] at r0 r2
  rw [h0, h1, h3] at r1 r3
  refine ⟨r0.trans ?_, r1.trans ?_, r2.trans ?_, r3.trans ?_, ra⟩ <;> funext y <;>
    refine (congrArg _ (mem_idx y)).trans (Cert.Reference3Ideal.Mem.prod_apply _ _ _ ⟨(y 0).val / 256, Nat.div_lt_of_lt_mul (y 0).isLt⟩
      ⟨(y 0).val % 256, Nat.mod_lt _ (by norm_num)⟩ (y 1))

theorem frame_kernel4 : Cert.quiescent_Kernel4 (hKernel4 := Cert.Kernel4.Gen.facts) := fun m ρ _ => Cert.Kernel4.Gen.frame m ρ
theorem frame_kernel4Ideal : Cert.quiescent_Kernel4Ideal (hKernel4Ideal := Cert.Kernel4Ideal.Gen.facts) := fun m ρ _ => Cert.Kernel4Ideal.Gen.frame m ρ
theorem frame_reference4Ideal : Cert.quiescent_Reference4Ideal (hReference4Ideal := Cert.Reference4Ideal.Gen.facts) := fun m ρ _ =>
  (θ_run Cert.Reference4Ideal.defs _ _).mono (fun r h => ⟨fun c => (h c).2.2, sem_eq_zero_of_no_sems rfl r.2⟩)
    (Cert.Reference4Ideal.Value.run (F := Ideal) m ρ)

/-- The call's two arrays are the reference's. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => fun y => Cert.Kernel4Ideal.Mix.hArr m c y, fun c => fun y => Cert.Kernel4Ideal.Mix.xtArr m c y, Cert.Kernel4Ideal.Mix.run_value m g, ?_⟩
  refine (θ_run Cert.Reference4Ideal.defs _ _).mono (fun r h c => ?_) (Cert.Reference4Ideal.Value.run (F := Ideal) m' g')
  obtain ⟨h0, h1, h2, h3, h4, h5, h6, h7, h8, h9⟩ := hargs c
  obtain ⟨r0, r1, ra⟩ := h c
  rw [Cert.Reference4Ideal.Mix.v50_eq, h0, h1, h2, h3, h4, h5, h6, h7, h8] at r0
  rw [Cert.Reference4Ideal.Mix.v53_eq, h0, h1, h2, h3, h4, h5, h6, h7, h8, h9] at r1
  refine ⟨r0.trans (funext fun y => ?_), r1.trans (funext fun y => ?_), ra⟩
  · exact Cert.Reference4Ideal.Mix.resH_apply _ _ _ _ _ _ _ _ _ y
  · exact Cert.Reference4Ideal.Mix.resX_apply _ _ _ _ _ _ _ _ _ _ y

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.facts,
    frame_kernel, frame_kernelIdeal, fun m ρ _ => frame_kernelIdeal m ρ trivial, frame_referenceIdeal, fun m ρ _ => frame_referenceIdeal m ρ trivial,
    frame_kernel2, frame_kernel2Ideal, frame_reference2Ideal, frame_kernel3, frame_kernel3Ideal, frame_reference3Ideal,
    frame_kernel4, frame_kernel4Ideal, frame_reference4Ideal,
    trivial, algebraic, trivial, algebraic2, trivial, algebraic3, trivial, algebraic4⟩

end Cert.Proof

end
